-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_counts [hPre_counts : Cert.Pre_counts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_counts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_counts [hPre_counts : Cert.Pre_counts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_counts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_counts [hKernel2Ideal : Cert.Kernel2Ideal.Facts] [hPre_counts : Cert.Pre_counts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_counts m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_counts [hReference2Ideal : Cert.Reference2Ideal.Facts] [hPre_counts : Cert.Pre_counts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_counts m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_counts [hKernel2Ideal : Cert.Kernel2Ideal.Facts] [hReference2Ideal : Cert.Reference2Ideal.Facts] [hPre_counts : Cert.Pre_counts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_counts m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v32_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v32_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v72) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v22)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v71) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_counts : Cert.Pre_counts.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_counts (hKernel2Ideal := hKernel2Ideal) (hPre_counts := hPre_counts)
    ∧ quiescent_Reference2Ideal (hReference2Ideal := hReference2Ideal)
    ∧ quiescent_Reference2Ideal_pre_counts (hReference2Ideal := hReference2Ideal) (hPre_counts := hPre_counts)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_counts (hKernel2Ideal := hKernel2Ideal) (hReference2Ideal := hReference2Ideal) (hPre_counts := hPre_counts)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_counts.lean ====
abbrev S32 : Shape := ⟨1, ![32]⟩
abbrev S81920x1024 : Shape := ⟨2, ![81920, 1024]⟩
abbrev S2x32x1024x256 : Shape := ⟨4, ![2, 32, 1024, 256]⟩
abbrev S2x32x256x1024 : Shape := ⟨4, ![2, 32, 256, 1024]⟩
abbrev S_ : Shape := ⟨0, ![]⟩

class Facts : Prop where
  bcast_S_S32 : S_.BroadcastsInDim S32 (![] : Fin 0 → Fin S32.rank)

variable [Facts]

def fn {F : FTy → Type} [FloatOps F] (main_arg0 : IVec S32 32) (main_arg1 : FVec F S81920x1024 .f32) (main_arg2 : FVec F S2x32x1024x256 .f32) (main_arg3 : FVec F S2x32x1024x256 .f32) (main_arg4 : FVec F S2x32x256x1024 .f32) : IVec S32 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 32768#32
  let main_v2 : IVec S32 32 := broadcastInDim S32 ![] bcast_S_S32 main_c_0
  let main_v3 : IVec S32 1 := cmpi .sle main_arg0 main_v2
  let main_v4 : IVec S32 1 := andi main_v1 main_v3
  main_v4
-- ==== Kernel.lean ====
abbrev S8x4096x1024 : Shape := ⟨3, ![8, 4096, 1024]⟩
abbrev S1024x6612 : Shape := ⟨2, ![1024, 6612]⟩
abbrev S16x256 : Shape := ⟨2, ![16, 256]⟩
abbrev S256 : Shape := ⟨1, ![256]⟩
abbrev S128 : Shape := ⟨1, ![128]⟩
abbrev S1024x512 : Shape := ⟨2, ![1024, 512]⟩
abbrev S1024x64 : Shape := ⟨2, ![1024, 64]⟩
abbrev S1024x256 : Shape := ⟨2, ![1024, 256]⟩
abbrev S1024x4 : Shape := ⟨2, ![1024, 4]⟩
abbrev S1024x16 : Shape := ⟨2, ![1024, 16]⟩
abbrev S1024x1024 : Shape := ⟨2, ![1024, 1024]⟩
abbrev S_ : Shape := ⟨0, ![]⟩
abbrev S1024x112 : Shape := ⟨2, ![1024, 112]⟩
abbrev S1024x1664 : Shape := ⟨2, ![1024, 1664]⟩
abbrev S112x256 : Shape := ⟨2, ![112, 256]⟩
abbrev S128x256 : Shape := ⟨2, ![128, 256]⟩
abbrev S32768x1024 : Shape := ⟨2, ![32768, 1024]⟩
abbrev S1x256 : Shape := ⟨2, ![1, 256]⟩
abbrev S1x128 : Shape := ⟨2, ![1, 128]⟩
abbrev S32768x512 : Shape := ⟨2, ![32768, 512]⟩
abbrev S512x1024 : Shape := ⟨2, ![512, 1024]⟩
abbrev S512x512 : Shape := ⟨2, ![512, 512]⟩
abbrev S512x1664 : Shape := ⟨2, ![512, 1664]⟩
abbrev S512x256 : Shape := ⟨2, ![512, 256]⟩
abbrev S4x128x64 : Shape := ⟨3, ![4, 128, 64]⟩
abbrev S512x128 : Shape := ⟨2, ![512, 128]⟩
abbrev S64x64 : Shape := ⟨2, ![64, 64]⟩
abbrev S1x1024 : Shape := ⟨2, ![1, 1024]⟩
abbrev S64x1 : Shape := ⟨2, ![64, 1]⟩
abbrev S64x1024 : Shape := ⟨2, ![64, 1024]⟩
abbrev S64x128 : Shape := ⟨2, ![64, 128]⟩
abbrev S64x256 : Shape := ⟨2, ![64, 256]⟩
abbrev S128x64 : Shape := ⟨2, ![128, 64]⟩
abbrev S1x128x64 : Shape := ⟨3, ![1, 128, 64]⟩
abbrev S1x64 : Shape := ⟨2, ![1, 64]⟩
abbrev S512 : Shape := ⟨1, ![512]⟩
abbrev S512x1 : Shape := ⟨2, ![512, 1]⟩

abbrev nBuf : Space → Nat
  | .hbm => 35
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1024x6612, .f32⟩
  | .hbm, ⟨2, _⟩ => ⟨S16x256, .f32⟩
  | .hbm, ⟨3, _⟩ => ⟨S256, .f32⟩
  | .hbm, ⟨4, _⟩ => ⟨S128, .f32⟩
  | .hbm, ⟨5, _⟩ => ⟨S1024x512, .f32⟩
  | .hbm, ⟨6, _⟩ => ⟨S1024x64, .f32⟩
  | .hbm, ⟨7, _⟩ => ⟨S1024x64, .f32⟩
  | .hbm, ⟨8, _⟩ => ⟨S1024x256, .f32⟩
  | .hbm, ⟨9, _⟩ => ⟨S1024x64, .f32⟩
  | .hbm, ⟨10, _⟩ => ⟨S1024x4, .f32⟩
  | .hbm, ⟨11, _⟩ => ⟨S1024x256, .f32⟩
  | .hbm, ⟨12, _⟩ => ⟨S1024x256, .f32⟩
  | .hbm, ⟨13, _⟩ => ⟨S1024x512, .f32⟩
  | .hbm, ⟨14, _⟩ => ⟨S1024x16, .f32⟩
  | .hbm, ⟨15, _⟩ => ⟨S1024x512, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x256, .f32⟩
  | .hbm, ⟨22, _⟩ => ⟨S1024x256, .f32⟩
  | .hbm, ⟨23, _⟩ => ⟨S_, .f32⟩
  | .hbm, ⟨24, _⟩ => ⟨S1024x112, .f32⟩
  | .hbm, ⟨25, _⟩ => ⟨S1024x1664, .f32⟩
  | .hbm, ⟨26, _⟩ => ⟨S1024x1664, .bf16⟩
  | .hbm, ⟨27, _⟩ => ⟨S_, .f32⟩
  | .hbm, ⟨28, _⟩ => ⟨S112x256, .f32⟩
  | .hbm, ⟨29, _⟩ => ⟨S128x256, .f32⟩
  | .hbm, ⟨30, _⟩ => ⟨S128x256, .bf16⟩
  | .hbm, ⟨31, _⟩ => ⟨S32768x1024, .f32⟩
  | .hbm, ⟨32, _⟩ => ⟨S1x256, .f32⟩
  | .hbm, ⟨33, _⟩ => ⟨S1x128, .f32⟩
  | .hbm, ⟨34, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1024x1664, .bf16⟩
  | .local _ .vmem, ⟨3, _⟩ => ⟨S128x256, .bf16⟩
  | .local _ .vmem, ⟨4, _⟩ => ⟨S1x256, .f32⟩
  | .local _ .vmem, ⟨5, _⟩ => ⟨S1x128, .f32⟩
  | .local _ .vmem, ⟨6, _⟩ => ⟨S512x512, .bf16⟩
  | .local _ .vmem, ⟨7, _⟩ => ⟨S512x512, .bf16⟩
  | .local _ .vmem, ⟨8, _⟩ => ⟨S512x1664, .f32⟩
  | .local _ .vmem, ⟨9, _⟩ => ⟨S512x256, .f32⟩
  | .local _ .vmem, ⟨10, _⟩ => ⟨S512x512, .f32⟩
  | .local _ .vmem, ⟨11, _⟩ => ⟨S4x128x64, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 8], ![false, false]⟩

def k0_mult1 : BitVec 32 :=
  let c8_i32 : BitVec 32 := 8#32
  let c0_i32_36 : BitVec 32 := 0#32
  let v116 : BitVec 32 := Scalar.muli c8_i32 c0_i32_36
  let c0_i32_37 : BitVec 32 := 0#32
  let v117 : BitVec 32 := Scalar.addi v116 c0_i32_37
  let c64_i32_38 : BitVec 32 := 64#32
  let v118 : BitVec 32 := Scalar.muli v117 c64_i32_38
  v118
def k0_off1 (c0_i32_37 : BitVec 32) : Fin 2 → Nat :=
  let c8_i32 : BitVec 32 := 8#32
  let c0_i32_36 : BitVec 32 := 0#32
  let v116 : BitVec 32 := Scalar.muli c8_i32 c0_i32_36
  let v117 : BitVec 32 := Scalar.addi v116 c0_i32_37
  let c64_i32_38 : BitVec 32 := 64#32
  let v118 : BitVec 32 := Scalar.muli v117 c64_i32_38
  let v119 : BitVec 32 := v118
  let v120 : Index := Scalar.indexCast v119
  let c0_39 : Index := 0#32
  ![v120.toNat, 0]
def k0_off2 (c0_i32_37 : BitVec 32) : Fin 2 → Nat :=
  let c8_i32 : BitVec 32 := 8#32
  let c0_i32_36 : BitVec 32 := 0#32
  let v116 : BitVec 32 := Scalar.muli c8_i32 c0_i32_36
  let v117 : BitVec 32 := Scalar.addi v116 c0_i32_37
  let c64_i32_38 : BitVec 32 := 64#32
  let v118 : BitVec 32 := Scalar.muli v117 c64_i32_38
  let v119 : BitVec 32 := v118
  let v179 : Index := Scalar.indexCast v119
  let c0_55 : Index := 0#32
  ![v179.toNat, 0]
def k0_off3 (c0_i32_37 : BitVec 32) : Fin 2 → Nat :=
  let c8_i32 : BitVec 32 := 8#32
  let c0_i32_36 : BitVec 32 := 0#32
  let v116 : BitVec 32 := Scalar.muli c8_i32 c0_i32_36
  let v117 : BitVec 32 := Scalar.addi v116 c0_i32_37
  let c64_i32_38 : BitVec 32 := 64#32
  let v118 : BitVec 32 := Scalar.muli v117 c64_i32_38
  let v119 : BitVec 32 := v118
  let v192 : Index := Scalar.indexCast v119
  let c256 : Index := 256#32
  ![v192.toNat, 256]
def k0_mult2 : BitVec 32 :=
  let c8_i32_60 : BitVec 32 := 8#32
  let c0_i32_36 : BitVec 32 := 0#32
  let v211 : BitVec 32 := Scalar.muli c8_i32_60 c0_i32_36
  let c1_i32_61 : BitVec 32 := 1#32
  let v212 : BitVec 32 := Scalar.addi v211 c1_i32_61
  let c64_i32_62 : BitVec 32 := 64#32
  let v213 : BitVec 32 := Scalar.muli v212 c64_i32_62
  v213
def k0_mult3 : BitVec 32 :=
  let c8_i32_87 : BitVec 32 := 8#32
  let c0_i32_36 : BitVec 32 := 0#32
  let v306 : BitVec 32 := Scalar.muli c8_i32_87 c0_i32_36
  let c2_i32_88 : BitVec 32 := 2#32
  let v307 : BitVec 32 := Scalar.addi v306 c2_i32_88
  let c64_i32_89 : BitVec 32 := 64#32
  let v308 : BitVec 32 := Scalar.muli v307 c64_i32_89
  v308
def k0_mult4 : BitVec 32 :=
  let c8_i32_114 : BitVec 32 := 8#32
  let c0_i32_36 : BitVec 32 := 0#32
  let v401 : BitVec 32 := Scalar.muli c8_i32_114 c0_i32_36
  let c3_i32_115 : BitVec 32 := 3#32
  let v402 : BitVec 32 := Scalar.addi v401 c3_i32_115
  let c64_i32_116 : BitVec 32 := 64#32
  let v403 : BitVec 32 := Scalar.muli v402 c64_i32_116
  v403
def k0_mult5 : BitVec 32 :=
  let c8_i32_141 : BitVec 32 := 8#32
  let c0_i32_36 : BitVec 32 := 0#32
  let v496 : BitVec 32 := Scalar.muli c8_i32_141 c0_i32_36
  let c4_i32_142 : BitVec 32 := 4#32
  let v497 : BitVec 32 := Scalar.addi v496 c4_i32_142
  let c64_i32_143 : BitVec 32 := 64#32
  let v498 : BitVec 32 := Scalar.muli v497 c64_i32_143
  v498
def k0_mult6 : BitVec 32 :=
  let c8_i32_168 : BitVec 32 := 8#32
  let c0_i32_36 : BitVec 32 := 0#32
  let v591 : BitVec 32 := Scalar.muli c8_i32_168 c0_i32_36
  let c5_i32 : BitVec 32 := 5#32
  let v592 : BitVec 32 := Scalar.addi v591 c5_i32
  let c64_i32_169 : BitVec 32 := 64#32
  let v593 : BitVec 32 := Scalar.muli v592 c64_i32_169
  v593
def k0_mult7 : BitVec 32 :=
  let c8_i32_194 : BitVec 32 := 8#32
  let c0_i32_36 : BitVec 32 := 0#32
  let v686 : BitVec 32 := Scalar.muli c8_i32_194 c0_i32_36
  let c6_i32 : BitVec 32 := 6#32
  let v687 : BitVec 32 := Scalar.addi v686 c6_i32
  let c64_i32_195 : BitVec 32 := 64#32
  let v688 : BitVec 32 := Scalar.muli v687 c64_i32_195
  v688
def k0_mult8 : BitVec 32 :=
  let c8_i32_220 : BitVec 32 := 8#32
  let c0_i32_36 : BitVec 32 := 0#32
  let v781 : BitVec 32 := Scalar.muli c8_i32_220 c0_i32_36
  let c7_i32 : BitVec 32 := 7#32
  let v782 : BitVec 32 := Scalar.addi v781 c7_i32
  let c64_i32_221 : BitVec 32 := 64#32
  let v783 : BitVec 32 := Scalar.muli v782 c64_i32_221
  v783
def k0_off4 (c0_i32_37 : BitVec 32) : Fin 2 → Nat :=
  let c8_i32 : BitVec 32 := 8#32
  let c0_i32_36 : BitVec 32 := 0#32
  let v116 : BitVec 32 := Scalar.muli c8_i32 c0_i32_36
  let v117 : BitVec 32 := Scalar.addi v116 c0_i32_37
  let c64_i32_38 : BitVec 32 := 64#32
  let v118 : BitVec 32 := Scalar.muli v117 c64_i32_38
  let v119 : BitVec 32 := v118
  let v876 : Index := Scalar.indexCast v119
  let c512 : Index := 512#32
  ![v876.toNat, 512]
def k0_off5 (c0_i32_37 : BitVec 32) : Fin 2 → Nat :=
  let c8_i32 : BitVec 32 := 8#32
  let c0_i32_36 : BitVec 32 := 0#32
  let v116 : BitVec 32 := Scalar.muli c8_i32 c0_i32_36
  let v117 : BitVec 32 := Scalar.addi v116 c0_i32_37
  let c64_i32_38 : BitVec 32 := 64#32
  let v118 : BitVec 32 := Scalar.muli v117 c64_i32_38
  let v119 : BitVec 32 := v118
  let v888 : Index := Scalar.indexCast v119
  let c640 : Index := 640#32
  ![v888.toNat, 640]
def k0_off6 (c0_i32_37 : BitVec 32) : Fin 2 → Nat :=
  let c8_i32 : BitVec 32 := 8#32
  let c0_i32_36 : BitVec 32 := 0#32
  let v116 : BitVec 32 := Scalar.muli c8_i32 c0_i32_36
  let v117 : BitVec 32 := Scalar.addi v116 c0_i32_37
  let c64_i32_38 : BitVec 32 := 64#32
  let v118 : BitVec 32 := Scalar.muli v117 c64_i32_38
  let v119 : BitVec 32 := v118
  let v900 : Index := Scalar.indexCast v119
  let c768 : Index := 768#32
  ![v900.toNat, 768]
def k0_off7 (c0_i32_37 : BitVec 32) : Fin 2 → Nat :=
  let c8_i32 : BitVec 32 := 8#32
  let c0_i32_36 : BitVec 32 := 0#32
  let v116 : BitVec 32 := Scalar.muli c8_i32 c0_i32_36
  let v117 : BitVec 32 := Scalar.addi v116 c0_i32_37
  let c64_i32_38 : BitVec 32 := 64#32
  let v118 : BitVec 32 := Scalar.muli v117 c64_i32_38
  let v119 : BitVec 32 := v118
  let v912 : Index := Scalar.indexCast v119
  let c896 : Index := 896#32
  ![v912.toNat, 896]
def k0_off8 (c0_i32_37 : BitVec 32) : Fin 2 → Nat :=
  let c8_i32 : BitVec 32 := 8#32
  let c0_i32_36 : BitVec 32 := 0#32
  let v116 : BitVec 32 := Scalar.muli c8_i32 c0_i32_36
  let v117 : BitVec 32 := Scalar.addi v116 c0_i32_37
  let c64_i32_38 : BitVec 32 := 64#32
  let v118 : BitVec 32 := Scalar.muli v117 c64_i32_38
  let v119 : BitVec 32 := v118
  let v1267 : Index := Scalar.indexCast v119
  let c0_375 : Index := 0#32
  ![v1267.toNat, 0]
def k0_off9 (c0_i32_37 : BitVec 32) : Fin 2 → Nat :=
  let c8_i32 : BitVec 32 := 8#32
  let c0_i32_36 : BitVec 32 := 0#32
  let v116 : BitVec 32 := Scalar.muli c8_i32 c0_i32_36
  let v117 : BitVec 32 := Scalar.addi v116 c0_i32_37
  let c64_i32_38 : BitVec 32 := 64#32
  let v118 : BitVec 32 := Scalar.muli v117 c64_i32_38
  let v119 : BitVec 32 := v118
  let v1376 : Index := Scalar.indexCast v119
  let c128 : Index := 128#32
  ![v1376.toNat, 128]
def k0_off10 (c0_i32_37 : BitVec 32) : Fin 2 → Nat :=
  let c8_i32 : BitVec 32 := 8#32
  let c0_i32_36 : BitVec 32 := 0#32
  let v116 : BitVec 32 := Scalar.muli c8_i32 c0_i32_36
  let v117 : BitVec 32 := Scalar.addi v116 c0_i32_37
  let c64_i32_38 : BitVec 32 := 64#32
  let v118 : BitVec 32 := Scalar.muli v117 c64_i32_38
  let v119 : BitVec 32 := v118
  let v1485 : Index := Scalar.indexCast v119
  let c256_432 : Index := 256#32
  ![v1485.toNat, 256]
def k0_off11 (c0_i32_37 : BitVec 32) : Fin 2 → Nat :=
  let c8_i32 : BitVec 32 := 8#32
  let c0_i32_36 : BitVec 32 := 0#32
  let v116 : BitVec 32 := Scalar.muli c8_i32 c0_i32_36
  let v117 : BitVec 32 := Scalar.addi v116 c0_i32_37
  let c64_i32_38 : BitVec 32 := 64#32
  let v118 : BitVec 32 := Scalar.muli v117 c64_i32_38
  let v119 : BitVec 32 := v118
  let v1594 : Index := Scalar.indexCast v119
  let c384 : Index := 384#32
  ![v1594.toNat, 384]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x4096x1024 : Shape := ⟨3, ![8, 4096, 1024]⟩
abbrev S1024x6612 : Shape := ⟨2, ![1024, 6612]⟩
abbrev S16x256 : Shape := ⟨2, ![16, 256]⟩
abbrev S256 : Shape := ⟨1, ![256]⟩
abbrev S128 : Shape := ⟨1, ![128]⟩
abbrev S8x4096x6612 : Shape := ⟨3, ![8, 4096, 6612]⟩
abbrev S8x4096x512 : Shape := ⟨3, ![8, 4096, 512]⟩
abbrev S8x4096x64 : Shape := ⟨3, ![8, 4096, 64]⟩
abbrev S8x4096x256 : Shape := ⟨3, ![8, 4096, 256]⟩
abbrev S8x4096x4 : Shape := ⟨3, ![8, 4096, 4]⟩
abbrev S8x4096x16 : Shape := ⟨3, ![8, 4096, 16]⟩
abbrev S1x1x256 : Shape := ⟨3, ![1, 1, 256]⟩
abbrev S_ : Shape := ⟨0, ![]⟩
abbrev S8x4096x4x64 : Shape := ⟨4, ![8, 4096, 4, 64]⟩
abbrev S8x4096x4x128 : Shape := ⟨4, ![8, 4096, 4, 128]⟩
abbrev S64x64 : Shape := ⟨2, ![64, 64]⟩
abbrev S8x4x64x128 : Shape := ⟨4, ![8, 4, 64, 128]⟩
abbrev S8x64x64x4x64 : Shape := ⟨5, ![8, 64, 64, 4, 64]⟩
abbrev S64x8x4x64x64 : Shape := ⟨5, ![64, 8, 4, 64, 64]⟩
abbrev S8x64x64x4x128 : Shape := ⟨5, ![8, 64, 64, 4, 128]⟩
abbrev S64x8x4x64x128 : Shape := ⟨5, ![64, 8, 4, 64, 128]⟩
abbrev S1x8x4x64x64 : Shape := ⟨5, ![1, 8, 4, 64, 64]⟩
abbrev S8x4x64x64 : Shape := ⟨4, ![8, 4, 64, 64]⟩
abbrev S1x8x4x64x128 : Shape := ⟨5, ![1, 8, 4, 64, 128]⟩
abbrev S8x4x64x1x64 : Shape := ⟨5, ![8, 4, 64, 1, 64]⟩
abbrev S8x4x1x64x64 : Shape := ⟨5, ![8, 4, 1, 64, 64]⟩
abbrev S8x4x64x64x64 : Shape := ⟨5, ![8, 4, 64, 64, 64]⟩
abbrev S64x64x1 : Shape := ⟨3, ![64, 64, 1]⟩
abbrev S8x4x1x64 : Shape := ⟨4, ![8, 4, 1, 64]⟩
abbrev S8x4x64 : Shape := ⟨3, ![8, 4, 64]⟩
abbrev S8x4x64x1 : Shape := ⟨4, ![8, 4, 64, 1]⟩
abbrev S8x4096x4x1 : Shape := ⟨4, ![8, 4096, 4, 1]⟩
abbrev S1x1x1x128 : Shape := ⟨4, ![1, 1, 1, 128]⟩
abbrev S32768x512 : Shape := ⟨2, ![32768, 512]⟩

abbrev nBuf : Space → Nat
  | .hbm => 199
  | .vmem => 0
  | .smem => 0
  | _ => 0

abbrev hbmTy0_0 (i : Nat) : BufTy := match i % 128 with
  | 0 => ⟨S8x4096x1024, .f32⟩
  | 1 => ⟨S1024x6612, .f32⟩
  | 2 => ⟨S16x256, .f32⟩
  | 3 => ⟨S256, .f32⟩
  | 4 => ⟨S128, .f32⟩
  | 5 => ⟨S8x4096x6612, .f32⟩
  | 6 => ⟨S8x4096x512, .f32⟩
  | 7 => ⟨S8x4096x64, .f32⟩
  | 8 => ⟨S8x4096x64, .f32⟩
  | 9 => ⟨S8x4096x256, .f32⟩
  | 10 => ⟨S8x4096x64, .f32⟩
  | 11 => ⟨S8x4096x4, .f32⟩
  | 12 => ⟨S8x4096x256, .f32⟩
  | 13 => ⟨S8x4096x256, .f32⟩
  | 14 => ⟨S8x4096x512, .f32⟩
  | 15 => ⟨S8x4096x16, .f32⟩
  | 16 => ⟨S8x4096x512, .f32⟩
  | 17 => ⟨S8x4096x1024, .f32⟩
  | 18 => ⟨S8x4096x1024, .f32⟩
  | 19 => ⟨S8x4096x1024, .f32⟩
  | 20 => ⟨S8x4096x1024, .f32⟩
  | 21 => ⟨S8x4096x256, .f32⟩
  | 22 => ⟨S1x1x256, .f32⟩
  | 23 => ⟨S8x4096x256, .f32⟩
  | 24 => ⟨S8x4096x256, .f32⟩
  | 25 => ⟨S8x4096x256, .f32⟩
  | 26 => ⟨S_, .f32⟩
  | 27 => ⟨S8x4096x256, .f32⟩
  | 28 => ⟨S8x4096x256, .f32⟩
  | 29 => ⟨S8x4096x256, .f32⟩
  | 30 => ⟨S8x4096x256, .f32⟩
  | 31 => ⟨S8x4096x256, .i1⟩
  | 32 => ⟨S8x4096x256, .f32⟩
  | 33 => ⟨S8x4096x256, .f32⟩
  | 34 => ⟨S8x4096x256, .f32⟩
  | 35 => ⟨S8x4096x256, .f32⟩
  | 36 => ⟨S8x4096x256, .f32⟩
  | 37 => ⟨S8x4096x256, .f32⟩
  | 38 => ⟨S8x4096x256, .f32⟩
  | 39 => ⟨S8x4096x256, .f32⟩
  | 40 => ⟨S8x4096x256, .f32⟩
  | 41 => ⟨S_, .f32⟩
  | 42 => ⟨S8x4096x256, .f32⟩
  | 43 => ⟨S8x4096x256, .f32⟩
  | 44 => ⟨S8x4096x4x64, .f32⟩
  | 45 => ⟨S_, .f32⟩
  | 46 => ⟨S8x4096x4x64, .f32⟩
  | 47 => ⟨S8x4096x4x64, .f32⟩
  | 48 => ⟨S8x4096x4x64, .f32⟩
  | 49 => ⟨S8x4096x4x128, .f32⟩
  | 50 => ⟨S8x4096x4x64, .f32⟩
  | 51 => ⟨S_, .i1⟩
  | 52 => ⟨S64x64, .i1⟩
  | 53 => ⟨S64x64, .i32⟩
  | 54 => ⟨S_, .i32⟩
  | 55 => ⟨S64x64, .i32⟩
  | 56 => ⟨S64x64, .i32⟩
  | 57 => ⟨S64x64, .i32⟩
  | 58 => ⟨S64x64, .i1⟩
  | 59 => ⟨S_, .i1⟩
  | 60 => ⟨S64x64, .i1⟩
  | 61 => ⟨S64x64, .i1⟩
  | 62 => ⟨S_, .f32⟩
  | 63 => ⟨S8x4x64x128, .f32⟩
  | 64 => ⟨S8x64x64x4x64, .f32⟩
  | 65 => ⟨S64x8x4x64x64, .f32⟩
  | 66 => ⟨S8x64x64x4x64, .f32⟩
  | 67 => ⟨S64x8x4x64x64, .f32⟩
  | 68 => ⟨S8x64x64x4x128, .f32⟩
  | 69 => ⟨S64x8x4x64x128, .f32⟩
  | 70 => ⟨S8x64x64x4x64, .f32⟩
  | 71 => ⟨S64x8x4x64x64, .f32⟩
  | 72 => ⟨S_, .f32⟩
  | 73 => ⟨S64x8x4x64x128, .f32⟩
  | 74 => ⟨S_, .i32⟩
  | 75 => ⟨S64x8x4x64x64, .f32⟩
  | 76 => ⟨S64x8x4x64x64, .f32⟩
  | 77 => ⟨S64x8x4x64x128, .f32⟩
  | 78 => ⟨S64x8x4x64x64, .f32⟩
  | 79 => ⟨S64x64, .i1⟩
  | 80 => ⟨S_, .i32⟩
  | 81 => ⟨S8x4x64x128, .f32⟩
  | 82 => ⟨S64x8x4x64x128, .f32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S1x8x4x64x64, .f32⟩
  | 90 => ⟨S8x4x64x64, .f32⟩
  | 91 => ⟨S_, .i32⟩
  | 92 => ⟨S_, .i32⟩
  | 93 => ⟨S_, .i32⟩
  | 94 => ⟨S_, .i32⟩
  | 95 => ⟨S1x8x4x64x64, .f32⟩
  | 96 => ⟨S8x4x64x64, .f32⟩
  | 97 => ⟨S_, .i32⟩
  | 98 => ⟨S_, .i32⟩
  | 99 => ⟨S_, .i32⟩
  | 100 => ⟨S_, .i32⟩
  | 101 => ⟨S1x8x4x64x128, .f32⟩
  | 102 => ⟨S8x4x64x128, .f32⟩
  | 103 => ⟨S_, .i32⟩
  | 104 => ⟨S_, .i32⟩
  | 105 => ⟨S_, .i32⟩
  | 106 => ⟨S_, .i32⟩
  | 107 => ⟨S1x8x4x64x64, .f32⟩
  | 108 => ⟨S8x4x64x64, .f32⟩
  | 109 => ⟨S_, .f32⟩
  | 110 => ⟨S_, .f32⟩
  | 111 => ⟨S8x4x64x64, .f32⟩
  | 112 => ⟨S8x4x64x1x64, .f32⟩
  | 113 => ⟨S8x4x1x64x64, .f32⟩
  | 114 => ⟨S8x4x64x64x64, .f32⟩
  | 115 => ⟨S8x4x64x64x64, .f32⟩
  | 116 => ⟨S8x4x64x64x64, .f32⟩
  | 117 => ⟨S64x64x1, .i1⟩
  | 118 => ⟨S_, .f32⟩
  | 119 => ⟨S8x4x64x64x64, .i1⟩
  | 120 => ⟨S8x4x64x64x64, .f32⟩
  | 121 => ⟨S8x4x64x64x64, .f32⟩
  | 122 => ⟨S8x4x64x64x64, .f32⟩
  | 123 => ⟨S8x4x1x64x64, .f32⟩
  | 124 => ⟨S8x4x64x64x64, .f32⟩
  | 125 => ⟨S8x4x64x64x64, .f32⟩
  | 126 => ⟨S8x4x64x64, .f32⟩
  | 127 => ⟨S8x4x64x128, .f32⟩
  | _ => ⟨S8x4096x1024, .f32⟩

abbrev hbmTy0_1 (i : Nat) : BufTy := match i % 128 with
  | 0 => ⟨S8x4x64x64, .f32⟩
  | 1 => ⟨S8x4x64x64, .f32⟩
  | 2 => ⟨S8x4x64x128, .f32⟩
  | 3 => ⟨S8x4x64x128, .f32⟩
  | 4 => ⟨S8x4x1x64, .f32⟩
  | 5 => ⟨S8x4x64, .f32⟩
  | 6 => ⟨S8x4x64, .f32⟩
  | 7 => ⟨S8x4x64x1, .f32⟩
  | 8 => ⟨S8x4x64x128, .f32⟩
  | 9 => ⟨S8x4x64x128, .f32⟩
  | 10 => ⟨S8x4x64x64, .f32⟩
  | 11 => ⟨S8x4x64x64, .f32⟩
  | 12 => ⟨S8x4x64x64, .f32⟩
  | 13 => ⟨S8x4x64x64, .f32⟩
  | 14 => ⟨S8x4x64x128, .f32⟩
  | 15 => ⟨S8x4x64x128, .f32⟩
  | 16 => ⟨S1x8x4x64x128, .f32⟩
  | 17 => ⟨S_, .i32⟩
  | 18 => ⟨S_, .i32⟩
  | 19 => ⟨S_, .i32⟩
  | 20 => ⟨S_, .i32⟩
  | 21 => ⟨S64x8x4x64x128, .f32⟩
  | 22 => ⟨S_, .i32⟩
  | 23 => ⟨S_, .i32⟩
  | 24 => ⟨S8x64x64x4x128, .f32⟩
  | 25 => ⟨S8x4096x4x128, .f32⟩
  | 26 => ⟨S8x4096x6612, .f32⟩
  | 27 => ⟨S8x4096x512, .f32⟩
  | 28 => ⟨S8x4096x64, .f32⟩
  | 29 => ⟨S8x4096x64, .f32⟩
  | 30 => ⟨S8x4096x256, .f32⟩
  | 31 => ⟨S8x4096x64, .f32⟩
  | 32 => ⟨S8x4096x4, .f32⟩
  | 33 => ⟨S8x4096x256, .f32⟩
  | 34 => ⟨S8x4096x256, .f32⟩
  | 35 => ⟨S8x4096x512, .f32⟩
  | 36 => ⟨S8x4096x16, .f32⟩
  | 37 => ⟨S8x4096x512, .f32⟩
  | 38 => ⟨S8x4096x1024, .f32⟩
  | 39 => ⟨S8x4096x1024, .f32⟩
  | 40 => ⟨S8x4096x1024, .f32⟩
  | 41 => ⟨S8x4096x1024, .f32⟩
  | 42 => ⟨S8x4096x512, .f32⟩
  | 43 => ⟨S8x4096x512, .f32⟩
  | 44 => ⟨S_, .f32⟩
  | 45 => ⟨S8x4096x512, .f32⟩
  | 46 => ⟨S8x4096x512, .f32⟩
  | 47 => ⟨S_, .f32⟩
  | 48 => ⟨S8x4096x512, .f32⟩
  | 49 => ⟨S8x4096x512, .f32⟩
  | 50 => ⟨S8x4096x512, .f32⟩
  | 51 => ⟨S8x4096x4x128, .f32⟩
  | 52 => ⟨S_, .f32⟩
  | 53 => ⟨S8x4096x4, .f32⟩
  | 54 => ⟨S8x4096x4x1, .f32⟩
  | 55 => ⟨S_, .f32⟩
  | 56 => ⟨S8x4096x4x1, .f32⟩
  | 57 => ⟨S8x4096x4x1, .f32⟩
  | 58 => ⟨S_, .f32⟩
  | 59 => ⟨S8x4096x4x1, .f32⟩
  | 60 => ⟨S8x4096x4x1, .f32⟩
  | 61 => ⟨S8x4096x4x1, .f32⟩
  | 62 => ⟨S8x4096x4x128, .f32⟩
  | 63 => ⟨S8x4096x4x128, .f32⟩
  | 64 => ⟨S1x1x1x128, .f32⟩
  | 65 => ⟨S8x4096x4x128, .f32⟩
  | 66 => ⟨S8x4096x4x128, .f32⟩
  | 67 => ⟨S8x4096x512, .f32⟩
  | 68 => ⟨S8x4096x512, .f32⟩
  | 69 => ⟨S32768x512, .f32⟩
  | 70 => ⟨S32768x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_v21 : Ref sig .tc := ⟨.hbm, 39, rfl⟩
abbrev main_v22 : Ref sig .tc := ⟨.hbm, 40, rfl⟩
abbrev main_cst : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c : Ref sig .tc := ⟨.hbm, 51, rfl⟩
abbrev main_v31 : Ref sig .tc := ⟨.hbm, 52, rfl⟩
abbrev main_call1_v0 : Ref sig .tc := ⟨.hbm, 53, rfl⟩
abbrev main_call1_c : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_c_0 : Ref sig .tc := ⟨.hbm, 59, rfl⟩
abbrev main_call1_v5 : Ref sig .tc := ⟨.hbm, 60, rfl⟩
abbrev main_v32 : Ref sig .tc := ⟨.hbm, 61, rfl⟩
abbrev main_cst_1 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_2 : Ref sig .tc := ⟨.hbm, 72, rfl⟩
abbrev main_v42 : Ref sig .tc := ⟨.hbm, 73, rfl⟩
abbrev main_c_3 : Ref sig .tc := ⟨.hbm, 74, rfl⟩
abbrev main_v43_0 : Ref sig .tc := ⟨.hbm, 75, rfl⟩
abbrev main_v43_1 : Ref sig .tc := ⟨.hbm, 76, rfl⟩
abbrev main_v43_2 : Ref sig .tc := ⟨.hbm, 77, rfl⟩
abbrev main_v43_3 : Ref sig .tc := ⟨.hbm, 78, rfl⟩
abbrev main_v43_4 : Ref sig .tc := ⟨.hbm, 79, rfl⟩
abbrev main_v43_5 : Ref sig .tc := ⟨.hbm, 80, rfl⟩
abbrev main_v43_6 : Ref sig .tc := ⟨.hbm, 81, rfl⟩
abbrev main_v43_7 : Ref sig .tc := ⟨.hbm, 82, rfl⟩
abbrev main_while0c_c_14 : Ref sig .tc := ⟨.hbm, 83, rfl⟩
abbrev main_while0c_v80 : Ref sig .tc := ⟨.hbm, 84, rfl⟩
abbrev main_while0b_call2_c : Ref sig .tc := ⟨.hbm, 85, rfl⟩
abbrev main_while0b_call2_c_0 : Ref sig .tc := ⟨.hbm, 86, rfl⟩
abbrev main_while0b_call2_c_1 : Ref sig .tc := ⟨.hbm, 87, rfl⟩
abbrev main_while0b_call2_c_2 : Ref sig .tc := ⟨.hbm, 88, rfl⟩
abbrev main_while0b_call2_v0 : Ref sig .tc := ⟨.hbm, 89, rfl⟩
abbrev main_while0b_v80 : Ref sig .tc := ⟨.hbm, 90, rfl⟩
abbrev main_while0b_call3_c : Ref sig .tc := ⟨.hbm, 91, rfl⟩
abbrev main_while0b_call3_c_0 : Ref sig .tc := ⟨.hbm, 92, rfl⟩
abbrev main_while0b_call3_c_1 : Ref sig .tc := ⟨.hbm, 93, rfl⟩
abbrev main_while0b_call3_c_2 : Ref sig .tc := ⟨.hbm, 94, rfl⟩
abbrev main_while0b_call3_v0 : Ref sig .tc := ⟨.hbm, 95, rfl⟩
abbrev main_while0b_v81 : Ref sig .tc := ⟨.hbm, 96, rfl⟩
abbrev main_while0b_call4_c : Ref sig .tc := ⟨.hbm, 97, rfl⟩
abbrev main_while0b_call4_c_0 : Ref sig .tc := ⟨.hbm, 98, rfl⟩
abbrev main_while0b_call4_c_1 : Ref sig .tc := ⟨.hbm, 99, rfl⟩
abbrev main_while0b_call4_c_2 : Ref sig .tc := ⟨.hbm, 100, rfl⟩
abbrev main_while0b_call4_v0 : Ref sig .tc := ⟨.hbm, 101, rfl⟩
abbrev main_while0b_v82 : Ref sig .tc := ⟨.hbm, 102, rfl⟩
abbrev main_while0b_call5_c : Ref sig .tc := ⟨.hbm, 103, rfl⟩
abbrev main_while0b_call5_c_0 : Ref sig .tc := ⟨.hbm, 104, rfl⟩
abbrev main_while0b_call5_c_1 : Ref sig .tc := ⟨.hbm, 105, rfl⟩
abbrev main_while0b_call5_c_2 : Ref sig .tc := ⟨.hbm, 106, rfl⟩
abbrev main_while0b_call5_v0 : Ref sig .tc := ⟨.hbm, 107, rfl⟩
abbrev main_while0b_v83 : Ref sig .tc := ⟨.hbm, 108, rfl⟩
abbrev main_while0b_call6_call0_cst : Ref sig .tc := ⟨.hbm, 109, rfl⟩
abbrev main_while0b_call6_call0_v0 : Ref sig .tc := ⟨.hbm, 110, rfl⟩
abbrev main_while0b_v84 : Ref sig .tc := ⟨.hbm, 111, rfl⟩
abbrev main_while0b_v85 : Ref sig .tc := ⟨.hbm, 112, rfl⟩
abbrev main_while0b_v86 : Ref sig .tc := ⟨.hbm, 113, rfl⟩
abbrev main_while0b_v87 : Ref sig .tc := ⟨.hbm, 114, rfl⟩
abbrev main_while0b_v88 : Ref sig .tc := ⟨.hbm, 115, rfl⟩
abbrev main_while0b_v89 : Ref sig .tc := ⟨.hbm, 116, rfl⟩
abbrev main_while0b_v90 : Ref sig .tc := ⟨.hbm, 117, rfl⟩
abbrev main_while0b_cst_14 : Ref sig .tc := ⟨.hbm, 118, rfl⟩
abbrev main_while0b_call7_v0 : Ref sig .tc := ⟨.hbm, 119, rfl⟩
abbrev main_while0b_call7_v1 : Ref sig .tc := ⟨.hbm, 120, rfl⟩
abbrev main_while0b_v91 : Ref sig .tc := ⟨.hbm, 121, rfl⟩
abbrev main_while0b_v92 : Ref sig .tc := ⟨.hbm, 122, rfl⟩
abbrev main_while0b_v93 : Ref sig .tc := ⟨.hbm, 123, rfl⟩
abbrev main_while0b_v94 : Ref sig .tc := ⟨.hbm, 124, rfl⟩
abbrev main_while0b_v95 : Ref sig .tc := ⟨.hbm, 125, rfl⟩
abbrev main_while0b_v96 : Ref sig .tc := ⟨.hbm, 126, rfl⟩
abbrev main_while0b_v97 : Ref sig .tc := ⟨.hbm, 127, rfl⟩
abbrev main_while0b_v98 : Ref sig .tc := ⟨.hbm, 128, rfl⟩
abbrev main_while0b_v99 : Ref sig .tc := ⟨.hbm, 129, rfl⟩
abbrev main_while0b_v100 : Ref sig .tc := ⟨.hbm, 130, rfl⟩
abbrev main_while0b_v101 : Ref sig .tc := ⟨.hbm, 131, rfl⟩
abbrev main_while0b_v102 : Ref sig .tc := ⟨.hbm, 132, rfl⟩
abbrev main_while0b_v103 : Ref sig .tc := ⟨.hbm, 133, rfl⟩
abbrev main_while0b_v104 : Ref sig .tc := ⟨.hbm, 134, rfl⟩
abbrev main_while0b_v105 : Ref sig .tc := ⟨.hbm, 135, rfl⟩
abbrev main_while0b_v106 : Ref sig .tc := ⟨.hbm, 136, rfl⟩
abbrev main_while0b_v107 : Ref sig .tc := ⟨.hbm, 137, rfl⟩
abbrev main_while0b_v108 : Ref sig .tc := ⟨.hbm, 138, rfl⟩
abbrev main_while0b_v109 : Ref sig .tc := ⟨.hbm, 139, rfl⟩
abbrev main_while0b_v110 : Ref sig .tc := ⟨.hbm, 140, rfl⟩
abbrev main_while0b_v111 : Ref sig .tc := ⟨.hbm, 141, rfl⟩
abbrev main_while0b_v112 : Ref sig .tc := ⟨.hbm, 142, rfl⟩
abbrev main_while0b_v113 : Ref sig .tc := ⟨.hbm, 143, rfl⟩
abbrev main_while0b_call8_v0 : Ref sig .tc := ⟨.hbm, 144, rfl⟩
abbrev main_while0b_call8_c : Ref sig .tc := ⟨.hbm, 145, rfl⟩
abbrev main_while0b_call8_c_0 : Ref sig .tc := ⟨.hbm, 146, rfl⟩
abbrev main_while0b_call8_c_1 : Ref sig .tc := ⟨.hbm, 147, rfl⟩
abbrev main_while0b_call8_c_2 : Ref sig .tc := ⟨.hbm, 148, rfl⟩
abbrev main_while0b_v114 : Ref sig .tc := ⟨.hbm, 149, rfl⟩
abbrev main_while0b_c_15 : Ref sig .tc := ⟨.hbm, 150, rfl⟩
abbrev main_while0b_v115 : Ref sig .tc := ⟨.hbm, 151, rfl⟩
abbrev main_v44 : Ref sig .tc := ⟨.hbm, 152, rfl⟩
abbrev main_v45 : Ref sig .tc := ⟨.hbm, 153, rfl⟩
abbrev main_v46 : Ref sig .tc := ⟨.hbm, 154, rfl⟩
abbrev main_v47 : Ref sig .tc := ⟨.hbm, 155, rfl⟩
abbrev main_v48 : Ref sig .tc := ⟨.hbm, 156, rfl⟩
abbrev main_v49 : Ref sig .tc := ⟨.hbm, 157, rfl⟩
abbrev main_v50 : Ref sig .tc := ⟨.hbm, 158, rfl⟩
abbrev main_v51 : Ref sig .tc := ⟨.hbm, 159, rfl⟩
abbrev main_v52 : Ref sig .tc := ⟨.hbm, 160, rfl⟩
abbrev main_v53 : Ref sig .tc := ⟨.hbm, 161, rfl⟩
abbrev main_v54 : Ref sig .tc := ⟨.hbm, 162, rfl⟩
abbrev main_v55 : Ref sig .tc := ⟨.hbm, 163, rfl⟩
abbrev main_v56 : Ref sig .tc := ⟨.hbm, 164, rfl⟩
abbrev main_v57 : Ref sig .tc := ⟨.hbm, 165, rfl⟩
abbrev main_v58 : Ref sig .tc := ⟨.hbm, 166, rfl⟩
abbrev main_v59 : Ref sig .tc := ⟨.hbm, 167, rfl⟩
abbrev main_v60 : Ref sig .tc := ⟨.hbm, 168, rfl⟩
abbrev main_v61 : Ref sig .tc := ⟨.hbm, 169, rfl⟩
abbrev main_call9_v0 : Ref sig .tc := ⟨.hbm, 170, rfl⟩
abbrev main_call9_v1 : Ref sig .tc := ⟨.hbm, 171, rfl⟩
abbrev main_call9_cst : Ref sig .tc := ⟨.hbm, 172, rfl⟩
abbrev main_call9_v2 : Ref sig .tc := ⟨.hbm, 173, rfl⟩
abbrev main_call9_v3 : Ref sig .tc := ⟨.hbm, 174, rfl⟩
abbrev main_call9_cst_0 : Ref sig .tc := ⟨.hbm, 175, rfl⟩
abbrev main_call9_v4 : Ref sig .tc := ⟨.hbm, 176, rfl⟩
abbrev main_call9_v5 : Ref sig .tc := ⟨.hbm, 177, rfl⟩
abbrev main_v62 : Ref sig .tc := ⟨.hbm, 178, rfl⟩
abbrev main_v63 : Ref sig .tc := ⟨.hbm, 179, rfl⟩
abbrev main_cst_4 : Ref sig .tc := ⟨.hbm, 180, rfl⟩
abbrev main_v64 : Ref sig .tc := ⟨.hbm, 181, rfl⟩
abbrev main_v65 : Ref sig .tc := ⟨.hbm, 182, rfl⟩
abbrev main_cst_5 : Ref sig .tc := ⟨.hbm, 183, rfl⟩
abbrev main_v66 : Ref sig .tc := ⟨.hbm, 184, rfl⟩
abbrev main_v67 : Ref sig .tc := ⟨.hbm, 185, rfl⟩
abbrev main_cst_6 : Ref sig .tc := ⟨.hbm, 186, rfl⟩
abbrev main_v68 : Ref sig .tc := ⟨.hbm, 187, rfl⟩
abbrev main_v69 : Ref sig .tc := ⟨.hbm, 188, rfl⟩
abbrev main_v70 : Ref sig .tc := ⟨.hbm, 189, rfl⟩
abbrev main_v71 : Ref sig .tc := ⟨.hbm, 190, rfl⟩
abbrev main_v72 : Ref sig .tc := ⟨.hbm, 191, rfl⟩
abbrev main_v73 : Ref sig .tc := ⟨.hbm, 192, rfl⟩
abbrev main_v74 : Ref sig .tc := ⟨.hbm, 193, rfl⟩
abbrev main_v75 : Ref sig .tc := ⟨.hbm, 194, rfl⟩
abbrev main_v76 : Ref sig .tc := ⟨.hbm, 195, rfl⟩
abbrev main_v77 : Ref sig .tc := ⟨.hbm, 196, rfl⟩
abbrev main_v78 : Ref sig .tc := ⟨.hbm, 197, rfl⟩
abbrev main_v79 : Ref sig .tc := ⟨.hbm, 198, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S32 : Shape := ⟨1, ![32]⟩
abbrev S81920x1024 : Shape := ⟨2, ![81920, 1024]⟩
abbrev S2x32x1024x256 : Shape := ⟨4, ![2, 32, 1024, 256]⟩
abbrev S2x32x256x1024 : Shape := ⟨4, ![2, 32, 256, 1024]⟩
abbrev S_ : Shape := ⟨0, ![]⟩
abbrev S160 : Shape := ⟨1, ![160]⟩
abbrev S160x1 : Shape := ⟨2, ![160, 1]⟩
abbrev S1x32 : Shape := ⟨2, ![1, 32]⟩
abbrev S160x32 : Shape := ⟨2, ![160, 32]⟩
abbrev S1 : Shape := ⟨1, ![1]⟩
abbrev S512x1024 : Shape := ⟨2, ![512, 1024]⟩
abbrev S1x1x1024x256 : Shape := ⟨4, ![1, 1, 1024, 256]⟩
abbrev S1x1x256x1024 : Shape := ⟨4, ![1, 1, 256, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 65
  | .vmem => 10
  | .smem => 2
  | _ => 0

abbrev bufTy : (tb : Table) → Fin (tcTables nBuf tb) → BufTy
  | .hbm, ⟨0, _⟩ => ⟨S32, .i32⟩
  | .hbm, ⟨1, _⟩ => ⟨S81920x1024, .f32⟩
  | .hbm, ⟨2, _⟩ => ⟨S2x32x1024x256, .f32⟩
  | .hbm, ⟨3, _⟩ => ⟨S2x32x1024x256, .f32⟩
  | .hbm, ⟨4, _⟩ => ⟨S2x32x256x1024, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S160, .i32⟩
  | .hbm, ⟨36, _⟩ => ⟨S_, .i32⟩
  | .hbm, ⟨37, _⟩ => ⟨S160, .i32⟩
  | .hbm, ⟨38, _⟩ => ⟨S160, .i32⟩
  | .hbm, ⟨39, _⟩ => ⟨S160x1, .i32⟩
  | .hbm, ⟨40, _⟩ => ⟨S1x32, .i32⟩
  | .hbm, ⟨41, _⟩ => ⟨S160x32, .i32⟩
  | .hbm, ⟨42, _⟩ => ⟨S160x32, .i32⟩
  | .hbm, ⟨43, _⟩ => ⟨S160x32, .i1⟩
  | .hbm, ⟨44, _⟩ => ⟨S160x32, .i32⟩
  | .hbm, ⟨45, _⟩ => ⟨S_, .i32⟩
  | .hbm, ⟨46, _⟩ => ⟨S160, .i32⟩
  | .hbm, ⟨47, _⟩ => ⟨S_, .i32⟩
  | .hbm, ⟨48, _⟩ => ⟨S160, .i32⟩
  | .hbm, ⟨49, _⟩ => ⟨S1, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S_, .i1⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S81920x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S512x1024, .f32⟩
  | .local _ .vmem, ⟨9, _⟩ => ⟨S512x1024, .f32⟩
  | .local _ .smem, ⟨0, _⟩ => ⟨S160, .i32⟩
  | .local _ .smem, ⟨1, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v20 : Ref sig .tc := ⟨.hbm, 49, rfl⟩
abbrev main_v21 : Ref sig .tc := ⟨.hbm, 50, rfl⟩
abbrev main_c_6 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c : Ref sig .tc := ⟨.hbm, 58, rfl⟩
abbrev main_call2_v6 : Ref sig .tc := ⟨.hbm, 59, rfl⟩
abbrev main_call2_v7 : Ref sig .tc := ⟨.hbm, 60, rfl⟩
abbrev main_call2_c_0 : Ref sig .tc := ⟨.hbm, 61, rfl⟩
abbrev main_call2_v8 : Ref sig .tc := ⟨.hbm, 62, rfl⟩
abbrev main_v22 : Ref sig .tc := ⟨.hbm, 63, rfl⟩
abbrev main_v24 : Ref sig .tc := ⟨.hbm, 64, rfl⟩
abbrev main_v19 : Ref sig .tc := ⟨.smem, 0, rfl⟩
abbrev main_v23 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_v19.idx, main_v23.idx], fun | 0 => main_v19.names | 1 => main_v23.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S32 : Shape := ⟨1, ![32]⟩
abbrev S81920x1024 : Shape := ⟨2, ![81920, 1024]⟩
abbrev S2x32x1024x256 : Shape := ⟨4, ![2, 32, 1024, 256]⟩
abbrev S2x32x256x1024 : Shape := ⟨4, ![2, 32, 256, 1024]⟩
abbrev S_ : Shape := ⟨0, ![]⟩
abbrev S81920 : Shape := ⟨1, ![81920]⟩
abbrev S81920x1 : Shape := ⟨2, ![81920, 1]⟩
abbrev S1x32 : Shape := ⟨2, ![1, 32]⟩
abbrev S81920x32 : Shape := ⟨2, ![81920, 32]⟩
abbrev S1x32x1024x256 : Shape := ⟨4, ![1, 32, 1024, 256]⟩
abbrev S32x1024x256 : Shape := ⟨3, ![32, 1024, 256]⟩
abbrev S81920x32x256 : Shape := ⟨3, ![81920, 32, 256]⟩
abbrev S81920x32x1 : Shape := ⟨3, ![81920, 32, 1]⟩
abbrev S81920x8192 : Shape := ⟨2, ![81920, 8192]⟩
abbrev S1x32x256x1024 : Shape := ⟨4, ![1, 32, 256, 1024]⟩
abbrev S32x256x1024 : Shape := ⟨3, ![32, 256, 1024]⟩
abbrev S8192x1024 : Shape := ⟨2, ![8192, 1024]⟩

abbrev nBuf : Space → Nat
  | .hbm => 69
  | .vmem => 0
  | .smem => 0
  | _ => 0

abbrev bufTy : (tb : Table) → Fin (tcTables nBuf tb) → BufTy
  | .hbm, ⟨0, _⟩ => ⟨S32, .i32⟩
  | .hbm, ⟨1, _⟩ => ⟨S81920x1024, .f32⟩
  | .hbm, ⟨2, _⟩ => ⟨S2x32x1024x256, .f32⟩
  | .hbm, ⟨3, _⟩ => ⟨S2x32x1024x256, .f32⟩
  | .hbm, ⟨4, _⟩ => ⟨S2x32x256x1024, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i1⟩
  | .hbm, ⟨16, _⟩ => ⟨S32, .i32⟩
  | .hbm, ⟨17, _⟩ => ⟨S32, .i32⟩
  | .hbm, ⟨18, _⟩ => ⟨S_, .i32⟩
  | .hbm, ⟨19, _⟩ => ⟨S32, .i32⟩
  | .hbm, ⟨20, _⟩ => ⟨S32, .i1⟩
  | .hbm, ⟨21, _⟩ => ⟨S32, .i1⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S81920, .i32⟩
  | .hbm, ⟨34, _⟩ => ⟨S81920x1, .i32⟩
  | .hbm, ⟨35, _⟩ => ⟨S1x32, .i32⟩
  | .hbm, ⟨36, _⟩ => ⟨S81920x32, .i32⟩
  | .hbm, ⟨37, _⟩ => ⟨S81920x32, .i32⟩
  | .hbm, ⟨38, _⟩ => ⟨S81920x32, .i1⟩
  | .hbm, ⟨39, _⟩ => ⟨S1x32, .i32⟩
  | .hbm, ⟨40, _⟩ => ⟨S81920x32, .i32⟩
  | .hbm, ⟨41, _⟩ => ⟨S81920x32, .i32⟩
  | .hbm, ⟨42, _⟩ => ⟨S81920x32, .i1⟩
  | .hbm, ⟨43, _⟩ => ⟨S81920x32, .i1⟩
  | .hbm, ⟨44, _⟩ => ⟨S81920x32, .f32⟩
  | .hbm, ⟨45, _⟩ => ⟨S1x32x1024x256, .f32⟩
  | .hbm, ⟨46, _⟩ => ⟨S32x1024x256, .f32⟩
  | .hbm, ⟨47, _⟩ => ⟨S81920x32x256, .f32⟩
  | .hbm, ⟨48, _⟩ => ⟨S81920x32x256, .f32⟩
  | .hbm, ⟨49, _⟩ => ⟨S81920x32x256, .f32⟩
  | .hbm, ⟨50, _⟩ => ⟨S_, .f32⟩
  | .hbm, ⟨51, _⟩ => ⟨S81920x32x256, .f32⟩
  | .hbm, ⟨52, _⟩ => ⟨S81920x32x256, .f32⟩
  | .hbm, ⟨53, _⟩ => ⟨S_, .f32⟩
  | .hbm, ⟨54, _⟩ => ⟨S81920x32x256, .f32⟩
  | .hbm, ⟨55, _⟩ => ⟨S81920x32x256, .f32⟩
  | .hbm, ⟨56, _⟩ => ⟨S81920x32x256, .f32⟩
  | .hbm, ⟨57, _⟩ => ⟨S1x32x1024x256, .f32⟩
  | .hbm, ⟨58, _⟩ => ⟨S32x1024x256, .f32⟩
  | .hbm, ⟨59, _⟩ => ⟨S81920x32x256, .f32⟩
  | .hbm, ⟨60, _⟩ => ⟨S81920x32x256, .f32⟩
  | .hbm, ⟨61, _⟩ => ⟨S81920x32x1, .f32⟩
  | .hbm, ⟨62, _⟩ => ⟨S81920x32x256, .f32⟩
  | .hbm, ⟨63, _⟩ => ⟨S81920x32x256, .f32⟩
  | .hbm, ⟨64, _⟩ => ⟨S81920x8192, .f32⟩
  | .hbm, ⟨65, _⟩ => ⟨S1x32x256x1024, .f32⟩
  | .hbm, ⟨66, _⟩ => ⟨S32x256x1024, .f32⟩
  | .hbm, ⟨67, _⟩ => ⟨S8192x1024, .f32⟩
  | .hbm, ⟨68, _⟩ => ⟨S81920x1024, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_c_1 : Ref sig .tc := ⟨.hbm, 26, rfl⟩
abbrev main_v3 : Ref sig .tc := ⟨.hbm, 27, rfl⟩
abbrev main_v4 : Ref sig .tc := ⟨.hbm, 28, rfl⟩
abbrev main_call1_call0_c : Ref sig .tc := ⟨.hbm, 29, rfl⟩
abbrev main_call1_call0_v0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_call2_v0 : Ref sig .tc := ⟨.hbm, 48, rfl⟩
abbrev main_call2_v1 : Ref sig .tc := ⟨.hbm, 49, rfl⟩
abbrev main_call2_cst : Ref sig .tc := ⟨.hbm, 50, rfl⟩
abbrev main_call2_v2 : Ref sig .tc := ⟨.hbm, 51, rfl⟩
abbrev main_call2_v3 : Ref sig .tc := ⟨.hbm, 52, rfl⟩
abbrev main_call2_cst_0 : Ref sig .tc := ⟨.hbm, 53, rfl⟩
abbrev main_call2_v4 : Ref sig .tc := ⟨.hbm, 54, rfl⟩
abbrev main_call2_v5 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩

abbrev nD : Nat := 1
abbrev τ : Topo := Topo.v7x

variable {F : FTy → Type} [FloatOps F]
-- ==== Kernel3.lean ====
abbrev S32768x1024 : Shape := ⟨2, ![32768, 1024]⟩
abbrev S32768x512 : Shape := ⟨2, ![32768, 512]⟩
abbrev S1024x6612 : Shape := ⟨2, ![1024, 6612]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1024x512 : Shape := ⟨2, ![1024, 512]⟩
abbrev S1024x64 : Shape := ⟨2, ![1024, 64]⟩
abbrev S1024x256 : Shape := ⟨2, ![1024, 256]⟩
abbrev S1024x16 : Shape := ⟨2, ![1024, 16]⟩
abbrev S1024x3072 : Shape := ⟨2, ![1024, 3072]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S1x1024 : Shape := ⟨2, ![1, 1024]⟩
abbrev S32768x128 : Shape := ⟨2, ![32768, 128]⟩
abbrev S1024x1 : Shape := ⟨2, ![1024, 1]⟩

abbrev nBuf : Space → Nat
  | .hbm => 52
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S1024x6612, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x4, .f32⟩
  | .hbm, ⟨12, _⟩ => ⟨S4, .f32⟩
  | .hbm, ⟨13, _⟩ => ⟨S1024x32, .f32⟩
  | .hbm, ⟨14, _⟩ => ⟨S32, .f32⟩
  | .hbm, ⟨15, _⟩ => ⟨S1024x512, .f32⟩
  | .hbm, ⟨16, _⟩ => ⟨S1024x64, .f32⟩
  | .hbm, ⟨17, _⟩ => ⟨S1024x64, .f32⟩
  | .hbm, ⟨18, _⟩ => ⟨S1024x256, .f32⟩
  | .hbm, ⟨19, _⟩ => ⟨S1024x64, .f32⟩
  | .hbm, ⟨20, _⟩ => ⟨S1024x4, .f32⟩
  | .hbm, ⟨21, _⟩ => ⟨S1024x256, .f32⟩
  | .hbm, ⟨22, _⟩ => ⟨S1024x256, .f32⟩
  | .hbm, ⟨23, _⟩ => ⟨S1024x512, .f32⟩
  | .hbm, ⟨24, _⟩ => ⟨S1024x16, .f32⟩
  | .hbm, ⟨25, _⟩ => ⟨S1024x512, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S1024x3072, .f32⟩
  | .hbm, ⟨31, _⟩ => ⟨S1024x3072, .bf16⟩
  | .hbm, ⟨32, _⟩ => ⟨S_, .f32⟩
  | .hbm, ⟨33, _⟩ => ⟨S1024x92, .f32⟩
  | .hbm, ⟨34, _⟩ => ⟨S1024x128, .f32⟩
  | .hbm, ⟨35, _⟩ => ⟨S1024x128, .bf16⟩
  | .hbm, ⟨36, _⟩ => ⟨S1024x128, .f32⟩
  | .hbm, ⟨37, _⟩ => ⟨S1024x128, .f32⟩
  | .hbm, ⟨38, _⟩ => ⟨S1024x128, .bf16⟩
  | .hbm, ⟨39, _⟩ => ⟨S_, .f32⟩
  | .hbm, ⟨40, _⟩ => ⟨S92, .f32⟩
  | .hbm, ⟨41, _⟩ => ⟨S128, .f32⟩
  | .hbm, ⟨42, _⟩ => ⟨S1x128, .f32⟩
  | .hbm, ⟨43, _⟩ => ⟨S512x1024, .bf16⟩
  | .hbm, ⟨44, _⟩ => ⟨S512x1024, .bf16⟩
  | .hbm, ⟨45, _⟩ => ⟨S512x1024, .bf16⟩
  | .hbm, ⟨46, _⟩ => ⟨S1024x1024, .bf16⟩
  | .hbm, ⟨47, _⟩ => ⟨S1x1024, .f32⟩
  | .hbm, ⟨48, _⟩ => ⟨S1x1024, .f32⟩
  | .hbm, ⟨49, _⟩ => ⟨S32768x1024, .f32⟩
  | .hbm, ⟨50, _⟩ => ⟨S32768x128, .bf16⟩
  | .hbm, ⟨51, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x3072, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x128, .bf16⟩
  | .local _ .vmem, ⟨16, _⟩ => ⟨S1024x128, .bf16⟩
  | .local _ .vmem, ⟨17, _⟩ => ⟨S1x128, .f32⟩
  | .local _ .vmem, ⟨18, _⟩ => ⟨S1024x1024, .f32⟩
  | .local _ .vmem, ⟨19, _⟩ => ⟨S1024x1024, .f32⟩
  | .local _ .vmem, ⟨20, _⟩ => ⟨S1024x128, .bf16⟩
  | .local _ .vmem, ⟨21, _⟩ => ⟨S1024x128, .bf16⟩
  | .local _ .vmem, ⟨22, _⟩ => ⟨S1024x128, .f32⟩
  | .local _ .vmem, ⟨23, _⟩ => ⟨S1024x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32_0 : Ref sig .tc := ⟨.hbm, 49, rfl⟩
abbrev main_v32_1 : Ref sig .tc := ⟨.hbm, 50, rfl⟩
abbrev main_v32_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S32768x1024 : Shape := ⟨2, ![32768, 1024]⟩
abbrev S32768x512 : Shape := ⟨2, ![32768, 512]⟩
abbrev S1024x6612 : Shape := ⟨2, ![1024, 6612]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S32768x6612 : Shape := ⟨2, ![32768, 6612]⟩
abbrev S32768x64 : Shape := ⟨2, ![32768, 64]⟩
abbrev S32768x256 : Shape := ⟨2, ![32768, 256]⟩
abbrev S32768x4 : Shape := ⟨2, ![32768, 4]⟩
abbrev S32768x16 : Shape := ⟨2, ![32768, 16]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 100
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S1024x6612, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x4, .f32⟩
  | .hbm, ⟨12, _⟩ => ⟨S4, .f32⟩
  | .hbm, ⟨13, _⟩ => ⟨S1024x32, .f32⟩
  | .hbm, ⟨14, _⟩ => ⟨S32, .f32⟩
  | .hbm, ⟨15, _⟩ => ⟨S32768x6612, .f32⟩
  | .hbm, ⟨16, _⟩ => ⟨S32768x512, .f32⟩
  | .hbm, ⟨17, _⟩ => ⟨S32768x64, .f32⟩
  | .hbm, ⟨18, _⟩ => ⟨S32768x64, .f32⟩
  | .hbm, ⟨19, _⟩ => ⟨S32768x256, .f32⟩
  | .hbm, ⟨20, _⟩ => ⟨S32768x64, .f32⟩
  | .hbm, ⟨21, _⟩ => ⟨S32768x4, .f32⟩
  | .hbm, ⟨22, _⟩ => ⟨S32768x256, .f32⟩
  | .hbm, ⟨23, _⟩ => ⟨S32768x256, .f32⟩
  | .hbm, ⟨24, _⟩ => ⟨S32768x512, .f32⟩
  | .hbm, ⟨25, _⟩ => ⟨S32768x16, .f32⟩
  | .hbm, ⟨26, _⟩ => ⟨S32768x512, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768x1024, .f32⟩
  | .hbm, ⟨38, _⟩ => ⟨S32768x1024, .f32⟩
  | .hbm, ⟨39, _⟩ => ⟨S32768x512, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S32768x1024, .f32⟩
  | .hbm, ⟨46, _⟩ => ⟨S32768x1024, .f32⟩
  | .hbm, ⟨47, _⟩ => ⟨S_, .f32⟩
  | .hbm, ⟨48, _⟩ => ⟨S32768x1024, .f32⟩
  | .hbm, ⟨49, _⟩ => ⟨S32768x1024, .f32⟩
  | .hbm, ⟨50, _⟩ => ⟨S32768x512, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S_, .f32⟩
  | .hbm, ⟨57, _⟩ => ⟨S32768x1024, .f32⟩
  | .hbm, ⟨58, _⟩ => ⟨S32768x1024, .f32⟩
  | .hbm, ⟨59, _⟩ => ⟨S_, .f32⟩
  | .hbm, ⟨60, _⟩ => ⟨S32768x1024, .f32⟩
  | .hbm, ⟨61, _⟩ => ⟨S32768x1024, .f32⟩
  | .hbm, ⟨62, _⟩ => ⟨S32768x512, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S_, .f32⟩
  | .hbm, ⟨67, _⟩ => ⟨S32768x1024, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S_, .f32⟩
  | .hbm, ⟨72, _⟩ => ⟨S32768, .f32⟩
  | .hbm, ⟨73, _⟩ => ⟨S32768x1, .f32⟩
  | .hbm, ⟨74, _⟩ => ⟨S_, .f32⟩
  | .hbm, ⟨75, _⟩ => ⟨S32768x1, .f32⟩
  | .hbm, ⟨76, _⟩ => ⟨S32768x1, .f32⟩
  | .hbm, ⟨77, _⟩ => ⟨S32768x1024, .f32⟩
  | .hbm, ⟨78, _⟩ => ⟨S32768x1024, .f32⟩
  | .hbm, ⟨79, _⟩ => ⟨S32768x1024, .f32⟩
  | .hbm, ⟨80, _⟩ => ⟨S_, .f32⟩
  | .hbm, ⟨81, _⟩ => ⟨S32768, .f32⟩
  | .hbm, ⟨82, _⟩ => ⟨S32768x1, .f32⟩
  | .hbm, ⟨83, _⟩ => ⟨S_, .f32⟩
  | .hbm, ⟨84, _⟩ => ⟨S32768x1, .f32⟩
  | .hbm, ⟨85, _⟩ => ⟨S32768x1, .f32⟩
  | .hbm, ⟨86, _⟩ => ⟨S32768x1024, .f32⟩
  | .hbm, ⟨87, _⟩ => ⟨S32768x1024, .f32⟩
  | .hbm, ⟨88, _⟩ => ⟨S_, .f32⟩
  | .hbm, ⟨89, _⟩ => ⟨S32768x1, .f32⟩
  | .hbm, ⟨90, _⟩ => ⟨S32768x1, .f32⟩
  | .hbm, ⟨91, _⟩ => ⟨S32768x1, .f32⟩
  | .hbm, ⟨92, _⟩ => ⟨S32768x1024, .f32⟩
  | .hbm, ⟨93, _⟩ => ⟨S32768x1024, .f32⟩
  | .hbm, ⟨94, _⟩ => ⟨S1x1024, .f32⟩
  | .hbm, ⟨95, _⟩ => ⟨S32768x1024, .f32⟩
  | .hbm, ⟨96, _⟩ => ⟨S32768x1024, .f32⟩
  | .hbm, ⟨97, _⟩ => ⟨S1x1024, .f32⟩
  | .hbm, ⟨98, _⟩ => ⟨S32768x1024, .f32⟩
  | .hbm, ⟨99, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_v28 : Ref sig .tc := ⟨.hbm, 46, rfl⟩
abbrev main_cst_2 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_6 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_8 : Ref sig .tc := ⟨.hbm, 80, rfl⟩
abbrev main_v56 : Ref sig .tc := ⟨.hbm, 81, rfl⟩
abbrev main_v57 : Ref sig .tc := ⟨.hbm, 82, rfl⟩
abbrev main_cst_9 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_10 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024x6612 : Shape := ⟨2, ![1024, 6612]⟩
abbrev S512 : Shape := ⟨1, ![512]⟩
abbrev S4x128x128 : Shape := ⟨3, ![4, 128, 128]⟩
abbrev S4x128 : Shape := ⟨2, ![4, 128]⟩
abbrev S1024x512 : Shape := ⟨2, ![1024, 512]⟩
abbrev S1024x64 : Shape := ⟨2, ![1024, 64]⟩
abbrev S1024x256 : Shape := ⟨2, ![1024, 256]⟩
abbrev S1024x4 : Shape := ⟨2, ![1024, 4]⟩
abbrev S1024x16 : Shape := ⟨2, ![1024, 16]⟩
abbrev S1024x1024 : Shape := ⟨2, ![1024, 1024]⟩
abbrev S128x4 : Shape := ⟨2, ![128, 4]⟩
abbrev S_ : Shape := ⟨0, ![]⟩
abbrev S128x124 : Shape := ⟨2, ![128, 124]⟩
abbrev S128x128 : Shape := ⟨2, ![128, 128]⟩
abbrev S32768x1024 : Shape := ⟨2, ![32768, 1024]⟩
abbrev S1x512 : Shape := ⟨2, ![1, 512]⟩
abbrev S32768x512 : Shape := ⟨2, ![32768, 512]⟩
abbrev S512x1024 : Shape := ⟨2, ![512, 1024]⟩
abbrev S512x512 : Shape := ⟨2, ![512, 512]⟩
abbrev S512x1 : Shape := ⟨2, ![512, 1]⟩
abbrev S1x128x128 : Shape := ⟨3, ![1, 128, 128]⟩
abbrev S128x1 : Shape := ⟨2, ![128, 1]⟩

abbrev nBuf : Space → Nat
  | .hbm => 30
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S1024x6612, .f32⟩
  | .hbm, ⟨2, _⟩ => ⟨S512, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S1024x512, .f32⟩
  | .hbm, ⟨7, _⟩ => ⟨S1024x64, .f32⟩
  | .hbm, ⟨8, _⟩ => ⟨S1024x64, .f32⟩
  | .hbm, ⟨9, _⟩ => ⟨S1024x256, .f32⟩
  | .hbm, ⟨10, _⟩ => ⟨S1024x64, .f32⟩
  | .hbm, ⟨11, _⟩ => ⟨S1024x4, .f32⟩
  | .hbm, ⟨12, _⟩ => ⟨S1024x256, .f32⟩
  | .hbm, ⟨13, _⟩ => ⟨S1024x256, .f32⟩
  | .hbm, ⟨14, _⟩ => ⟨S1024x512, .f32⟩
  | .hbm, ⟨15, _⟩ => ⟨S1024x16, .f32⟩
  | .hbm, ⟨16, _⟩ => ⟨S1024x512, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S128x4, .f32⟩
  | .hbm, ⟨22, _⟩ => ⟨S_, .f32⟩
  | .hbm, ⟨23, _⟩ => ⟨S128x124, .f32⟩
  | .hbm, ⟨24, _⟩ => ⟨S128x128, .f32⟩
  | .hbm, ⟨25, _⟩ => ⟨S32768x1024, .f32⟩
  | .hbm, ⟨26, _⟩ => ⟨S1024x1024, .bf16⟩
  | .hbm, ⟨27, _⟩ => ⟨S1x512, .f32⟩
  | .hbm, ⟨28, _⟩ => ⟨S1x512, .f32⟩
  | .hbm, ⟨29, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x512, .f32⟩
  | .local _ .vmem, ⟨4, _⟩ => ⟨S1x512, .f32⟩
  | .local _ .vmem, ⟨5, _⟩ => ⟨S4x128x128, .f32⟩
  | .local _ .vmem, ⟨6, _⟩ => ⟨S128x128, .f32⟩
  | .local _ .vmem, ⟨7, _⟩ => ⟨S512x512, .bf16⟩
  | .local _ .vmem, ⟨8, _⟩ => ⟨S512x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8x4096x1024 : Shape := ⟨3, ![8, 4096, 1024]⟩
abbrev S1024x6612 : Shape := ⟨2, ![1024, 6612]⟩
abbrev S512 : Shape := ⟨1, ![512]⟩
abbrev S4x128x128 : Shape := ⟨3, ![4, 128, 128]⟩
abbrev S4x128 : Shape := ⟨2, ![4, 128]⟩
abbrev S8x4096x6612 : Shape := ⟨3, ![8, 4096, 6612]⟩
abbrev S8x4096x512 : Shape := ⟨3, ![8, 4096, 512]⟩
abbrev S8x4096x64 : Shape := ⟨3, ![8, 4096, 64]⟩
abbrev S8x4096x256 : Shape := ⟨3, ![8, 4096, 256]⟩
abbrev S8x4096x4 : Shape := ⟨3, ![8, 4096, 4]⟩
abbrev S8x4096x16 : Shape := ⟨3, ![8, 4096, 16]⟩
abbrev S_ : Shape := ⟨0, ![]⟩
abbrev S8x4096 : Shape := ⟨2, ![8, 4096]⟩
abbrev S8x4096x1 : Shape := ⟨3, ![8, 4096, 1]⟩
abbrev S1x1x512 : Shape := ⟨3, ![1, 1, 512]⟩
abbrev S8x32x128x4x128 : Shape := ⟨5, ![8, 32, 128, 4, 128]⟩
abbrev S128x128 : Shape := ⟨2, ![128, 128]⟩
abbrev S1x128x128 : Shape := ⟨3, ![1, 128, 128]⟩
abbrev S4x8x32x128x128 : Shape := ⟨5, ![4, 8, 32, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S32768x512 : Shape := ⟨2, ![32768, 512]⟩

abbrev nBuf : Space → Nat
  | .hbm => 96
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x6612, .f32⟩
  | .hbm, ⟨2, _⟩ => ⟨S512, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S8x4096x6612, .f32⟩
  | .hbm, ⟨7, _⟩ => ⟨S8x4096x512, .f32⟩
  | .hbm, ⟨8, _⟩ => ⟨S8x4096x64, .f32⟩
  | .hbm, ⟨9, _⟩ => ⟨S8x4096x64, .f32⟩
  | .hbm, ⟨10, _⟩ => ⟨S8x4096x256, .f32⟩
  | .hbm, ⟨11, _⟩ => ⟨S8x4096x64, .f32⟩
  | .hbm, ⟨12, _⟩ => ⟨S8x4096x4, .f32⟩
  | .hbm, ⟨13, _⟩ => ⟨S8x4096x256, .f32⟩
  | .hbm, ⟨14, _⟩ => ⟨S8x4096x256, .f32⟩
  | .hbm, ⟨15, _⟩ => ⟨S8x4096x512, .f32⟩
  | .hbm, ⟨16, _⟩ => ⟨S8x4096x16, .f32⟩
  | .hbm, ⟨17, _⟩ => ⟨S8x4096x512, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x512, .f32⟩
  | .hbm, ⟨40, _⟩ => ⟨S8x4096x512, .f32⟩
  | .hbm, ⟨41, _⟩ => ⟨S_, .f32⟩
  | .hbm, ⟨42, _⟩ => ⟨S8x4096, .f32⟩
  | .hbm, ⟨43, _⟩ => ⟨S8x4096x1, .f32⟩
  | .hbm, ⟨44, _⟩ => ⟨S_, .f32⟩
  | .hbm, ⟨45, _⟩ => ⟨S8x4096x1, .f32⟩
  | .hbm, ⟨46, _⟩ => ⟨S8x4096x1, .f32⟩
  | .hbm, ⟨47, _⟩ => ⟨S8x4096x512, .f32⟩
  | .hbm, ⟨48, _⟩ => ⟨S8x4096x512, .f32⟩
  | .hbm, ⟨49, _⟩ => ⟨S8x4096x512, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S8x4096x512, .f32⟩
  | .hbm, ⟨57, _⟩ => ⟨S8x4096x512, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S8x4096x1, .f32⟩
  | .hbm, ⟨62, _⟩ => ⟨S8x4096x512, .f32⟩
  | .hbm, ⟨63, _⟩ => ⟨S8x4096x512, .f32⟩
  | .hbm, ⟨64, _⟩ => ⟨S1x1x512, .f32⟩
  | .hbm, ⟨65, _⟩ => ⟨S8x4096x512, .f32⟩
  | .hbm, ⟨66, _⟩ => ⟨S8x4096x512, .f32⟩
  | .hbm, ⟨67, _⟩ => ⟨S1x1x512, .f32⟩
  | .hbm, ⟨68, _⟩ => ⟨S8x4096x512, .f32⟩
  | .hbm, ⟨69, _⟩ => ⟨S8x4096x512, .f32⟩
  | .hbm, ⟨70, _⟩ => ⟨S8x32x128x4x128, .f32⟩
  | .hbm, ⟨71, _⟩ => ⟨S_, .f32⟩
  | .hbm, ⟨72, _⟩ => ⟨S128x128, .f32⟩
  | .hbm, ⟨73, _⟩ => ⟨S128x128, .i32⟩
  | .hbm, ⟨74, _⟩ => ⟨S_, .i32⟩
  | .hbm, ⟨75, _⟩ => ⟨S128x128, .i32⟩
  | .hbm, ⟨76, _⟩ => ⟨S128x128, .i32⟩
  | .hbm, ⟨77, _⟩ => ⟨S128x128, .i32⟩
  | .hbm, ⟨78, _⟩ => ⟨S128x128, .i1⟩
  | .hbm, ⟨79, _⟩ => ⟨S_, .f32⟩
  | .hbm, ⟨80, _⟩ => ⟨S128x128, .f32⟩
  | .hbm, ⟨81, _⟩ => ⟨S128x128, .f32⟩
  | .hbm, ⟨82, _⟩ => ⟨S1x128x128, .f32⟩
  | .hbm, ⟨83, _⟩ => ⟨S4x128x128, .f32⟩
  | .hbm, ⟨84, _⟩ => ⟨S4x128x128, .f32⟩
  | .hbm, ⟨85, _⟩ => ⟨S4x8x32x128x128, .f32⟩
  | .hbm, ⟨86, _⟩ => ⟨S8x32x128x4x128, .f32⟩
  | .hbm, ⟨87, _⟩ => ⟨S128x4, .f32⟩
  | .hbm, ⟨88, _⟩ => ⟨S128x4x1, .f32⟩
  | .hbm, ⟨89, _⟩ => ⟨S1x1x128x4x1, .f32⟩
  | .hbm, ⟨90, _⟩ => ⟨S8x32x128x4x128, .f32⟩
  | .hbm, ⟨91, _⟩ => ⟨S8x32x128x4x128, .f32⟩
  | .hbm, ⟨92, _⟩ => ⟨S8x4096x512, .f32⟩
  | .hbm, ⟨93, _⟩ => ⟨S8x4096x512, .f32⟩
  | .hbm, ⟨94, _⟩ => ⟨S32768x512, .f32⟩
  | .hbm, ⟨95, _⟩ => ⟨S32768x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_call0_v0 : Ref sig .tc := ⟨.hbm, 73, rfl⟩
abbrev main_call0_c : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_cst : Ref sig .tc := ⟨.hbm, 79, rfl⟩
abbrev main_call0_v5 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== Kernel5.lean ====
abbrev S8x4096x1024 : Shape := ⟨3, ![8, 4096, 1024]⟩
abbrev S1024 : Shape := ⟨1, ![1024]⟩
abbrev S32768x1024 : Shape := ⟨2, ![32768, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 7
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S32768x1024, .f32⟩
  | .hbm, ⟨4, _⟩ => ⟨S1x1024, .f32⟩
  | .hbm, ⟨5, _⟩ => ⟨S1x1024, .f32⟩
  | .hbm, ⟨6, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8x4096x1024 : Shape := ⟨3, ![8, 4096, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S8x4096, .f32⟩
  | .hbm, ⟨5, _⟩ => ⟨S8x4096x1, .f32⟩
  | .hbm, ⟨6, _⟩ => ⟨S_, .f32⟩
  | .hbm, ⟨7, _⟩ => ⟨S8x4096x1, .f32⟩
  | .hbm, ⟨8, _⟩ => ⟨S8x4096x1, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x1024, .f32⟩
  | .hbm, ⟨25, _⟩ => ⟨S8x4096x1024, .f32⟩
  | .hbm, ⟨26, _⟩ => ⟨S1x1x1024, .f32⟩
  | .hbm, ⟨27, _⟩ => ⟨S8x4096x1024, .f32⟩
  | .hbm, ⟨28, _⟩ => ⟨S8x4096x1024, .f32⟩
  | .hbm, ⟨29, _⟩ => ⟨S1x1x1024, .f32⟩
  | .hbm, ⟨30, _⟩ => ⟨S8x4096x1024, .f32⟩
  | .hbm, ⟨31, _⟩ => ⟨S8x4096x1024, .f32⟩
  | .hbm, ⟨32, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Proof.RefLoop.lean ====
/- The reference's scan as a sequence of states: the run of the reference leaves, after its 64 chunks, what `Step.step`
   iterated from `Step.init` says. A valuation `Holds` a state when it agrees with it at every buffer a trip reads. -/
module

public import proofs.«01_k».proof.Proof.Gen.ReferenceIdeal.Run
public import proofs.«01_k».proof.Proof.Gen.ReferenceIdeal.Step
public import Idealize.ShloMosaic.Lib.Tactic

@[expose] public section

set_option maxRecDepth 16384

noncomputable section

namespace Cert.ReferenceIdeal.RefLoop

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The state a valuation carries. -/
def stateOf (V : Valuation τ sig (Elt F)) : State F where
  main_v43_6 := V (Proc.devRef .tc main_v43_6)
  main_v43_7 := V (Proc.devRef .tc main_v43_7)
  main_v43_0 := V (Proc.devRef .tc main_v43_0)
  main_v43_1 := V (Proc.devRef .tc main_v43_1)
  main_v43_2 := V (Proc.devRef .tc main_v43_2)
  main_v43_3 := V (Proc.devRef .tc main_v43_3)

/-- The valuation is before trip `j`: its counter says so, and its causal mask is the one set up before the loop. -/
structure At (V : Valuation τ sig (Elt F)) (j : ℕ) : Prop where
  ctr : V (Proc.devRef .tc main_v43_5) = constantI S_ 32 (BitVec.ofNat 32 j)
  mask : V (Proc.devRef .tc main_v43_4) = Step.K_main_v32 (F := F)

variable {V : Valuation τ sig (Elt F)} {j : ℕ}

theorem step_state (h : At V j) : step_main_v43_6 V = (step j (stateOf V)).main_v43_6 := by
  unfold step_main_v43_6 res_main_while0b_v102 res_main_while0b_v84 res_main_while0b_v82 res_main_while0b_v81
  simp only [h.ctr]
  sl_kernel_rfl

theorem step_out (h : At V j) : step_main_v43_7 V = (step j (stateOf V)).main_v43_7 := by
  unfold step_main_v43_7 res_main_while0b_v84 res_main_while0b_v82 res_main_while0b_v81 res_main_while0b_v80
  simp only [h.ctr, h.mask]
  sl_kernel_rfl

theorem step_ctr (h : At V j) : step_main_v43_5 V = constantI S_ 32 (BitVec.ofNat 32 (j + 1)) := by
  unfold step_main_v43_5
  rw [h.ctr]
  funext i
  show BitVec.ofNat 32 j + 1#32 = BitVec.ofNat 32 (j + 1)
  simp only [BitVec.ofNat_add]

theorem at_step (h : At V j) : At (STEP V) (j + 1) :=
  ⟨(STEP_main_v43_5 V).trans (step_ctr h), (STEP_main_v43_4 V).trans h.mask⟩

theorem stateOf_step (h : At V j) : stateOf (STEP V) = step j (stateOf V) := by
  have e : stateOf (STEP V) = { (step j (stateOf V)) with } := by
    unfold stateOf
    rw [STEP_main_v43_6, STEP_main_v43_7, STEP_main_v43_0, STEP_main_v43_1, STEP_main_v43_2, STEP_main_v43_3,
      step_state h, step_out h]
    rfl
  exact e

variable (m : (ℓ : Loc nD τ sig) → Buf (Elt F) ℓ) (c : Dev nD)

/-- The state the scan starts from. -/
abbrev initState : State F :=
  init (m ((c.tc : Thread nD τ).loc main_arg0)) (m ((c.tc : Thread nD τ).loc main_arg1)) (m ((c.tc : Thread nD τ).loc main_arg2)) (m ((c.tc : Thread nD τ).loc main_arg3))

theorem at_entry : At (entryContents preI m c) 0 := by
  constructor <;> (simp only [entryContents, afterL_cons, afterL_nil]; after_reads_simp) <;> rfl

theorem state_entry : stateOf (entryContents preI m c) = initState m c := by
  unfold stateOf initState init
  congr 1 <;> (simp only [entryContents, afterL_cons, afterL_nil]; after_reads_simp) <;> rfl

/-- The state before chunk `n`. -/
def iter (s : State F) : ℕ → State F
  | 0 => s
  | n + 1 => step n (iter s n)

theorem at_iter : ∀ k, At (STEP^[k] (entryContents preI m c)) k ∧ stateOf (STEP^[k] (entryContents preI m c)) = iter (initState m c) k
  | 0 => ⟨at_entry m c, state_entry m c⟩
  | k + 1 => by
    obtain ⟨h, e⟩ := at_iter k
    rw [Function.iterate_succ_apply']
    exact ⟨at_step h, (stateOf_step h).trans (by rw [e]; rfl)⟩

theorem out_eq (V : Valuation τ sig (Elt F)) {x0 : (⟨S8x4096x1024, .f32⟩ : BufTy).Contents (Elt F)} {x1 : (⟨S1024x6612, .f32⟩ : BufTy).Contents (Elt F)}
    {x4 : (⟨S128, .f32⟩ : BufTy).Contents (Elt F)} (h0 : V (Proc.devRef .tc main_arg0) = x0) (h1 : V (Proc.devRef .tc main_arg1) = x1)
    (h4 : V (Proc.devRef .tc main_arg4) = x4) : out_main_v79 V = Step.R_main_v79 (stateOf V) x0 x1 x4 := by
  subst h0 h1 h4
  sl_kernel_rfl

/-- Every run of the reference ends with its result at the state after the 64 chunks, and every argument unchanged. -/
theorem run_iter (ρ : Dev nD → PrngReg) :
    θ_run (defs (F := F)) (onTc (τ := τ) (main (F := F))) ⟨m, fun _ => 0, ρ⟩ fun r => ∀ c : Dev nD,
      r.2.mem ((c.tc : Thread nD τ).loc main_v79) = Step.R_main_v79 (iter (initState m c) 64) (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c).1.trans ((out_eq _ (iter_main_arg0 m c 64) (iter_main_arg1 m c 64) (iter_main_arg4 m c 64)).trans
      (by rw [(at_iter m c 64).2])), (h c).2⟩) (Value.run m ρ)

end Cert.ReferenceIdeal.RefLoop

end
-- ==== Proof.GlaBody.lean ====
/- What one grid point of the kernel stores, written once for every chunk of 64 tokens and every head. The kernel's text
   repeats the same operations for its eight chunks and four heads; here they are functions of the chunk and the head, and
   the generated lists of stores are shown to be these functions' lists. -/
module

public import proofs.«01_k».proof.Proof.Gen.KernelIdeal.Frame

@[expose] public section

set_option maxRecDepth 65536

noncomputable section

namespace Cert.KernelIdeal.GlaBody

open Idealize.ShloMosaic Cert.KernelIdeal Cert.KernelIdeal.Gen

variable {F : FTy → Type} [FloatOps F]

/-! Index facts for a chunk `u` and a head `hh`. -/

theorem sl256 : ∀ hh : Fin 4, S64x1024.Slices ![0, 256 * hh.val] S64x256 := by decide
theorem sl64 : ∀ hh : Fin 4, S64x1024.Slices ![0, 256 * hh.val] S64x64 := by decide
theorem sl1 : ∀ hh : Fin 4, S1x1024.Slices ![0, 256 * hh.val] S1x64 := by decide
theorem sl128 : ∀ hh : Fin 4, S512x512.Slices ![0, 128 * hh.val] S512x128 := by decide
theorem inbG : ∀ u : Fin 8, ∀ a, (![64 * u.val, 0] : Fin 2 → ℕ) a + S64x256.size a ≤ S512x256.size a := by decide
theorem inbQ : ∀ u : Fin 8, ∀ a, (![64 * u.val, 0] : Fin 2 → ℕ) a + S64x256.size a ≤ S512x1664.size a := by decide
theorem inbK : ∀ u : Fin 8, ∀ a, (![64 * u.val, 256] : Fin 2 → ℕ) a + S64x256.size a ≤ S512x1664.size a := by decide
theorem inbV : ∀ (u : Fin 8) (hh : Fin 4), ∀ a, (![64 * u.val, 512 + 128 * hh.val] : Fin 2 → ℕ) a + S64x128.size a ≤ S512x1664.size a := by decide
theorem inbAcc : ∀ (u : Fin 8) (hh : Fin 4), ∀ a, (![64 * u.val, 128 * hh.val] : Fin 2 → ℕ) a + S64x128.size a ≤ S512x512.size a := by decide
theorem inbCol : ∀ hh : Fin 4, ∀ a, (![0, 128 * hh.val] : Fin 2 → ℕ) a + S512x128.size a ≤ S512x512.size a := by decide
theorem inbSt : ∀ hh : Fin 4, ∀ a, (![hh.val, 0, 0] : Fin 3 → ℕ) a + S1x128x64.size a ≤ S4x128x64.size a := by decide

/-! One chunk's values, from its rows `g` of the log-decays, `q` and `k` (64 tokens, four heads of 64). -/

/-- The sub-block of 16 tokens a lane serves. -/
def lane : IVec S1x1024 32 := k0_pay8 4#32 k0_pay6 k0_pay7
/-- The lanes whose sub-block is not after the row's. -/
def qMask : IVec S64x1024 1 := k0_pay10 4#32 k0_pay6 k0_pay7
/-- The lanes whose sub-block is the row's. -/
def kMask : IVec S64x1024 1 := k0_pay11 4#32 k0_pay6 k0_pay7
/-- The running sums of the log-decays, four copies of each head's lanes. -/
def bC (g : Vec F S64x256 .f32) : FVec F S64x1024 .f32 := k0_pay15 k0_pay5 k0_pay12 g (k0_pay13 g) (k0_pay14 g)
/-- The queries, decayed from the anchor of each sub-block. -/
def qC (g q : Vec F S64x256 .f32) : FVec F S64x1024 .bf16 :=
  k0_pay19 k0_pay12 (k0_pay17 k0_pay5 lane qMask k0_pay12 g (k0_pay13 g) (k0_pay14 g)) q
/-- The keys, decayed back to the anchor of their own sub-block, zero on the other sub-blocks' lanes. -/
def kC (g k : Vec F S64x256 .f32) : FVec F S64x1024 .bf16 :=
  k0_pay21 kMask k0_pay12 (k0_pay16 k0_pay5 lane k0_pay12 g (k0_pay13 g) (k0_pay14 g)) (Scalar.ofBits .f32 0x00000000#32) k
/-- The keys, decayed to the end of the chunk. -/
def kS (g k : Vec F S64x256 .f32) : FVec F S64x1024 .bf16 := k0_pay22 k0_pay12 (bC g) k
/-- The decay of the whole chunk. -/
def eL (g : Vec F S64x256 .f32) : FVec F S1x1024 .f32 := k0_pay23 (bC g)

/-- One head's scores within the chunk. -/
def att (hh : Fin 4) (Q K : FVec F S64x1024 .bf16) : FVec F S64x64 .bf16 :=
  truncf .bf16 (select k0_pay4
    (matmul dot_S64x256_S64x256_S64x64_1_1_0_0_n_n none (extractStridedSlice S64x256 ![0, 256 * hh.val] Q (sl256 hh))
      (extractStridedSlice S64x256 ![0, 256 * hh.val] K (sl256 hh)) (constant S64x64 .f32 0x00000000#32))
    (broadcast S64x64 (Scalar.ofBits .f32 0x00000000#32))) bitsLt_bf16_f32
/-- What the chunk adds to a head's state, transposed: values by keys. -/
def upd (hh : Fin 4) (K : FVec F S64x1024 .bf16) (v : Vec F S64x128 .f32) : FVec F S128x64 .f32 :=
  matmul dot_S128x64_S64x64_S128x64_1_0_0_1_n_n none
    (transpose S128x64 [1, 0] (truncf .bf16 v bitsLt_bf16_f32) transposes_S64x128_p1_0_S128x64)
    (extractStridedSlice S64x64 ![0, 256 * hh.val] K (sl64 hh)) (constant S128x64 .f32 0x00000000#32)
/-- A head's outputs for the chunk, from the state `s` before it. -/
def outC (hh : Fin 4) (Q K : FVec F S64x1024 .bf16) (v : Vec F S64x128 .f32) (s : FVec F S128x64 .f32) : FVec F S64x128 .f32 :=
  shapeCast S64x128 (addf
    (matmul dot_S64x64_S64x128_S64x128_1_0_0_1_n_n none (att hh Q K) (truncf .bf16 v bitsLt_bf16_f32) (constant S64x128 .f32 0x00000000#32))
    (matmul dot_S64x64_S128x64_S64x128_1_1_0_0_n_n none (extractStridedSlice S64x64 ![0, 256 * hh.val] Q (sl64 hh))
      (truncf .bf16 s bitsLt_bf16_f32) (constant S64x128 .f32 0x00000000#32))) shapeCasts_S64x128_S64x128
/-- A head's state after the chunk. -/
def nextC (hh : Fin 4) (e : FVec F S1x1024 .f32) (w : FVec F S128x64 .f32) (s : FVec F S128x64 .f32) : FVec F S128x64 .f32 :=
  addf (mulf s (broadcastTo S128x64 (extractStridedSlice S1x64 ![0, 256 * hh.val] e (sl1 hh)) broadcasts_S1x64_S128x64)) w
/-- One head's normalised and gated outputs for the 512 tokens. -/
def finC (hh : Fin 4) (r : FVec F S512x512 .f32) (ng : FVec F S1x128 .f32) (y : Vec F S512x128 .f32) : FVec F S512x128 .bf16 :=
  truncf .bf16 (mulf (extractStridedSlice S512x128 ![0, 128 * hh.val] r (sl128 hh))
    (mulf (mulf y (k0_pay283 y)) (broadcastTo S512x128 ng broadcasts_S1x128_S512x128))) bitsLt_bf16_f32

/-! The eight chunks of a point: `G`, `Q`, `K` and `V` are their rows. -/

variable (G Q K : Fin 8 → Vec F S64x256 .f32) (V : Fin 8 → Fin 4 → Vec F S64x128 .f32)

/-- A head's state before chunk `u`. -/
def stC (hh : Fin 4) (s : FVec F S128x64 .f32) : (u : ℕ) → u ≤ 8 → FVec F S128x64 .f32
  | 0, _ => s
  | u + 1, h => nextC hh (eL (G ⟨u, h⟩)) (upd hh (kS (G ⟨u, h⟩) (K ⟨u, h⟩)) (V ⟨u, h⟩ hh)) (stC hh s u (Nat.le_of_lt h))

/-- A head's outputs for chunk `u`, the point's state block being `S`. -/
def accC (S : Fin 4 → Vec F S1x128x64 .f32) (hh : Fin 4) (u : Fin 8) : FVec F S64x128 .f32 :=
  outC hh (qC (G u) (Q u)) (kC (G u) (K u)) (V u hh)
    (stC G K V hh (shapeCast S128x64 (S hh) shapeCasts_S1x128x64_S128x64) u.val (Nat.le_of_lt u.isLt))

/-- A head's state block after the point. -/
def newC (S : Fin 4 → Vec F S1x128x64 .f32) (hh : Fin 4) : FVec F S1x128x64 .f32 :=
  shapeCast S1x128x64 (stC G K V hh (shapeCast S128x64 (S hh) shapeCasts_S1x128x64_S128x64) 8 (Nat.le_refl 8)) shapeCasts_S128x64_S1x128x64

/-- The stores of the outputs of all heads and chunks, the last first. -/
def accPieces (S : Fin 4 → Vec F S1x128x64 .f32) : List (View.Piece (Elt F) S512x512 .f32) :=
  (List.finRange 4).reverse.flatMap fun hh => (List.finRange 8).reverse.map fun u =>
    ⟨Rect.unit ![64 * u.val, 128 * hh.val] S64x128.size (inbAcc u hh), accC G Q K V S hh u⟩

/-- The stores of the output block, the last first. -/
def outPieces (r : FVec F S512x512 .f32) (ng : FVec F S1x128 .f32) (Y : Fin 4 → Vec F S512x128 .f32) :
    List (View.Piece (Elt F) S512x512 .bf16) :=
  (List.finRange 4).reverse.map fun hh =>
    ⟨Rect.unit ![0, 128 * hh.val] S512x128.size (inbCol hh), finC hh r ng (Y hh)⟩

/-- The stores of the state, the last first. -/
def stPieces (S : Fin 4 → Vec F S1x128x64 .f32) : List (View.Piece (Elt F) S4x128x64 .f32) :=
  (List.finRange 4).reverse.map fun hh =>
    ⟨Rect.unit ![hh.val, 0, 0] S1x128x64.size (inbSt hh), newC G K V S hh⟩

/-! The loads of a point, as the kernel makes them. -/

section Loads

variable (a2 : Memref sig .tc .vmem S512x1024 .f32) (h2 : a2.IsWhole) (a3 : Memref sig .tc .vmem S1024x1664 .bf16) (h3 : a3.IsWhole)
  (a4 : Memref sig .tc .vmem S128x256 .bf16) (h4 : a4.IsWhole) (a5 : Memref sig .tc .vmem S1x256 .f32) (h5 : a5.IsWhole)
  (a6 : Memref sig .tc .vmem S1x128 .f32) (h6 : a6.IsWhole)
  (a8 : Memref sig .tc .vmem S512x1664 .f32) (a9 : Memref sig .tc .vmem S512x256 .f32) (a10 : Memref sig .tc .vmem S512x512 .f32)
  (a11 : Memref sig .tc .vmem S4x128x64 .f32) (h11 : a11.IsWhole)
  (x0 : Vec F S512x1024 .f32) (x1 : Vec F S1024x1664 .bf16) (x2 : Vec F S128x256 .bf16) (x3 : Vec F S1x256 .f32) (x4 : Vec F S1x128 .f32)
  (xs : Vec F S4x128x64 .f32)

/-- The one store of the projections. -/
def pList : List (View.Piece (Elt F) S512x1664 .f32) :=
  [⟨Rect.unit ![0, 0] S512x1664.size inb_S512x1664_S512x1664_0_0,
    k0_pay2 (View.readAt (Elt F) a2.view (Rect.unit ![0, 0] S512x1024.size inb_S512x1024_S512x1024_0_0).toLoadRect (h2.unread x0))
      (View.readAt (Elt F) a3.view (Rect.unit ![0, 0] S1024x1664.size inb_S1024x1664_S1024x1664_0_0).toLoadRect (h3.unread x1))⟩]
/-- The one store of the log-decays. -/
def gList : List (View.Piece (Elt F) S512x256 .f32) :=
  [⟨Rect.unit ![0, 0] S512x256.size inb_S512x256_S512x256_0_0,
    k0_pay3 (a8.view.readCov (pList a2 h2 a3 h3 x0 x1) (Rect.unit (s := S512x1664) ![0, 1536] S512x128.size inb_S512x1664_S512x128_0_1536).toLoadRect)
      (View.readAt (Elt F) a4.view (Rect.unit ![0, 0] S128x256.size inb_S128x256_S128x256_0_0).toLoadRect (h4.unread x2))
      (View.readAt (Elt F) a5.view (Rect.unit ![0, 0] S1x256.size inb_S1x256_S1x256_0_0).toLoadRect (h5.unread x3))⟩]
def gL (u : Fin 8) : Vec F S64x256 .f32 :=
  a9.view.readCov (gList a2 h2 a3 h3 a4 h4 a5 h5 a8 x0 x1 x2 x3) (Rect.unit (s := S512x256) ![64 * u.val, 0] S64x256.size (inbG u)).toLoadRect
def qL (u : Fin 8) : Vec F S64x256 .f32 :=
  a8.view.readCov (pList a2 h2 a3 h3 x0 x1) (Rect.unit (s := S512x1664) ![64 * u.val, 0] S64x256.size (inbQ u)).toLoadRect
def kL (u : Fin 8) : Vec F S64x256 .f32 :=
  a8.view.readCov (pList a2 h2 a3 h3 x0 x1) (Rect.unit (s := S512x1664) ![64 * u.val, 256] S64x256.size (inbK u)).toLoadRect
def vL (u : Fin 8) (hh : Fin 4) : Vec F S64x128 .f32 :=
  a8.view.readCov (pList a2 h2 a3 h3 x0 x1) (Rect.unit (s := S512x1664) ![64 * u.val, 512 + 128 * hh.val] S64x128.size (inbV u hh)).toLoadRect
def rL : Vec F S512x512 .f32 :=
  a8.view.readCov (pList a2 h2 a3 h3 x0 x1) (Rect.unit (s := S512x1664) ![0, 1024] S512x512.size inb_S512x1664_S512x512_0_1024).toLoadRect
def ngL : Vec F S1x128 .f32 :=
  View.readAt (Elt F) a6.view (Rect.unit ![0, 0] S1x128.size inb_S1x128_S1x128_0_0).toLoadRect (h6.unread x4)
/-- The state blocks of a point that goes on from the point before. -/
def sB (hh : Fin 4) : Vec F S1x128x64 .f32 :=
  View.readAt (Elt F) a11.view (Rect.unit (s := S4x128x64) ![hh.val, 0, 0] S1x128x64.size (inbSt hh)).toLoadRect (h11.unread xs)

/-- The output stores of a point with state blocks `S`. -/
def accL (S : Fin 4 → Vec F S1x128x64 .f32) : List (View.Piece (Elt F) S512x512 .f32) :=
  accPieces (gL a2 h2 a3 h3 a4 h4 a5 h5 a8 a9 x0 x1 x2 x3) (qL a2 h2 a3 h3 a8 x0 x1) (kL a2 h2 a3 h3 a8 x0 x1) (vL a2 h2 a3 h3 a8 x0 x1) S
def outL (S : Fin 4 → Vec F S1x128x64 .f32) : List (View.Piece (Elt F) S512x512 .bf16) :=
  outPieces (k0_pay281 (rL a2 h2 a3 h3 a8 x0 x1)) (k0_pay282 (ngL a6 h6 x4)) fun hh =>
    a10.view.readCov (accL a2 h2 a3 h3 a4 h4 a5 h5 a8 a9 x0 x1 x2 x3 S) (Rect.unit (s := S512x512) ![0, 128 * hh.val] S512x128.size (inbCol hh)).toLoadRect
def stL (S : Fin 4 → Vec F S1x128x64 .f32) : List (View.Piece (Elt F) S4x128x64 .f32) :=
  stPieces (gL a2 h2 a3 h3 a4 h4 a5 h5 a8 a9 x0 x1 x2 x3) (kL a2 h2 a3 h3 a8 x0 x1) (vL a2 h2 a3 h3 a8 x0 x1) S

end Loads

section RunB

variable (c : Dev nD) (i : grid0.Coords)
  (a2 : Memref sig .tc .vmem S512x1024 .f32) (h2 : a2.IsWhole) (a3 : Memref sig .tc .vmem S1024x1664 .bf16) (h3 : a3.IsWhole)
  (a4 : Memref sig .tc .vmem S128x256 .bf16) (h4 : a4.IsWhole) (a5 : Memref sig .tc .vmem S1x256 .f32) (h5 : a5.IsWhole)
  (a6 : Memref sig .tc .vmem S1x128 .f32) (h6 : a6.IsWhole) (a7 : Memref sig .tc .vmem S512x512 .bf16) (h7 : a7.IsWhole)
  (a8 : Memref sig .tc .vmem S512x1664 .f32) (h8 : a8.IsWhole) (a9 : Memref sig .tc .vmem S512x256 .f32) (h9 : a9.IsWhole)
  (a10 : Memref sig .tc .vmem S512x512 .f32) (h10 : a10.IsWhole)
  (a11 : Memref sig .tc .vmem S4x128x64 .f32) (h11 : a11.IsWhole) (hc : ¬cond0_0 i)
  (x0 : Vec F S512x1024 .f32) (x1 : Vec F S1024x1664 .bf16) (x2 : Vec F S128x256 .bf16) (x3 : Vec F S1x256 .f32) (x4 : Vec F S1x128 .f32)
  (xs : Vec F S4x128x64 .f32)

theorem out_B : (kernelRun0_B c i a2 h2 a3 h3 a4 h4 a5 h5 a6 h6 a7 h7 a8 h8 a9 h9 a10 h10 a11 h11 hc x0 x1 x2 x3 x4 xs).1
    = outL a2 h2 a3 h3 a4 h4 a5 h5 a6 h6 a8 a9 a10 x0 x1 x2 x3 x4 (sB a11 h11 xs) := by
  sl_kernel_rfl

theorem st_B : (kernelRun0_B c i a2 h2 a3 h3 a4 h4 a5 h5 a6 h6 a7 h7 a8 h8 a9 h9 a10 h10 a11 h11 hc x0 x1 x2 x3 x4 xs).2.1
    = stL a2 h2 a3 h3 a4 h4 a5 h5 a8 a9 x0 x1 x2 x3 (sB a11 h11 xs) := by
  sl_kernel_rfl

end RunB

section RunA

variable (c : Dev nD) (i : grid0.Coords)
  (a2 : Memref sig .tc .vmem S512x1024 .f32) (h2 : a2.IsWhole) (a3 : Memref sig .tc .vmem S1024x1664 .bf16) (h3 : a3.IsWhole)
  (a4 : Memref sig .tc .vmem S128x256 .bf16) (h4 : a4.IsWhole) (a5 : Memref sig .tc .vmem S1x256 .f32) (h5 : a5.IsWhole)
  (a6 : Memref sig .tc .vmem S1x128 .f32) (h6 : a6.IsWhole) (a7 : Memref sig .tc .vmem S512x512 .bf16) (h7 : a7.IsWhole)
  (a8 : Memref sig .tc .vmem S512x1664 .f32) (h8 : a8.IsWhole) (a9 : Memref sig .tc .vmem S512x256 .f32) (h9 : a9.IsWhole)
  (a10 : Memref sig .tc .vmem S512x512 .f32) (h10 : a10.IsWhole)
  (a11 : Memref sig .tc .vmem S4x128x64 .f32) (h11 : a11.IsWhole) (hc : cond0_0 i)
  (x0 : Vec F S512x1024 .f32) (x1 : Vec F S1024x1664 .bf16) (x2 : Vec F S128x256 .bf16) (x3 : Vec F S1x256 .f32) (x4 : Vec F S1x128 .f32)

/-- The store that clears the state at the first point of a sequence. -/
def zList : List (View.Piece (Elt F) S4x128x64 .f32) :=
  [⟨Rect.unit ![0, 0, 0] S4x128x64.size inb_S4x128x64_S4x128x64_0_0_0, k0_pay1⟩]
/-- A head's state block loaded after the stores `L`. -/
def ldS (L : List (View.Piece (Elt F) S4x128x64 .f32)) (hh : Fin 4) : Vec F S1x128x64 .f32 :=
  a11.view.readCov L (Rect.unit (s := S4x128x64) ![hh.val, 0, 0] S1x128x64.size (inbSt hh)).toLoadRect
/-- The stores of the state before head `n` at the first point of a sequence: each head loads its block after the
    heads before it have stored theirs. -/
def aList : (n : ℕ) → n ≤ 4 → List (View.Piece (Elt F) S4x128x64 .f32)
  | 0, _ => zList
  | n + 1, h => ⟨Rect.unit ![n, 0, 0] S1x128x64.size (inbSt ⟨n, h⟩),
      newC (gL a2 h2 a3 h3 a4 h4 a5 h5 a8 a9 x0 x1 x2 x3) (kL a2 h2 a3 h3 a8 x0 x1) (vL a2 h2 a3 h3 a8 x0 x1)
        (fun hh => ldS a11 (aList n (Nat.le_of_lt h)) hh) ⟨n, h⟩⟩ :: aList n (Nat.le_of_lt h)
/-- The state blocks the first point of a sequence loads. -/
def sA (hh : Fin 4) : Vec F S1x128x64 .f32 :=
  ldS a11 (aList a2 h2 a3 h3 a4 h4 a5 h5 a8 a9 a11 x0 x1 x2 x3 hh.val (Nat.le_of_lt hh.isLt)) hh

theorem out_A : (kernelRun0_A c i a2 h2 a3 h3 a4 h4 a5 h5 a6 h6 a7 h7 a8 h8 a9 h9 a10 h10 a11 h11 hc x0 x1 x2 x3 x4).1
    = outL a2 h2 a3 h3 a4 h4 a5 h5 a6 h6 a8 a9 a10 x0 x1 x2 x3 x4 (sA a2 h2 a3 h3 a4 h4 a5 h5 a8 a9 a11 x0 x1 x2 x3) := by
  sl_kernel_rfl

theorem st_A : (kernelRun0_A c i a2 h2 a3 h3 a4 h4 a5 h5 a6 h6 a7 h7 a8 h8 a9 h9 a10 h10 a11 h11 hc x0 x1 x2 x3 x4).2.1
    = aList a2 h2 a3 h3 a4 h4 a5 h5 a8 a9 a11 x0 x1 x2 x3 4 (Nat.le_refl 4) := by
  sl_kernel_rfl

end RunA

end Cert.KernelIdeal.GlaBody

end
-- ==== Proof.GlaPoint.lean ====
/- What one grid point of the kernel leaves in its output block and in the carried state, read at an index, as functions of
   the point's projections and log-decays. -/
module

public import proofs.«01_k».proof.Proof.GlaBody
public import Idealize.ShloMosaic.Lib.Pointwise
public import Idealize.ShloMosaic.Lib.WholeRead
public import Idealize.ShloMosaic.Lib.Pipeline.ValueKit

@[expose] public section

set_option maxRecDepth 16384

noncomputable section

namespace Cert.KernelIdeal.GlaPoint

open Idealize.ShloMosaic Cert.KernelIdeal Cert.KernelIdeal.Gen Cert.KernelIdeal.GlaBody

variable {F : FTy → Type} [FloatOps F]

/-- A whole array loaded from offset zero is the array. -/
theorem read_whole {s : Shape} {e : EltTy} (M : Memref sig .tc .vmem s e) (h : M.IsWhole) (off : Fin s.rank → ℕ) (inb : ∀ a, off a + s.size a ≤ s.size a)
    (h0 : ∀ a, off a = 0) (X : s.Idx → Elt F e) :
    View.readAt (Elt F) M.view (Rect.unit off s.size inb).toLoadRect (h.unread X) = X := by
  funext x
  rw [h.readAt_unread]
  refine congrArg X (funext fun a => Fin.ext ?_)
  show off a + 1 * (x a).val = (x a).val
  rw [h0 a]; omega

/-- A load from a buffer filled by one store is the stored value at the load's place. -/
theorem read_filled {s : Shape} {e : EltTy} (v : View sig .tc .vmem s e) (off : Fin s.rank → ℕ) (inb : ∀ a, off a + s.size a ≤ s.size a)
    (h0 : ∀ a, off a = 0) (W : s.Idx → Elt F e) (B : LoadRect s) (j : B.shape.Idx) :
    v.readCov [⟨Rect.unit off s.size inb, W⟩] B j = W (B.idx j) := by
  rw [View.readCov_eq_canon']
  have e : (Rect.unit off s.size inb).emb (B.idx j) = B.idx j := funext fun a => Fin.ext (by
    show off a + 1 * (B.idx j a).val = (B.idx j a).val
    rw [h0 a]; omega)
  exact (congrArg (View.canon _) e.symm).trans (View.canon_cons_emb (Rect.unit off s.size inb) W [] (B.idx j))

theorem z2 : ∀ a : Fin 2, (![0, 0] : Fin 2 → ℕ) a = 0 := by decide
theorem z3 : ∀ a : Fin 3, (![0, 0, 0] : Fin 3 → ℕ) a = 0 := by decide

/-- The columns of the projections from `o` on. -/
def cols (P : Vec F S512x1664 .f32) : Vec F S512x128 .f32 := fun i => P (ix2 (i 0) (⟨1536 + (i 1).val, by have := (i 1).isLt; change _ < 128 at this; omega⟩ : Fin 1664))
/-- The log-decays of the point's 512 tokens. -/
def gateP (x0 : Vec F S512x1024 .f32) (x1 : Vec F S1024x1664 .bf16) (x2 : Vec F S128x256 .bf16) (x3 : Vec F S1x256 .f32) : Vec F S512x256 .f32 :=
  k0_pay3 (cols (k0_pay2 x0 x1)) x2 x3
/-- Chunk `u`'s rows of the log-decays, of the queries, of the keys and of a head's values. -/
def gP (g : Vec F S512x256 .f32) (u : Fin 8) : Vec F S64x256 .f32 := fun i => g (ix2 (⟨64 * u.val + (i 0).val, by have := (i 0).isLt; change _ < 64 at this; omega⟩ : Fin 512) (i 1))
def qP (P : Vec F S512x1664 .f32) (u : Fin 8) : Vec F S64x256 .f32 := fun i =>
  P (ix2 (⟨64 * u.val + (i 0).val, by have := (i 0).isLt; change _ < 64 at this; omega⟩ : Fin 512) (⟨(i 1).val, by have := (i 1).isLt; change _ < 256 at this; omega⟩ : Fin 1664))
def kP (P : Vec F S512x1664 .f32) (u : Fin 8) : Vec F S64x256 .f32 := fun i =>
  P (ix2 (⟨64 * u.val + (i 0).val, by have := (i 0).isLt; change _ < 64 at this; omega⟩ : Fin 512) (⟨256 + (i 1).val, by have := (i 1).isLt; change _ < 256 at this; omega⟩ : Fin 1664))
def vP (P : Vec F S512x1664 .f32) (u : Fin 8) (hh : Fin 4) : Vec F S64x128 .f32 := fun i =>
  P (ix2 (⟨64 * u.val + (i 0).val, by have := (i 0).isLt; change _ < 64 at this; omega⟩ : Fin 512) (⟨512 + 128 * hh.val + (i 1).val, by have := (i 1).isLt; change _ < 128 at this; omega⟩ : Fin 1664))
def rP (P : Vec F S512x1664 .f32) : Vec F S512x512 .f32 := fun i =>
  P (ix2 (i 0) (⟨1024 + (i 1).val, by have := (i 1).isLt; change _ < 512 at this; omega⟩ : Fin 1664))

section

variable (a2 : Memref sig .tc .vmem S512x1024 .f32) (h2 : a2.IsWhole) (a3 : Memref sig .tc .vmem S1024x1664 .bf16) (h3 : a3.IsWhole)
  (a4 : Memref sig .tc .vmem S128x256 .bf16) (h4 : a4.IsWhole) (a5 : Memref sig .tc .vmem S1x256 .f32) (h5 : a5.IsWhole)
  (a6 : Memref sig .tc .vmem S1x128 .f32) (h6 : a6.IsWhole)
  (a8 : Memref sig .tc .vmem S512x1664 .f32) (a9 : Memref sig .tc .vmem S512x256 .f32) (a10 : Memref sig .tc .vmem S512x512 .f32)
  (a11 : Memref sig .tc .vmem S4x128x64 .f32) (h11 : a11.IsWhole)
  (x0 : Vec F S512x1024 .f32) (x1 : Vec F S1024x1664 .bf16) (x2 : Vec F S128x256 .bf16) (x3 : Vec F S1x256 .f32) (x4 : Vec F S1x128 .f32)
  (xs : Vec F S4x128x64 .f32)

theorem pList_eq : pList a2 h2 a3 h3 x0 x1 = [⟨Rect.unit ![0, 0] S512x1664.size inb_S512x1664_S512x1664_0_0, k0_pay2 x0 x1⟩] := by
  unfold pList
  rw [read_whole a2 h2 _ _ z2, read_whole a3 h3 _ _ z2]
theorem gList_eq : gList a2 h2 a3 h3 a4 h4 a5 h5 a8 x0 x1 x2 x3 = [⟨Rect.unit ![0, 0] S512x256.size inb_S512x256_S512x256_0_0, gateP x0 x1 x2 x3⟩] := by
  unfold gList gateP
  rw [read_whole a4 h4 _ _ z2, read_whole a5 h5 _ _ z2, pList_eq]
  congr 3
  funext j
  rw [read_filled _ _ _ z2]
  exact congrArg (k0_pay2 x0 x1) (by rw [eq_ix2 j]; idx_ext)

theorem gL_eq (u : Fin 8) : gL a2 h2 a3 h3 a4 h4 a5 h5 a8 a9 x0 x1 x2 x3 u = gP (gateP x0 x1 x2 x3) u := by
  funext j
  unfold gL
  rw [gList_eq, read_filled _ _ _ z2]
  exact congrArg (gateP x0 x1 x2 x3) (by rw [eq_ix2 j]; idx_ext)
theorem qL_eq (u : Fin 8) : qL a2 h2 a3 h3 a8 x0 x1 u = qP (k0_pay2 x0 x1) u := by
  funext j
  unfold qL
  rw [pList_eq, read_filled _ _ _ z2]
  exact congrArg (k0_pay2 x0 x1) (by rw [eq_ix2 j]; idx_ext)
theorem kL_eq (u : Fin 8) : kL a2 h2 a3 h3 a8 x0 x1 u = kP (k0_pay2 x0 x1) u := by
  funext j
  unfold kL
  rw [pList_eq, read_filled _ _ _ z2]
  exact congrArg (k0_pay2 x0 x1) (by rw [eq_ix2 j]; idx_ext)
theorem vL_eq (u : Fin 8) (hh : Fin 4) : vL a2 h2 a3 h3 a8 x0 x1 u hh = vP (k0_pay2 x0 x1) u hh := by
  funext j
  unfold vL
  rw [pList_eq, read_filled _ _ _ z2]
  exact congrArg (k0_pay2 x0 x1) (by rw [eq_ix2 j]; idx_ext)
theorem rL_eq : rL a2 h2 a3 h3 a8 x0 x1 = rP (k0_pay2 x0 x1) := by
  funext j
  unfold rL
  rw [pList_eq, read_filled _ _ _ z2]
  exact congrArg (k0_pay2 x0 x1) (by rw [eq_ix2 j]; idx_ext)
theorem ngL_eq : ngL a6 h6 x4 = x4 := read_whole a6 h6 _ _ z2 x4

/-- A head's block of the state. -/
def sP (xs : Vec F S4x128x64 .f32) (hh : Fin 4) : Vec F S1x128x64 .f32 := fun i => xs (ix3 hh (i 1) (i 2))

theorem sB_eq (hh : Fin 4) : sB a11 h11 xs hh = sP xs hh := by
  funext j
  unfold sB
  rw [h11.readAt_unread]
  exact congrArg xs (by rw [eq_ix3 j]; idx_ext)

/-! The stores read at an index. -/

section Pieces

variable (G Q K : Fin 8 → Vec F S64x256 .f32) (V : Fin 8 → Fin 4 → Vec F S64x128 .f32)

theorem acc_at (S : Fin 4 → Vec F S1x128x64 .f32) (hh : Fin 4) (u : Fin 8) (t : Fin 64) (e : Fin 128) :
    View.canon (accPieces G Q K V S) (ix2 (⟨64 * u.val + t.val, by omega⟩ : Fin 512) (⟨128 * hh.val + e.val, by omega⟩ : Fin 512))
      = accC G Q K V S hh u (ix2 t e) := by
  have key := View.canon_apply_of_pieces
    (fun y : S512x512.Idx => accC G Q K V S ⟨(y 1).val / 128, by have := (y 1).isLt; change _ < 512 at this; omega⟩ ⟨(y 0).val / 64, by have := (y 0).isLt; change _ < 512 at this; omega⟩
      (ix2 (⟨(y 0).val % 64, Nat.mod_lt _ (by decide)⟩ : Fin 64) (⟨(y 1).val % 128, Nat.mod_lt _ (by decide)⟩ : Fin 128)))
    (accPieces G Q K V S) ?_ (ix2 (⟨64 * u.val + t.val, by omega⟩ : Fin 512) (⟨128 * hh.val + e.val, by omega⟩ : Fin 512)) ?_
  · refine key.trans ?_
    have e1 : (⟨(128 * hh.val + e.val) / 128, by omega⟩ : Fin 4) = hh := Fin.ext (by show (128 * hh.val + e.val) / 128 = hh.val; omega)
    have e2 : (⟨(64 * u.val + t.val) / 64, by omega⟩ : Fin 8) = u := Fin.ext (by show (64 * u.val + t.val) / 64 = u.val; omega)
    have e3 : (⟨(64 * u.val + t.val) % 64, Nat.mod_lt _ (by decide)⟩ : Fin 64) = t := Fin.ext (by show (64 * u.val + t.val) % 64 = t.val; omega)
    have e4 : (⟨(128 * hh.val + e.val) % 128, Nat.mod_lt _ (by decide)⟩ : Fin 128) = e := Fin.ext (by show (128 * hh.val + e.val) % 128 = e.val; omega)
    show accC G Q K V S ⟨(128 * hh.val + e.val) / 128, _⟩ ⟨(64 * u.val + t.val) / 64, _⟩ (ix2 ⟨(64 * u.val + t.val) % 64, _⟩ ⟨(128 * hh.val + e.val) % 128, _⟩) = _
    rw [e1, e2, e3, e4]
  · intro p hp x
    obtain ⟨h', _, hp⟩ := List.mem_flatMap.mp hp
    obtain ⟨u', _, rfl⟩ := List.mem_map.mp hp
    have hx0 : (x 0).val < 64 := (x 0).isLt
    have hx1 : (x 1).val < 128 := (x 1).isLt
    have e1 : (⟨(128 * h'.val + 1 * (x 1).val) / 128, by omega⟩ : Fin 4) = h' := Fin.ext (by show (128 * h'.val + 1 * (x 1).val) / 128 = h'.val; omega)
    have e2 : (⟨(64 * u'.val + 1 * (x 0).val) / 64, by omega⟩ : Fin 8) = u' := Fin.ext (by show (64 * u'.val + 1 * (x 0).val) / 64 = u'.val; omega)
    have e3 : (ix2 (⟨(64 * u'.val + 1 * (x 0).val) % 64, Nat.mod_lt _ (by decide)⟩ : Fin 64) (⟨(128 * h'.val + 1 * (x 1).val) % 128, Nat.mod_lt _ (by decide)⟩ : Fin 128) : S64x128.Idx) = x := by
      funext a
      match a with
      | ⟨0, _⟩ => exact Fin.ext (by show (64 * u'.val + 1 * (x 0).val) % 64 = (x 0).val; omega)
      | ⟨1, _⟩ => exact Fin.ext (by show (128 * h'.val + 1 * (x 1).val) % 128 = (x 1).val; omega)
    show accC G Q K V S h' u' x = accC G Q K V S ⟨(128 * h'.val + 1 * (x 1).val) / 128, _⟩ ⟨(64 * u'.val + 1 * (x 0).val) / 64, _⟩
      (ix2 (⟨(64 * u'.val + 1 * (x 0).val) % 64, _⟩ : Fin 64) (⟨(128 * h'.val + 1 * (x 1).val) % 128, _⟩ : Fin 128))
    rw [e1, e2, e3]
  · refine ⟨_, List.mem_flatMap.mpr ⟨hh, List.mem_reverse.mpr (List.mem_finRange hh), List.mem_map.mpr ⟨u, List.mem_reverse.mpr (List.mem_finRange u), rfl⟩⟩, ?_⟩
    refine (Rect.mem_set_unit (inb := inbAcc u hh)).mpr fun a => ?_
    match a with
    | ⟨0, _⟩ => exact ⟨by show 64 * u.val ≤ 64 * u.val + t.val; omega, by show 64 * u.val + t.val < 64 * u.val + 64; omega⟩
    | ⟨1, _⟩ => exact ⟨by show 128 * hh.val ≤ 128 * hh.val + e.val; omega, by show 128 * hh.val + e.val < 128 * hh.val + 128; omega⟩

theorem out_at (r : FVec F S512x512 .f32) (ng : FVec F S1x128 .f32) (Y : Fin 4 → Vec F S512x128 .f32) (hh : Fin 4) (t : Fin 512) (e : Fin 128) :
    View.canon (outPieces r ng Y) (ix2 t (⟨128 * hh.val + e.val, by omega⟩ : Fin 512)) = finC hh r ng (Y hh) (ix2 t e) := by
  have key := View.canon_apply_of_pieces
    (fun y : S512x512.Idx => finC ⟨(y 1).val / 128, by have := (y 1).isLt; change _ < 512 at this; omega⟩ r ng (Y ⟨(y 1).val / 128, by have := (y 1).isLt; change _ < 512 at this; omega⟩)
      (ix2 (⟨(y 0).val, (y 0).isLt⟩ : Fin 512) (⟨(y 1).val % 128, Nat.mod_lt _ (by decide)⟩ : Fin 128)))
    (outPieces r ng Y) ?_ (ix2 t (⟨128 * hh.val + e.val, by omega⟩ : Fin 512)) ?_
  · refine key.trans ?_
    have e1 : (⟨(128 * hh.val + e.val) / 128, by omega⟩ : Fin 4) = hh := Fin.ext (by show (128 * hh.val + e.val) / 128 = hh.val; omega)
    have e4 : (⟨(128 * hh.val + e.val) % 128, Nat.mod_lt _ (by decide)⟩ : Fin 128) = e := Fin.ext (by show (128 * hh.val + e.val) % 128 = e.val; omega)
    show finC ⟨(128 * hh.val + e.val) / 128, _⟩ r ng (Y ⟨(128 * hh.val + e.val) / 128, _⟩) (ix2 t ⟨(128 * hh.val + e.val) % 128, _⟩) = _
    rw [e1, e4]
  · intro p hp x
    obtain ⟨h', _, rfl⟩ := List.mem_map.mp hp
    have hx0 : (x 0).val < 512 := (x 0).isLt
    have hx1 : (x 1).val < 128 := (x 1).isLt
    have e1 : (⟨(128 * h'.val + 1 * (x 1).val) / 128, by omega⟩ : Fin 4) = h' := Fin.ext (by show (128 * h'.val + 1 * (x 1).val) / 128 = h'.val; omega)
    have e3 : (ix2 (⟨0 + 1 * (x 0).val, by omega⟩ : Fin 512) (⟨(128 * h'.val + 1 * (x 1).val) % 128, Nat.mod_lt _ (by decide)⟩ : Fin 128) : S512x128.Idx) = x := by
      funext a
      match a with
      | ⟨0, _⟩ => exact Fin.ext (by show 0 + 1 * (x 0).val = (x 0).val; omega)
      | ⟨1, _⟩ => exact Fin.ext (by show (128 * h'.val + 1 * (x 1).val) % 128 = (x 1).val; omega)
    show finC h' r ng (Y h') x = finC ⟨(128 * h'.val + 1 * (x 1).val) / 128, _⟩ r ng (Y ⟨(128 * h'.val + 1 * (x 1).val) / 128, _⟩)
      (ix2 (⟨0 + 1 * (x 0).val, _⟩ : Fin 512) (⟨(128 * h'.val + 1 * (x 1).val) % 128, _⟩ : Fin 128))
    rw [e1, e3]
  · refine ⟨_, List.mem_map.mpr ⟨hh, List.mem_reverse.mpr (List.mem_finRange hh), rfl⟩, ?_⟩
    refine (Rect.mem_set_unit (inb := inbCol hh)).mpr fun a => ?_
    match a with
    | ⟨0, _⟩ => exact ⟨Nat.zero_le _, by show t.val < 0 + 512; omega⟩
    | ⟨1, _⟩ => exact ⟨by show 128 * hh.val ≤ 128 * hh.val + e.val; omega, by show 128 * hh.val + e.val < 128 * hh.val + 128; omega⟩

theorem st_at (S : Fin 4 → Vec F S1x128x64 .f32) (hh : Fin 4) (e : Fin 128) (c : Fin 64) :
    View.canon (stPieces G K V S) (ix3 hh e c) = newC G K V S hh (ix3 (0 : Fin 1) e c) := by
  have key := View.canon_apply_of_pieces
    (fun y : S4x128x64.Idx => newC G K V S (y 0) (ix3 (0 : Fin 1) (y 1) (y 2)))
    (stPieces G K V S) ?_ (ix3 hh e c) ?_
  · exact key
  · intro p hp x
    obtain ⟨h', _, rfl⟩ := List.mem_map.mp hp
    have hx0 : (x 0).val < 1 := (x 0).isLt
    have hx1 : (x 1).val < 128 := (x 1).isLt
    have hx2 : (x 2).val < 64 := (x 2).isLt
    have e1 : (⟨h'.val + 1 * (x 0).val, by omega⟩ : Fin 4) = h' := Fin.ext (by show h'.val + 1 * (x 0).val = h'.val; omega)
    have e3 : (ix3 (0 : Fin 1) (⟨0 + 1 * (x 1).val, by omega⟩ : Fin 128) (⟨0 + 1 * (x 2).val, by omega⟩ : Fin 64) : S1x128x64.Idx) = x := by
      funext a
      match a with
      | ⟨0, _⟩ => exact Fin.ext (by show 0 = (x 0).val; omega)
      | ⟨1, _⟩ => exact Fin.ext (by show 0 + 1 * (x 1).val = (x 1).val; omega)
      | ⟨2, _⟩ => exact Fin.ext (by show 0 + 1 * (x 2).val = (x 2).val; omega)
    show newC G K V S h' x = newC G K V S ⟨h'.val + 1 * (x 0).val, _⟩ (ix3 (0 : Fin 1) (⟨0 + 1 * (x 1).val, _⟩ : Fin 128) (⟨0 + 1 * (x 2).val, _⟩ : Fin 64))
    rw [e1, e3]
  · refine ⟨_, List.mem_map.mpr ⟨hh, List.mem_reverse.mpr (List.mem_finRange hh), rfl⟩, ?_⟩
    refine (Rect.mem_set_unit (inb := inbSt hh)).mpr fun a => ?_
    match a with
    | ⟨0, _⟩ => exact ⟨le_refl _, by show hh.val < hh.val + 1; omega⟩
    | ⟨1, _⟩ => exact ⟨Nat.zero_le _, by show e.val < 0 + 128; omega⟩
    | ⟨2, _⟩ => exact ⟨Nat.zero_le _, by show c.val < 0 + 64; omega⟩

end Pieces

/-! The outputs and the state of a point. -/

/-- A head's outputs of the point's 512 tokens, from the projections `P`, the log-decays `g` and the state blocks `S`. -/
def yP (P : Vec F S512x1664 .f32) (g : Vec F S512x256 .f32) (S : Fin 4 → Vec F S1x128x64 .f32) (hh : Fin 4) : Vec F S512x128 .f32 := fun i =>
  accC (gP g) (qP P) (kP P) (vP P) S hh ⟨(i 0).val / 64, by have := (i 0).isLt; change _ < 512 at this; omega⟩ (ix2 (⟨(i 0).val % 64, Nat.mod_lt _ (by decide)⟩ : Fin 64) (i 1))
/-- A head's block of the output. -/
def outP (P : Vec F S512x1664 .f32) (g : Vec F S512x256 .f32) (x4 : Vec F S1x128 .f32) (S : Fin 4 → Vec F S1x128x64 .f32) (hh : Fin 4) : FVec F S512x128 .bf16 :=
  finC hh (k0_pay281 (rP P)) (k0_pay282 x4) (yP P g S hh)
/-- A head's state block after the point. -/
def stP (P : Vec F S512x1664 .f32) (g : Vec F S512x256 .f32) (S : Fin 4 → Vec F S1x128x64 .f32) (hh : Fin 4) : FVec F S1x128x64 .f32 :=
  newC (gP g) (kP P) (vP P) S hh

theorem accL_eq (S : Fin 4 → Vec F S1x128x64 .f32) : accL a2 h2 a3 h3 a4 h4 a5 h5 a8 a9 x0 x1 x2 x3 S =
    accPieces (gP (gateP x0 x1 x2 x3)) (qP (k0_pay2 x0 x1)) (kP (k0_pay2 x0 x1)) (vP (k0_pay2 x0 x1)) S := by
  unfold accL
  rw [show gL a2 h2 a3 h3 a4 h4 a5 h5 a8 a9 x0 x1 x2 x3 = gP (gateP x0 x1 x2 x3) from funext fun u => gL_eq _ _ _ _ _ _ _ _ _ _ _ _ _ _ u,
    show qL a2 h2 a3 h3 a8 x0 x1 = qP (k0_pay2 x0 x1) from funext fun u => qL_eq _ _ _ _ _ _ _ u,
    show kL a2 h2 a3 h3 a8 x0 x1 = kP (k0_pay2 x0 x1) from funext fun u => kL_eq _ _ _ _ _ _ _ u,
    show vL a2 h2 a3 h3 a8 x0 x1 = vP (k0_pay2 x0 x1) from funext fun u => funext fun hh => vL_eq _ _ _ _ _ _ _ u hh]
theorem newL_eq (S : Fin 4 → Vec F S1x128x64 .f32) (hh : Fin 4) :
    newC (gL a2 h2 a3 h3 a4 h4 a5 h5 a8 a9 x0 x1 x2 x3) (kL a2 h2 a3 h3 a8 x0 x1) (vL a2 h2 a3 h3 a8 x0 x1) S hh
      = stP (k0_pay2 x0 x1) (gateP x0 x1 x2 x3) S hh := by
  unfold stP
  rw [show gL a2 h2 a3 h3 a4 h4 a5 h5 a8 a9 x0 x1 x2 x3 = gP (gateP x0 x1 x2 x3) from funext fun u => gL_eq _ _ _ _ _ _ _ _ _ _ _ _ _ _ u,
    show kL a2 h2 a3 h3 a8 x0 x1 = kP (k0_pay2 x0 x1) from funext fun u => kL_eq _ _ _ _ _ _ _ u,
    show vL a2 h2 a3 h3 a8 x0 x1 = vP (k0_pay2 x0 x1) from funext fun u => funext fun hh => vL_eq _ _ _ _ _ _ _ u hh]

theorem outL_at (S : Fin 4 → Vec F S1x128x64 .f32) (hh : Fin 4) (t : Fin 512) (e : Fin 128) :
    View.canon (outL a2 h2 a3 h3 a4 h4 a5 h5 a6 h6 a8 a9 a10 x0 x1 x2 x3 x4 S) (ix2 t (⟨128 * hh.val + e.val, by omega⟩ : Fin 512))
      = outP (k0_pay2 x0 x1) (gateP x0 x1 x2 x3) x4 S hh (ix2 t e) := by
  unfold outL outP
  rw [out_at, rL_eq, ngL_eq, accL_eq]
  refine congrArg (fun Y => finC hh (k0_pay281 (rP (k0_pay2 x0 x1))) (k0_pay282 x4) Y (ix2 t e)) ?_
  funext j
  rw [View.readCov_eq_canon']
  have h0 : (j 0).val < 512 := (j 0).isLt
  refine Eq.trans (congrArg (View.canon _) ?_) (acc_at _ _ _ _ S hh ⟨(j 0).val / 64, by omega⟩ ⟨(j 0).val % 64, by omega⟩ (j 1))
  funext a
  match a with
  | ⟨0, _⟩ => exact Fin.ext (by show 0 + 1 * (j 0).val = 64 * ((j 0).val / 64) + (j 0).val % 64; omega)
  | ⟨1, _⟩ => exact Fin.ext (by show 128 * hh.val + 1 * (j 1).val = 128 * hh.val + (j 1).val; omega)

theorem stL_at (S : Fin 4 → Vec F S1x128x64 .f32) (hh : Fin 4) (e : Fin 128) (c : Fin 64) :
    View.canon (stL a2 h2 a3 h3 a4 h4 a5 h5 a8 a9 x0 x1 x2 x3 S) (ix3 hh e c) = stP (k0_pay2 x0 x1) (gateP x0 x1 x2 x3) S hh (ix3 (0 : Fin 1) e c) := by
  unfold stL
  rw [st_at, newL_eq]

theorem zList_at (y : S4x128x64.Idx) : View.canon (zList (F := F)) y = k0_pay1 y := by
  unfold zList
  have e : (Rect.unit ![0, 0, 0] S4x128x64.size inb_S4x128x64_S4x128x64_0_0_0).emb y = y := funext fun a => Fin.ext (by
    show (![0, 0, 0] : Fin 3 → ℕ) a + 1 * (y a).val = (y a).val
    rw [z3 a]; omega)
  refine (congrArg (View.canon _) e.symm).trans ((View.canon_cons_emb (Rect.unit ![0, 0, 0] S4x128x64.size inb_S4x128x64_S4x128x64_0_0_0) _ _ y).trans ?_)
  rfl

theorem newC_congr (G K : Fin 8 → Vec F S64x256 .f32) (V : Fin 8 → Fin 4 → Vec F S64x128 .f32) (S S' : Fin 4 → Vec F S1x128x64 .f32) (hh : Fin 4)
    (h : S hh = S' hh) : newC G K V S hh = newC G K V S' hh := by
  unfold newC; rw [h]

/-- A later head's block is still clear when the heads before it have stored theirs. -/
theorem aList_clear : ∀ (n : ℕ) (hn : n ≤ 4) (hh : Fin 4) (_ : n ≤ hh.val) (e : Fin 128) (c : Fin 64),
    View.canon (aList a2 h2 a3 h3 a4 h4 a5 h5 a8 a9 a11 x0 x1 x2 x3 n hn) (ix3 hh e c) = k0_pay1 (ix3 hh e c)
  | 0, _, hh, _, e, c => zList_at _
  | n + 1, hn, hh, h, e, c => by
    unfold aList
    rw [View.canon_cons_of_not_mem]
    · exact aList_clear n (Nat.le_of_lt hn) hh (by omega) e c
    · intro hm
      have := ((Rect.mem_set_unit (inb := inbSt ⟨n, hn⟩)).mp hm 0).2
      change hh.val < n + 1 at this
      omega

theorem sA_eq (hh : Fin 4) : sA a2 h2 a3 h3 a4 h4 a5 h5 a8 a9 a11 x0 x1 x2 x3 hh = sP k0_pay1 hh := by
  funext j
  unfold sA ldS
  rw [View.readCov_eq_canon']
  have h0 : (j 0).val < 1 := (j 0).isLt
  refine Eq.trans (congrArg (View.canon _) ?_) (aList_clear a2 h2 a3 h3 a4 h4 a5 h5 a8 a9 a11 x0 x1 x2 x3 hh.val (Nat.le_of_lt hh.isLt) hh (le_refl _) (j 1) (j 2))
  funext a
  match a with
  | ⟨0, _⟩ => exact Fin.ext (by show hh.val + 1 * (j 0).val = hh.val; omega)
  | ⟨1, _⟩ => exact Fin.ext (by show 0 + 1 * (j 1).val = (j 1).val; omega)
  | ⟨2, _⟩ => exact Fin.ext (by show 0 + 1 * (j 2).val = (j 2).val; omega)

theorem aList_at : ∀ (n : ℕ) (hn : n ≤ 4) (hh : Fin 4) (_ : hh.val < n) (e : Fin 128) (c : Fin 64),
    View.canon (aList a2 h2 a3 h3 a4 h4 a5 h5 a8 a9 a11 x0 x1 x2 x3 n hn) (ix3 hh e c)
      = stP (k0_pay2 x0 x1) (gateP x0 x1 x2 x3) (sP k0_pay1) hh (ix3 (0 : Fin 1) e c)
  | 0, _, hh, h, e, c => absurd h (Nat.not_lt_zero _)
  | n + 1, hn, hh, h, e, c => by
    unfold aList
    by_cases hq : hh.val = n
    · obtain rfl : hh = ⟨n, hn⟩ := Fin.ext hq
      have em : (Rect.unit (s := S4x128x64) ![n, 0, 0] S1x128x64.size (inbSt ⟨n, hn⟩)).emb (ix3 (0 : Fin 1) e c) = ix3 (⟨n, hn⟩ : Fin 4) e c := by
        funext a
        match a with
        | ⟨0, _⟩ => exact Fin.ext (by show n + 1 * 0 = n; omega)
        | ⟨1, _⟩ => exact Fin.ext (by show 0 + 1 * e.val = e.val; omega)
        | ⟨2, _⟩ => exact Fin.ext (by show 0 + 1 * c.val = c.val; omega)
      refine (congrArg (View.canon _) em.symm).trans ((View.canon_cons_emb (Rect.unit (s := S4x128x64) ![n, 0, 0] S1x128x64.size (inbSt ⟨n, hn⟩)) _ _ (ix3 (0 : Fin 1) e c)).trans ?_)
      rw [newL_eq]
      exact congrFun (newC_congr _ _ _ _ _ _ (sA_eq a2 h2 a3 h3 a4 h4 a5 h5 a8 a9 a11 x0 x1 x2 x3 ⟨n, hn⟩)) _
    · rw [View.canon_cons_of_not_mem]
      · exact aList_at n (Nat.le_of_lt hn) hh (by omega) e c
      · intro hm
        have := ((Rect.mem_set_unit (inb := inbSt ⟨n, hn⟩)).mp hm 0).1
        change n ≤ hh.val at this
        omega

end

section Cases

variable (c : Dev nD) (i : grid0.Coords)
  (a2 : Memref sig .tc .vmem S512x1024 .f32) (h2 : a2.IsWhole) (a3 : Memref sig .tc .vmem S1024x1664 .bf16) (h3 : a3.IsWhole)
  (a4 : Memref sig .tc .vmem S128x256 .bf16) (h4 : a4.IsWhole) (a5 : Memref sig .tc .vmem S1x256 .f32) (h5 : a5.IsWhole)
  (a6 : Memref sig .tc .vmem S1x128 .f32) (h6 : a6.IsWhole) (a7 : Memref sig .tc .vmem S512x512 .bf16) (h7 : a7.IsWhole)
  (a8 : Memref sig .tc .vmem S512x1664 .f32) (h8 : a8.IsWhole) (a9 : Memref sig .tc .vmem S512x256 .f32) (h9 : a9.IsWhole)
  (a10 : Memref sig .tc .vmem S512x512 .f32) (h10 : a10.IsWhole)
  (a11 : Memref sig .tc .vmem S4x128x64 .f32) (h11 : a11.IsWhole)
  (x0 : Vec F S512x1024 .f32) (x1 : Vec F S1024x1664 .bf16) (x2 : Vec F S128x256 .bf16) (x3 : Vec F S1x256 .f32) (x4 : Vec F S1x128 .f32)
  (xs : Vec F S4x128x64 .f32)

theorem outA_at (hc : cond0_0 i) (hh : Fin 4) (t : Fin 512) (e : Fin 128) :
    out0_A_5 c i a2 h2 a3 h3 a4 h4 a5 h5 a6 h6 a7 h7 a8 h8 a9 h9 a10 h10 a11 h11 hc x0 x1 x2 x3 x4 (ix2 t (⟨128 * hh.val + e.val, by omega⟩ : Fin 512))
      = outP (k0_pay2 x0 x1) (gateP x0 x1 x2 x3) x4 (sP k0_pay1) hh (ix2 t e) := by
  unfold out0_A_5
  rw [View.read_writes_junk_eq_canon, out_A, outL_at]
  rw [show sA a2 h2 a3 h3 a4 h4 a5 h5 a8 a9 a11 x0 x1 x2 x3 = sP k0_pay1 from funext fun hh => sA_eq _ _ _ _ _ _ _ _ _ _ _ _ _ _ _ hh]

theorem outB_at (hc : ¬cond0_0 i) (hh : Fin 4) (t : Fin 512) (e : Fin 128) :
    out0_B_5 c i a2 h2 a3 h3 a4 h4 a5 h5 a6 h6 a7 h7 a8 h8 a9 h9 a10 h10 a11 h11 hc x0 x1 x2 x3 x4 xs (ix2 t (⟨128 * hh.val + e.val, by omega⟩ : Fin 512))
      = outP (k0_pay2 x0 x1) (gateP x0 x1 x2 x3) x4 (sP xs) hh (ix2 t e) := by
  unfold out0_B_5
  rw [View.read_writes_junk_eq_canon, out_B, outL_at]
  rw [show sB a11 h11 xs = sP xs from funext fun hh => sB_eq _ _ _ hh]

theorem stA_at (hc : cond0_0 i) (hh : Fin 4) (e : Fin 128) (k : Fin 64) :
    sout0_A_3 c i a2 h2 a3 h3 a4 h4 a5 h5 a6 h6 a7 h7 a8 h8 a9 h9 a10 h10 a11 h11 hc x0 x1 x2 x3 x4 (ix3 hh e k)
      = stP (k0_pay2 x0 x1) (gateP x0 x1 x2 x3) (sP k0_pay1) hh (ix3 (0 : Fin 1) e k) := by
  unfold sout0_A_3
  rw [View.read_writes_junk_eq_canon, st_A, aList_at _ _ _ _ _ _ _ _ _ _ _ _ _ _ _ 4 _ hh hh.isLt]

theorem stB_at (hc : ¬cond0_0 i) (hh : Fin 4) (e : Fin 128) (k : Fin 64) :
    sout0_B_3 c i a2 h2 a3 h3 a4 h4 a5 h5 a6 h6 a7 h7 a8 h8 a9 h9 a10 h10 a11 h11 hc x0 x1 x2 x3 x4 xs (ix3 hh e k)
      = stP (k0_pay2 x0 x1) (gateP x0 x1 x2 x3) (sP xs) hh (ix3 (0 : Fin 1) e k) := by
  unfold sout0_B_3
  rw [View.read_writes_junk_eq_canon, st_B, stL_at]
  rw [show sB a11 h11 xs = sP xs from funext fun hh => sB_eq _ _ _ hh]

end Cases

end Cert.KernelIdeal.GlaPoint

end
-- ==== Proof.GlaHost.lean ====
/- What the kernel's host code hands to the kernel: the reshaped stream, the gathered and scaled projection weights, and the
   padded decay weights. -/
module

public import proofs.«01_k».proof.Proof.GlaBody
public import Idealize.ShloMosaic.Lib.Pointwise

@[expose] public section

set_option maxRecDepth 16384

noncomputable section

namespace Cert.KernelIdeal.GlaHost

open Idealize.ShloMosaic Idealize.ShloMosaic.TcCoe Cert.KernelIdeal Cert.KernelIdeal.Gen

variable {F : FTy → Type} [FloatOps F]

/-- The gathered projection weights: the queries' scaled, the keys', values', gate's and decay's, and a zero tail. -/
def wAll (w : FVec F S1024x6612 .f32) : FVec F S1024x1664 .bf16 :=
  truncf .bf16 (concatenate S1024x1664 1
    [⟨S1024x256, (mulf (extractStridedSlice S1024x256 ![0, 964] w slices_S1024x6612_S1024x256_0_964)
        (broadcastInDim S1024x256 ![] bcast_S_S1024x256 (constant S_ .f32 0x3E000000#32)) : FVec F S1024x256 .f32)⟩,
      ⟨S1024x256, extractStridedSlice S1024x256 ![0, 1220] w slices_S1024x6612_S1024x256_0_1220⟩,
      ⟨S1024x512, extractStridedSlice S1024x512 ![0, 1476] w slices_S1024x6612_S1024x512_0_1476⟩,
      ⟨S1024x512, extractStridedSlice S1024x512 ![0, 2004] w slices_S1024x6612_S1024x512_0_2004⟩,
      ⟨S1024x16, extractStridedSlice S1024x16 ![0, 1988] w slices_S1024x6612_S1024x16_0_1988⟩,
      ⟨S1024x112, broadcastInDim S1024x112 ![] bcast_S_S1024x112 (constant S_ .f32 0x00000000#32)⟩]
    concatenates_S1024x256_S1024x256_S1024x512_S1024x512_S1024x16_S1024x112_S1024x1664_d1) bitsLt_bf16_f32
/-- The decay's second weights, padded with zero rows. -/
def waAll (w : FVec F S16x256 .f32) : FVec F S128x256 .bf16 :=
  truncf .bf16 (concatenate S128x256 0 [⟨S16x256, w⟩, ⟨S112x256, broadcastInDim S112x256 ![] bcast_S_S112x256 (constant S_ .f32 0x00000000#32)⟩]
    concatenates_S16x256_S112x256_S128x256_d0) bitsLt_bf16_f32

variable (m : (ℓ : Loc nD τ sig) → Buf (Elt F) ℓ) (c : Dev nD)

theorem V_0 : V m c (Pipeline.arrRef spec0 0) = shapeCast S32768x1024 (m ((c : Thread nD τ).loc main_arg0) : FVec F S8x4096x1024 .f32) shapeCasts_S8x4096x1024_S32768x1024 := by rfl
theorem V_1 : V m c (Pipeline.arrRef spec0 1) = wAll (m ((c : Thread nD τ).loc main_arg1)) := by rfl
theorem V_2 : V m c (Pipeline.arrRef spec0 2) = waAll (m ((c : Thread nD τ).loc main_arg2)) := by rfl
theorem V_3 : V m c (Pipeline.arrRef spec0 3) = shapeCast S1x256 (m ((c : Thread nD τ).loc main_arg3) : FVec F S256 .f32) shapeCasts_S256_S1x256 := by rfl
theorem V_4 : V m c (Pipeline.arrRef spec0 4) = shapeCast S1x128 (m ((c : Thread nD τ).loc main_arg4) : FVec F S128 .f32) shapeCasts_S128_S1x128 := by rfl

end Cert.KernelIdeal.GlaHost

end
-- ==== Proof.GlaSpec.lean ====
/- One head's chunk of the gated linear attention over the extended reals: the running log-decay, the scores, the
   outputs and the next state, and the identities by which the kernel's anchored decays are the reference's. -/
module

public import Idealize.ShloMosaic.Lib.Pointwise

@[expose] public section

noncomputable section

namespace Cert.GlaSpec

open Idealize.ShloMosaic

/-- The running sum of the log-decays `γ` of lane `c`, up to and including token `t`. -/
def cum (γ : Fin 64 → Fin 64 → EReal) (t c : Fin 64) : EReal := ∑ s, if s ≤ t then γ s c else 0

/-- The decayed score of token `t` with token `s`. -/
def score (γ q k : Fin 64 → Fin 64 → EReal) (t s : Fin 64) : EReal :=
  if s ≤ t then ∑ c, q t c * (Ideal.exp (cum γ t c - cum γ s c) * k s c) else 0

/-- The outputs of a chunk, from the state `S` before it. -/
def out (γ q k : Fin 64 → Fin 64 → EReal) (v S : Fin 64 → Fin 128 → EReal) (t : Fin 64) (e : Fin 128) : EReal :=
  (∑ s, score γ q k t s * v s e) + ∑ c, (q t c * Ideal.exp (cum γ t c)) * S c e

/-- The state after a chunk. -/
def next (γ k : Fin 64 → Fin 64 → EReal) (v S : Fin 64 → Fin 128 → EReal) (c : Fin 64) (e : Fin 128) : EReal :=
  Ideal.exp (cum γ 63 c) * S c e + ∑ s, (k s c * Ideal.exp (cum γ 63 c - cum γ s c)) * v s e

theorem cum_anti (γ : Fin 64 → Fin 64 → EReal) (h : ∀ s c, γ s c ≤ 0) {s t : Fin 64} (hst : s ≤ t) (c : Fin 64) :
    cum γ t c ≤ cum γ s c := by
  refine Finset.sum_le_sum fun r _ => ?_
  by_cases hr : r ≤ s
  · rw [if_pos hr, if_pos (hr.trans hst)]
  · rw [if_neg hr]
    split
    · exact h r c
    · exact le_refl _

theorem cum_nonpos (γ : Fin 64 → Fin 64 → EReal) (h : ∀ s c, γ s c ≤ 0) (t c : Fin 64) : cum γ t c ≤ 0 := by
  refine Finset.sum_nonpos fun r _ => ?_
  split
  · exact h r c
  · exact le_refl _

/-- The decay between two tokens through an anchor `r` before both. -/
theorem decay_anchor {bt bs r : EReal} (hts : bt ≤ bs) (hsr : bs ≤ r) (hr : r ≤ 0) :
    Ideal.exp (min (bt - r) 0) * Ideal.exp (0 - (bs - r)) = Ideal.exp (bt - bs) := by
  induction r with
  | top => simp at hr
  | bot =>
    have h1 : bs = ⊥ := le_bot_iff.mp hsr
    have h2 : bt = ⊥ := le_bot_iff.mp (hts.trans_eq h1)
    subst h1; subst h2
    simp
  | coe r =>
    induction bs with
    | top => simp at hsr
    | bot =>
      have h2 : bt = ⊥ := le_bot_iff.mp hts
      subst h2
      simp
    | coe bs =>
      induction bt with
      | top => simp at hts
      | bot => simp
      | coe bt =>
        have h1 : bt ≤ bs := EReal.coe_le_coe_iff.mp hts
        have h2 : bs ≤ r := EReal.coe_le_coe_iff.mp hsr
        have h3 : min (((bt - r : ℝ) : EReal)) 0 = ((bt - r : ℝ) : EReal) :=
          min_eq_left (by exact_mod_cast (by linarith : bt - r ≤ 0))
        rw [← EReal.coe_sub, ← EReal.coe_sub, ← EReal.coe_sub, h3, ← EReal.coe_zero, ← EReal.coe_sub]
        simp only [Ideal.exp_coe]
        rw [← EReal.coe_mul, ← Real.exp_add]
        congr 2
        ring

/-- A log-decay is the sum of its three roundings' remainders: over the extended reals the later two are zero or, with
    it, the lowest value. -/
theorem three_parts (g : EReal) (h : g ≤ 0) :
    (g - g = 0 ∧ (g - g) - (g - g) = 0) ∨ (g = ⊥ ∧ g - g = ⊥ ∧ (g - g) - (g - g) = ⊥) := by
  induction g with
  | top => simp at h
  | bot => right; simp
  | coe g => left; rw [← EReal.coe_sub]; simp

theorem sum_eq_bot {ι : Type} [Fintype ι] [DecidableEq ι] (f : ι → EReal) (h : ∀ i, f i ≤ 0) (i : ι) (hi : f i = ⊥) : ∑ j, f j = ⊥ := by
  rw [← Finset.add_sum_erase _ _ (Finset.mem_univ i), hi, EReal.bot_add]

/-- The running sum taken of the three parts. -/
theorem cum_three (γ : Fin 64 → Fin 64 → EReal) (h : ∀ s c, γ s c ≤ 0) (t c : Fin 64) :
    (∑ s, (if s ≤ t then (1 : EReal) else 0) * γ s c) + (∑ s, (if s ≤ t then (1 : EReal) else 0) * (γ s c - γ s c))
      + (∑ s, (if s ≤ t then (1 : EReal) else 0) * ((γ s c - γ s c) - (γ s c - γ s c))) = cum γ t c := by
  have e0 : (∑ s, (if s ≤ t then (1 : EReal) else 0) * γ s c) = cum γ t c := by
    refine Finset.sum_congr rfl fun s _ => ?_
    split <;> simp
  rw [e0]
  by_cases hb : ∃ s, s ≤ t ∧ γ s c = ⊥
  · obtain ⟨s, hs, hg⟩ := hb
    have : cum γ t c = ⊥ := by
      refine sum_eq_bot _ (fun r => ?_) s ?_
      · split
        · exact h r c
        · exact le_refl _
      · rw [if_pos hs, hg]
    rw [this, EReal.bot_add, EReal.bot_add]
  · have z : ∀ s, s ≤ t → γ s c - γ s c = 0 ∧ (γ s c - γ s c) - (γ s c - γ s c) = 0 := by
      intro s hs
      rcases three_parts (γ s c) (h s c) with h1 | h1
      · exact h1
      · exact absurd ⟨s, hs, h1.1⟩ hb
    rw [Finset.sum_eq_zero, Finset.sum_eq_zero, add_zero, add_zero]
    · intro s _
      by_cases hs : s ≤ t
      · rw [(z s hs).2, mul_zero]
      · rw [if_neg hs, zero_mul]
    · intro s _
      by_cases hs : s ≤ t
      · rw [(z s hs).1, mul_zero]
      · rw [if_neg hs, zero_mul]

/-- The first token of a sub-block of 16, or the token before it. -/
def anchor (γ : Fin 64 → Fin 64 → EReal) (j : Fin 4) (c : Fin 64) : EReal :=
  if h : j = 0 then 0 else cum γ ⟨16 * j.val - 1, by omega⟩ c

theorem anchor_nonpos (γ : Fin 64 → Fin 64 → EReal) (h : ∀ s c, γ s c ≤ 0) (j : Fin 4) (c : Fin 64) : anchor γ j c ≤ 0 := by
  unfold anchor
  split
  · exact le_refl _
  · exact cum_nonpos γ h _ c

theorem cum_le_anchor (γ : Fin 64 → Fin 64 → EReal) (h : ∀ s c, γ s c ≤ 0) (j : Fin 4) (s c : Fin 64) (hs : j.val ≤ s.val / 16) :
    cum γ s c ≤ anchor γ j c := by
  unfold anchor
  split
  · exact cum_nonpos γ h _ c
  · exact cum_anti γ h (by rw [Fin.le_def]; show 16 * j.val - 1 ≤ s.val; omega) c

/-- The kernel's decayed query lane of sub-block `j`. -/
def qLane (γ q : Fin 64 → Fin 64 → EReal) (t : Fin 64) (j : Fin 4) (c : Fin 64) : EReal :=
  q t c * (if j.val ≤ t.val / 16 then Ideal.exp (min (cum γ t c - anchor γ j c) 0) else 0)
/-- The kernel's decayed key lane of sub-block `j`. -/
def kLane (γ k : Fin 64 → Fin 64 → EReal) (s : Fin 64) (j : Fin 4) (c : Fin 64) : EReal :=
  k s c * (if j.val = s.val / 16 then Ideal.exp (0 - (cum γ s c - anchor γ j c)) else 0)

/-- The score is the sum over all lanes of all four sub-blocks. -/
theorem score_lanes (γ q k : Fin 64 → Fin 64 → EReal) (h : ∀ s c, γ s c ≤ 0) (t s : Fin 64) :
    (if s ≤ t then ∑ j : Fin 4, ∑ c : Fin 64, qLane γ q t j c * kLane γ k s j c else 0) = score γ q k t s := by
  unfold score
  by_cases hst : s ≤ t
  · rw [if_pos hst, if_pos hst]
    have hj : s.val / 16 < 4 := by omega
    rw [Finset.sum_eq_single (⟨s.val / 16, hj⟩ : Fin 4)]
    · refine Finset.sum_congr rfl fun c _ => ?_
      have h1 : s.val / 16 ≤ t.val / 16 := Nat.div_le_div_right hst
      unfold qLane kLane
      rw [if_pos h1, if_pos rfl, ← decay_anchor (cum_anti γ h hst c) (cum_le_anchor γ h ⟨s.val / 16, hj⟩ s c (le_refl _)) (anchor_nonpos γ h _ c)]
      ac_rfl
    · intro j _ hjs
      refine Finset.sum_eq_zero fun c _ => ?_
      unfold kLane
      rw [if_neg (fun e => hjs (Fin.ext e)), mul_zero, mul_zero]
    · intro hn; exact absurd (Finset.mem_univ _) hn
  · rw [if_neg hst, if_neg hst]

/-- On the first sub-block's lanes the query is decayed from the chunk's start. -/
theorem qLane_zero (γ q : Fin 64 → Fin 64 → EReal) (h : ∀ s c, γ s c ≤ 0) (t c : Fin 64) :
    qLane γ q t 0 c = q t c * Ideal.exp (cum γ t c) := by
  unfold qLane anchor
  rw [if_pos (show (0 : Fin 4).val ≤ t.val / 16 from Nat.zero_le _), dif_pos rfl, sub_zero, min_eq_left (cum_nonpos γ h t c)]

end Cert.GlaSpec

end
-- ==== Proof.GlaModel.lean ====
/- The gated linear attention over the extended reals, from the layer's stream `X`, the projection weights `W`, the decay's
   second weights `A` and bias `B` and the norm's gain `N`: what both programs compute. -/
module

public import proofs.«01_k».proof.Proof.GlaSpec
public import Idealize.ShloMosaic.Lib.IdealHost

@[expose] public section

set_option maxRecDepth 16384

noncomputable section

namespace Cert.GlaModel

open Idealize.ShloMosaic Cert.GlaSpec

/-! The constants. -/

theorem eighth : Ideal.ofBits .f32 0x3E000000#32 = (((1 : ℝ) / 8 : ℝ) : EReal) := by
  simp [Ideal.ofBits, Ideal.ieee, -EReal.coe_mul]; norm_num
theorem sixteenth : Ideal.ofBits .f32 0x3D800000#32 = (((1 : ℝ) / 16 : ℝ) : EReal) := by
  simp [Ideal.ofBits, Ideal.ieee, -EReal.coe_mul]; norm_num
theorem sixteen : Ideal.ofBits .f32 0x41800000#32 = ((16 : ℝ) : EReal) := by
  simp [Ideal.ofBits, Ideal.ieee, -EReal.coe_mul]; norm_num

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

/-! The gate's logarithm of the decay. -/

/-- `log σ(p) / 16`. -/
def gate (p : EReal) : EReal := (min p 0 - Ideal.log1p (Ideal.exp (0 - max p (-p)))) * (((1 : ℝ) / 16 : ℝ) : EReal)

theorem log1p_real (p : EReal) : ∃ r : ℝ, 0 ≤ r ∧ Ideal.log1p (Ideal.exp (0 - max p (-p))) = (r : EReal) := by
  have key : ∀ y : ℝ, 0 ≤ y → ∃ r : ℝ, 0 ≤ r ∧ Ideal.log1p (y : EReal) = (r : EReal) := fun y hy => by
    refine ⟨Real.log (1 + y), Real.log_nonneg (by linarith), ?_⟩
    unfold Ideal.log1p
    rw [show (1 : EReal) + (y : EReal) = ((1 + y : ℝ) : EReal) by norm_cast]
    unfold Ideal.log
    exact if_neg (by linarith)
  induction p with
  | bot => simpa using key 0 (le_refl 0)
  | top => simpa using key 0 (le_refl 0)
  | coe x =>
    have e : (0 : EReal) - max (x : EReal) (-(x : EReal)) = ((-(max x (-x)) : ℝ) : EReal) := by
      rw [zero_sub, ← EReal.coe_neg x, ← coe_max, ← EReal.coe_neg]
    rw [e]
    exact key (Real.exp (-(max x (-x)))) (Real.exp_pos _).le

theorem gate_nonpos (p : EReal) : gate p ≤ 0 := by
  obtain ⟨r, hr, e⟩ := log1p_real p
  unfold gate
  rw [e]
  refine EReal.mul_nonpos_iff.mpr (Or.inr ⟨?_, EReal.coe_nonneg.mpr (by norm_num)⟩)
  rw [sub_eq_add_neg]
  refine add_nonpos (min_le_right _ _) ?_
  rw [← EReal.coe_neg]
  exact EReal.coe_nonpos.mpr (by linarith)

theorem neg_softplus (p : EReal) (r : ℝ) : -(max (-p) 0 + (r : EReal)) = min p 0 - (r : EReal) := by
  induction p with
  | bot => simp
  | top => simp
  | coe x =>
    rw [← EReal.coe_neg x, ← EReal.coe_zero, ← coe_max, ← coe_min, ← EReal.coe_add, ← EReal.coe_neg, ← EReal.coe_sub]
    refine congrArg _ ?_
    rcases le_total x 0 with h | h
    · rw [max_eq_left (by linarith), min_eq_left h]; ring
    · rw [max_eq_right (by linarith), min_eq_right h]; ring

/-- The gate as minus a softplus over sixteen. -/
theorem gate_softplus (p : EReal) :
    Ideal.div (-(max (-p) 0 + Ideal.log1p (Ideal.exp (-(max (-p - 0) (-(-p - 0))))))) ((16 : ℝ) : EReal) = gate p := by
  obtain ⟨r, -, e⟩ := log1p_real p
  rw [Ideal.div_coe (by norm_num : (16 : ℝ) ≠ 0)]
  unfold gate
  rw [sub_zero, neg_neg, max_comm (-p) p, ← zero_sub (max p (-p)), e, neg_softplus]

/-! The layer. -/

variable (X : Fin 8 → Fin 4096 → Fin 1024 → EReal) (W : Fin 1024 → Fin 6612 → EReal) (A : Fin 16 → Fin 256 → EReal) (B : Fin 256 → EReal)
  (N : Fin 128 → EReal)

/-- Token `t` of chunk `n`. -/
def tok (n : ℕ) (t : Fin 64) : Fin 4096 := ⟨(64 * n + t.val) % 4096, Nat.mod_lt _ (by decide)⟩
/-- The projection of a token to column `j`. -/
def proj (b : Fin 8) (τ : Fin 4096) (j : Fin 6612) : EReal := ∑ k, X b τ k * W k j
def qS (b : Fin 8) (h : Fin 4) (n : ℕ) (t c : Fin 64) : EReal := proj X W b (tok n t) ⟨964 + (64 * h.val + c.val), by omega⟩ * (((1 : ℝ) / 8 : ℝ) : EReal)
def kS (b : Fin 8) (h : Fin 4) (n : ℕ) (t c : Fin 64) : EReal := proj X W b (tok n t) ⟨1220 + (64 * h.val + c.val), by omega⟩
def vS (b : Fin 8) (h : Fin 4) (n : ℕ) (t : Fin 64) (e : Fin 128) : EReal := proj X W b (tok n t) ⟨1476 + (128 * h.val + e.val), by omega⟩
/-- The decay's logit. -/
def pre (b : Fin 8) (τ : Fin 4096) (j : Fin 256) : EReal := (∑ l : Fin 16, proj X W b τ ⟨1988 + l.val, by omega⟩ * A l j) + B j
def gS (b : Fin 8) (h : Fin 4) (n : ℕ) (t c : Fin 64) : EReal := gate (pre X W A B b (tok n t) ⟨64 * h.val + c.val, by omega⟩)
/-- The state before chunk `n`. -/
def stS (b : Fin 8) (h : Fin 4) : ℕ → Fin 64 → Fin 128 → EReal
  | 0 => fun _ _ => 0
  | n + 1 => next (gS X W A B b h n) (kS X W b h n) (vS X W b h n) (stS b h n)
/-- The output of a chunk. -/
def oS (b : Fin 8) (h : Fin 4) (n : ℕ) : Fin 64 → Fin 128 → EReal :=
  out (gS X W A B b h n) (qS X W b h n) (kS X W b h n) (vS X W b h n) (stS X W A B b h n)
/-- A row's entry normalised, scaled by the gain and gated by `r`. -/
def fin (r : EReal) (y : Fin 128 → EReal) (e : Fin 128) : EReal :=
  (r * Ideal.div 1 (1 + Ideal.exp (-r))) * ((y e * Ideal.rsqrt (Ideal.div (∑ x, y x * y x) (Ideal.ofBits .f32 0x43000000#32) + Ideal.ofBits .f32 0x358637BD#32)) * N e)
/-- The layer's result at batch `b`, token `t` of chunk `n`, head `h`, entry `e`. -/
def res (b : Fin 8) (n : ℕ) (t : Fin 64) (h : Fin 4) (e : Fin 128) : EReal :=
  fin N (proj X W b (tok n t) ⟨2004 + (128 * h.val + e.val), by omega⟩) (oS X W A B b h n t) e

theorem gS_nonpos (b : Fin 8) (h : Fin 4) (n : ℕ) (t c : Fin 64) : gS X W A B b h n t c ≤ 0 := gate_nonpos _

end Cert.GlaModel

end
-- ==== Proof.GlaProj.lean ====
/- The kernel's projections of a block of tokens are the layer's: its gathered and scaled weights give the queries, keys,
   values, gate and decay of every token, and its gate is the layer's. -/
module

public import proofs.«01_k».proof.Proof.GlaPoint
public import proofs.«01_k».proof.Proof.GlaHost
public import proofs.«01_k».proof.Proof.GlaModel

@[expose] public section

set_option maxRecDepth 16384
set_option backward.proofsInPublic true

noncomputable section

namespace Cert.KernelIdeal.GlaProj

open Idealize.ShloMosaic Cert.KernelIdeal Cert.KernelIdeal.Gen Cert.KernelIdeal.GlaBody Cert.KernelIdeal.GlaPoint Cert.KernelIdeal.GlaHost Cert.GlaModel

theorem sum_mul_real {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.mpr hr) (EReal.coe_ne_top r), ih]

/-! The gathered weights. -/

section Weights

variable (w : FVec Ideal S1024x6612 .f32) (k : Fin 1024)

theorem w_q (j : Fin 256) : wAll w (ix2 k (⟨j.val, by omega⟩ : Fin 1664)) = (w (ix2 k (⟨964 + j.val, by omega⟩ : Fin 6612)) * (((1 : ℝ) / 8 : ℝ) : EReal) : EReal) := by
  pointwise [wAll]
  rw [eighth]
theorem w_k (j : Fin 256) : wAll w (ix2 k (⟨256 + j.val, by omega⟩ : Fin 1664)) = w (ix2 k (⟨1220 + j.val, by omega⟩ : Fin 6612)) := by
  pointwise [wAll]
theorem w_v (j : Fin 512) : wAll w (ix2 k (⟨512 + j.val, by omega⟩ : Fin 1664)) = w (ix2 k (⟨1476 + j.val, by omega⟩ : Fin 6612)) := by
  pointwise [wAll]
  rw [dif_neg (by omega), dif_neg (by omega), dif_pos (by omega)]
  exact congrArg (fun j : Fin 6612 => w (ix2 k j)) (Fin.ext (by show 1476 + (512 + j.val - 256 - 256) = 1476 + j.val; omega))
theorem w_r (j : Fin 512) : wAll w (ix2 k (⟨1024 + j.val, by omega⟩ : Fin 1664)) = w (ix2 k (⟨2004 + j.val, by omega⟩ : Fin 6612)) := by
  pointwise [wAll]
  rw [dif_neg (by omega), dif_neg (by omega), dif_neg (by omega), dif_pos (by omega)]
  exact congrArg (fun j : Fin 6612 => w (ix2 k j)) (Fin.ext (by show 2004 + (1024 + j.val - 256 - 256 - 512) = 2004 + j.val; omega))
theorem w_l (j : Fin 16) : wAll w (ix2 k (⟨1536 + j.val, by omega⟩ : Fin 1664)) = w (ix2 k (⟨1988 + j.val, by omega⟩ : Fin 6612)) := by
  pointwise [wAll]
  rw [dif_neg (by omega), dif_neg (by omega), dif_neg (by omega), dif_neg (by omega), dif_pos (by omega)]
  exact congrArg (fun j : Fin 6612 => w (ix2 k j)) (Fin.ext (by show 1988 + (1536 + j.val - 256 - 256 - 512 - 512) = 1988 + j.val; omega))

end Weights

theorem wa_lt (a : FVec Ideal S16x256 .f32) (l : Fin 16) (j : Fin 256) : waAll a (ix2 (⟨l.val, by omega⟩ : Fin 128) j) = a (ix2 l j) := by
  pointwise [waAll]
theorem wa_ge (a : FVec Ideal S16x256 .f32) (l : Fin 112) (j : Fin 256) : waAll a (ix2 (⟨16 + l.val, by omega⟩ : Fin 128) j) = (0 : EReal) := by
  pointwise [waAll]

/-! The projections. -/

theorem pay2_apply (x0 : Vec Ideal S512x1024 .f32) (x1 : Vec Ideal S1024x1664 .bf16) (i : Fin 512) (j : Fin 1664) :
    k0_pay2 x0 x1 (ix2 i j) = (∑ k : Fin 1024, (x0 (ix2 i k) : EReal) * x1 (ix2 k j) : EReal) := by
  pointwise [k0_pay2]

theorem gateP_apply (x0 : Vec Ideal S512x1024 .f32) (x1 : Vec Ideal S1024x1664 .bf16) (a : FVec Ideal S16x256 .f32) (bb : FVec Ideal S256 .f32) (i : Fin 512) (j : Fin 256) :
    gateP x0 x1 (waAll a) (shapeCast S1x256 bb shapeCasts_S256_S1x256) (ix2 i j) =
      gate ((∑ l : Fin 16, (k0_pay2 x0 x1 (ix2 i (⟨1536 + l.val, by omega⟩ : Fin 1664)) : EReal) * a (ix2 l j)) + bb (ix1 j)) := by
  have e : ∀ y : Vec Ideal S512x128 .f32, (∑ l : Fin 128, (y (ix2 i l) : EReal) * waAll a (ix2 l j)) = ∑ l : Fin 16, (y (ix2 i (⟨l.val, by omega⟩ : Fin 128)) : EReal) * a (ix2 l j) := fun y => by
    refine (Fin.sum_univ_add (a := 16) (b := 112) (M := EReal) fun l : Fin 128 => (y (ix2 i l) : EReal) * waAll a (ix2 l j)).trans ?_
    refine (congrArg₂ (· + ·) (Finset.sum_congr rfl fun l _ => congrArg _ (wa_lt a l j)) (Finset.sum_eq_zero fun l _ => ?_)).trans (add_zero _)
    exact (congrArg _ (wa_ge a l j)).trans (mul_zero _)
  have f : ∀ y : Vec Ideal S512x128 .f32, k0_pay3 y (waAll a) (shapeCast S1x256 bb shapeCasts_S256_S1x256) (ix2 i j) =
      gate ((∑ l : Fin 128, (y (ix2 i l) : EReal) * waAll a (ix2 l j)) + bb (ix1 j)) := fun y => by
    generalize waAll a = z
    pointwise [k0_pay3]
    rw [sixteenth]
    rfl
  unfold gateP
  rw [f, e]
  rfl

/-! A point's block of 512 tokens: batch `b`, the chunks from `n0` on. -/

section Block

variable (x0 : Vec Ideal S512x1024 .f32) (w : FVec Ideal S1024x6612 .f32) (a : FVec Ideal S16x256 .f32) (bb : FVec Ideal S256 .f32)
  (X : Fin 8 → Fin 4096 → Fin 1024 → EReal) (b : Fin 8) (n0 : ℕ)
  (hx : ∀ (u : Fin 8) (s : Fin 64) (k : Fin 1024), x0 (ix2 (⟨64 * u.val + s.val, by omega⟩ : Fin 512) k) = X b (tok (n0 + u.val) s) k)

/-- The weights as functions of their indices. -/
def wF : Fin 1024 → Fin 6612 → EReal := fun k j => w (ix2 k j)
def aF : Fin 16 → Fin 256 → EReal := fun l j => a (ix2 l j)
def bF : Fin 256 → EReal := fun j => bb (ix1 j)

include hx

theorem P_q (u : Fin 8) (s : Fin 64) (h : Fin 4) (c : Fin 64) :
    k0_pay2 x0 (wAll w) (ix2 (⟨64 * u.val + s.val, by omega⟩ : Fin 512) (⟨64 * h.val + c.val, by omega⟩ : Fin 1664)) = qS X (wF w) b h (n0 + u.val) s c := by
  rw [pay2_apply]
  unfold qS proj
  rw [sum_mul_real _ _ _ (by norm_num)]
  refine Finset.sum_congr rfl fun k _ => ?_
  rw [hx u s k, mul_assoc]
  exact congrArg _ (w_q w k ⟨64 * h.val + c.val, by omega⟩)
theorem P_k (u : Fin 8) (s : Fin 64) (h : Fin 4) (c : Fin 64) :
    k0_pay2 x0 (wAll w) (ix2 (⟨64 * u.val + s.val, by omega⟩ : Fin 512) (⟨256 + (64 * h.val + c.val), by omega⟩ : Fin 1664)) = kS X (wF w) b h (n0 + u.val) s c := by
  rw [pay2_apply]
  exact Finset.sum_congr rfl fun k _ => congrArg₂ (· * ·) (hx u s k) (w_k w k ⟨64 * h.val + c.val, by omega⟩)
theorem P_v (u : Fin 8) (s : Fin 64) (h : Fin 4) (e : Fin 128) :
    k0_pay2 x0 (wAll w) (ix2 (⟨64 * u.val + s.val, by omega⟩ : Fin 512) (⟨512 + 128 * h.val + e.val, by omega⟩ : Fin 1664)) = vS X (wF w) b h (n0 + u.val) s e := by
  rw [pay2_apply]
  refine Finset.sum_congr rfl fun k _ => congrArg₂ (· * ·) (hx u s k) ((congrArg (fun j => wAll w (ix2 k j)) (Fin.ext ?_)).trans (w_v w k ⟨128 * h.val + e.val, by omega⟩))
  show 512 + 128 * h.val + e.val = 512 + (128 * h.val + e.val)
  omega
theorem P_r (u : Fin 8) (s : Fin 64) (j : Fin 512) :
    k0_pay2 x0 (wAll w) (ix2 (⟨64 * u.val + s.val, by omega⟩ : Fin 512) (⟨1024 + j.val, by omega⟩ : Fin 1664)) = proj X (wF w) b (tok (n0 + u.val) s) ⟨2004 + j.val, by omega⟩ := by
  rw [pay2_apply]
  exact Finset.sum_congr rfl fun k _ => congrArg₂ (· * ·) (hx u s k) (w_r w k j)
theorem P_l (u : Fin 8) (s : Fin 64) (l : Fin 16) :
    k0_pay2 x0 (wAll w) (ix2 (⟨64 * u.val + s.val, by omega⟩ : Fin 512) (⟨1536 + l.val, by omega⟩ : Fin 1664)) = proj X (wF w) b (tok (n0 + u.val) s) ⟨1988 + l.val, by omega⟩ := by
  rw [pay2_apply]
  exact Finset.sum_congr rfl fun k _ => congrArg₂ (· * ·) (hx u s k) (w_l w k l)
theorem g_apply (u : Fin 8) (s : Fin 64) (j : Fin 256) :
    gateP x0 (wAll w) (waAll a) (shapeCast S1x256 bb shapeCasts_S256_S1x256) (ix2 (⟨64 * u.val + s.val, by omega⟩ : Fin 512) j)
      = gate (pre X (wF w) (aF a) (bF bb) b (tok (n0 + u.val) s) j) := by
  rw [gateP_apply]
  unfold pre
  simp only [P_l x0 w X b n0 hx u s]
  rfl

theorem g_nonpos (u : Fin 8) (s : Fin 64) (j : Fin 256) :
    gateP x0 (wAll w) (waAll a) (shapeCast S1x256 bb shapeCasts_S256_S1x256) (ix2 (⟨64 * u.val + s.val, by omega⟩ : Fin 512) j) ≤ (0 : EReal) := by
  rw [g_apply x0 w a bb X b n0 hx u s j]
  exact gate_nonpos _

end Block

end Cert.KernelIdeal.GlaProj

end
-- ==== Proof.GlaMask.lean ====
/- The masks of a chunk, read at an index: which lanes serve which sub-block, which token lies in which, and the triangle. -/
module

public import proofs.«01_k».proof.Proof.GlaBody
public import Idealize.ShloMosaic.Lib.Pointwise

@[expose] public section

set_option maxRecDepth 16384

noncomputable section

namespace Cert.KernelIdeal.GlaMask

open Idealize.ShloMosaic Cert.KernelIdeal Cert.KernelIdeal.Gen Cert.KernelIdeal.GlaBody

theorem lane_eq : ∀ l : Fin 1024, lane (ix2 (0 : Fin 1) l) = BitVec.ofNat 32 ((l.val / 64) % 4) := by decide +kernel
theorem row_eq : ∀ t : Fin 64, k0_pay9 (ix2 t (0 : Fin 1)) = BitVec.ofNat 32 (t.val / 16) := by decide +kernel
theorem tri_eq : ∀ t s : Fin 64, k0_pay4 (ix2 t s) = BitVec.ofBool (decide (s ≤ t)) := by decide +kernel
theorem half_eq : ∀ (t : Fin 64) (l : Fin 128), k0_pay12 (ix2 t l) = BitVec.ofBool (decide (l.val < 64)) := by decide +kernel

end Cert.KernelIdeal.GlaMask

end
-- ==== Proof.GlaKer.lean ====
/- The kernel's values of one chunk, read at an index over the extended reals: the four copies of each head's lanes, the
   masks of the sub-blocks, the running log-decays and the decayed queries and keys. -/
module

public import proofs.«01_k».proof.Proof.GlaMask
public import proofs.«01_k».proof.Proof.GlaSpec
public import Idealize.ShloMosaic.Lib.Pointwise

@[expose] public section

set_option maxRecDepth 16384

noncomputable section

namespace Cert.KernelIdeal.GlaKer

open Idealize.ShloMosaic Cert.KernelIdeal Cert.KernelIdeal.Gen Cert.KernelIdeal.GlaBody Cert.KernelIdeal.GlaMask Cert.GlaSpec

/-- The lane of head `h`, sub-block `j` and column `c`. -/
def ln (h j : Fin 4) (c : Fin 64) : Fin 1024 := ⟨256 * h.val + 64 * j.val + c.val, by omega⟩
/-- The column of head `h`. -/
def hc (h : Fin 4) (c : Fin 64) : Fin 256 := ⟨64 * h.val + c.val, by omega⟩

/-- The four copies of each head's columns. -/
def rep (X : FVec Ideal S64x256 .f32) : FVec Ideal S64x1024 .f32 := k0_pay20 k0_pay12 X

/-- Eight blocks of 128 lanes. -/
def blocks8 (f : Fin 8 → FVec Ideal S64x128 .f32) : List ((s : Shape) × (s.Idx → Ideal .f32)) :=
  [⟨S64x128, f 0⟩, ⟨S64x128, f 1⟩, ⟨S64x128, f 2⟩, ⟨S64x128, f 3⟩, ⟨S64x128, f 4⟩, ⟨S64x128, f 5⟩, ⟨S64x128, f 6⟩, ⟨S64x128, f 7⟩]

theorem blocks8_get (f : Fin 8 → FVec Ideal S64x128 .f32) : ∀ p : Fin 8, ∀ hp : p.val < (blocks8 f).length, (blocks8 f)[p.val]'hp = ⟨S64x128, f p⟩
  | ⟨0, _⟩, _ | ⟨1, _⟩, _ | ⟨2, _⟩, _ | ⟨3, _⟩, _ | ⟨4, _⟩, _ | ⟨5, _⟩, _ | ⟨6, _⟩, _ | ⟨7, _⟩, _ => rfl

theorem blocks8_pre (f : Fin 8 → FVec Ideal S64x128 .f32) : ∀ p : Fin 8,
    ((((blocks8 f).take p.val).map (·.1)).map fun s => if h : s.rank = S64x1024.rank then s.size ((1 : Fin S64x1024.rank).cast h.symm) else 0).sum = 128 * p.val
  | ⟨0, _⟩ | ⟨1, _⟩ | ⟨2, _⟩ | ⟨3, _⟩ | ⟨4, _⟩ | ⟨5, _⟩ | ⟨6, _⟩ | ⟨7, _⟩ => rfl

/-- Eight blocks of 128 lanes side by side. -/
theorem cat8 (f : Fin 8 → FVec Ideal S64x128 .f32) (t : Fin 64) (p : Fin 8) (m : Fin 128) :
    concatenate S64x1024 1 (blocks8 f)
      concatenates_S64x128_S64x128_S64x128_S64x128_S64x128_S64x128_S64x128_S64x128_S64x1024_d1
      (ix2 t (⟨128 * p.val + m.val, by omega⟩ : Fin 1024)) = f p (ix2 t m) := by
  refine concatenate_apply_piece (t := S64x1024) 1 (blocks8 f) _ _ p.val p.isLt S64x128 (f p) (blocks8_get f p p.isLt) rfl (128 * p.val) (blocks8_pre f p) (ix2 t m) ?_ rfl
  intro b hb
  match b with
  | ⟨0, _⟩ => rfl
  | ⟨1, _⟩ => exact absurd rfl hb

/-- A pair of heads' lanes, and the same with the two halves exchanged. -/
def pairV (X : FVec Ideal S64x256 .f32) (p : Fin 2) : FVec Ideal S64x128 .f32 := fun i => X (ix2 (i 0) (⟨128 * p.val + (i 1).val, by have := (i 1).isLt; change _ < 128 at this; omega⟩ : Fin 256))
theorem sl0 (X : FVec Ideal S64x256 .f32) : extractStridedSlice S64x128 ![0, 0] X slices_S64x256_o0_0_S64x128 = pairV X 0 := by
  funext i; rw [eq_ix2 i]; pointwise [pairV]
theorem sl1 (X : FVec Ideal S64x256 .f32) : extractStridedSlice S64x128 ![0, 128] X slices_S64x256_o0_128_S64x128 = pairV X 1 := by
  funext i; rw [eq_ix2 i]; pointwise [pairV]

def lowV (x : FVec Ideal S64x128 .f32) : FVec Ideal S64x128 .f32 := select k0_pay12 x (dynamicRotate 1 64#32 none x rotates_S64x128_d1)
def highV (x : FVec Ideal S64x128 .f32) : FVec Ideal S64x128 .f32 := select k0_pay12 (dynamicRotate 1 64#32 none x rotates_S64x128_d1) x

theorem lowV_apply (x : FVec Ideal S64x128 .f32) (t : Fin 64) (b : Fin 2) (c : Fin 64) :
    lowV x (ix2 t (⟨64 * b.val + c.val, by omega⟩ : Fin 128)) = x (ix2 t (⟨c.val, by omega⟩ : Fin 128)) := by
  pointwise [lowV]
  rw [half_eq]
  match b with
  | ⟨0, _⟩ =>
    rw [decide_eq_true (show 64 * 0 + c.val < 64 by omega)]
    exact congrArg x (by idx_ext)
  | ⟨1, _⟩ =>
    rw [decide_eq_false (show ¬ 64 * 1 + c.val < 64 by omega)]
    exact congrArg x (by idx_ext)
theorem highV_apply (x : FVec Ideal S64x128 .f32) (t : Fin 64) (b : Fin 2) (c : Fin 64) :
    highV x (ix2 t (⟨64 * b.val + c.val, by omega⟩ : Fin 128)) = x (ix2 t (⟨64 + c.val, by omega⟩ : Fin 128)) := by
  pointwise [highV]
  rw [half_eq]
  match b with
  | ⟨0, _⟩ =>
    rw [decide_eq_true (show 64 * 0 + c.val < 64 by omega)]
    exact congrArg x (by idx_ext)
  | ⟨1, _⟩ =>
    rw [decide_eq_false (show ¬ 64 * 1 + c.val < 64 by omega)]
    exact congrArg x (by idx_ext)

/-- The eight blocks of the copies: each head of a pair twice. -/
def repV (X : FVec Ideal S64x256 .f32) (p : Fin 8) : FVec Ideal S64x128 .f32 :=
  if (p.val / 2) % 2 = 0 then lowV (pairV X ⟨p.val / 4, by omega⟩) else highV (pairV X ⟨p.val / 4, by omega⟩)

theorem rep_eq (X : FVec Ideal S64x256 .f32) : rep X = concatenate S64x1024 1 (blocks8 (repV X))
    concatenates_S64x128_S64x128_S64x128_S64x128_S64x128_S64x128_S64x128_S64x128_S64x1024_d1 := by
  show rep X = concatenate S64x1024 1 [⟨S64x128, lowV (pairV X 0)⟩, ⟨S64x128, lowV (pairV X 0)⟩, ⟨S64x128, highV (pairV X 0)⟩, ⟨S64x128, highV (pairV X 0)⟩,
      ⟨S64x128, lowV (pairV X 1)⟩, ⟨S64x128, lowV (pairV X 1)⟩, ⟨S64x128, highV (pairV X 1)⟩, ⟨S64x128, highV (pairV X 1)⟩]
      concatenates_S64x128_S64x128_S64x128_S64x128_S64x128_S64x128_S64x128_S64x128_S64x1024_d1
  rw [← sl0, ← sl1]; rfl

theorem rep_apply (X : FVec Ideal S64x256 .f32) (t : Fin 64) (h j : Fin 4) (c : Fin 64) :
    rep X (ix2 t (ln h j c)) = X (ix2 t (hc h c)) := by
  have e : ln h j c = (⟨128 * (2 * h.val + j.val / 2) + (64 * (j.val % 2) + c.val), by omega⟩ : Fin 1024) := by
    apply Fin.ext; show 256 * h.val + 64 * j.val + c.val = 128 * (2 * h.val + j.val / 2) + (64 * (j.val % 2) + c.val); omega
  rw [rep_eq, e]
  refine (cat8 _ t ⟨2 * h.val + j.val / 2, by omega⟩ ⟨64 * (j.val % 2) + c.val, by omega⟩).trans ?_
  have low : ∀ (p : Fin 2) (j : Fin 4), lowV (pairV X p) (ix2 t (⟨64 * (j.val % 2) + c.val, by omega⟩ : Fin 128)) = X (ix2 t (hc ⟨2 * p.val, by omega⟩ c)) := fun p j =>
    (lowV_apply _ t ⟨j.val % 2, by omega⟩ c).trans (congrArg X (congrArg (ix2 t) (Fin.ext (by show 128 * p.val + c.val = 64 * (2 * p.val) + c.val; omega))))
  have high : ∀ (p : Fin 2) (j : Fin 4), highV (pairV X p) (ix2 t (⟨64 * (j.val % 2) + c.val, by omega⟩ : Fin 128)) = X (ix2 t (hc ⟨2 * p.val + 1, by omega⟩ c)) := fun p j =>
    (highV_apply _ t ⟨j.val % 2, by omega⟩ c).trans (congrArg X (congrArg (ix2 t) (Fin.ext (by show 128 * p.val + (64 + c.val) = 64 * (2 * p.val + 1) + c.val; omega))))
  unfold repV
  by_cases hh : h.val % 2 = 0
  · rw [if_pos (show (2 * h.val + j.val / 2) / 2 % 2 = 0 by omega)]
    exact (low ⟨(2 * h.val + j.val / 2) / 4, by omega⟩ j).trans (congrArg (fun h => X (ix2 t (hc h c))) (Fin.ext (by show 2 * ((2 * h.val + j.val / 2) / 4) = h.val; omega)))
  · rw [if_neg (show ¬ (2 * h.val + j.val / 2) / 2 % 2 = 0 by omega)]
    exact (high ⟨(2 * h.val + j.val / 2) / 4, by omega⟩ j).trans (congrArg (fun h => X (ix2 t (hc h c))) (Fin.ext (by show 2 * ((2 * h.val + j.val / 2) / 4) + 1 = h.val; omega)))

/-- A head's columns of a chunk's rows. -/
def hd (X : FVec Ideal S64x256 .f32) (h : Fin 4) (s c : Fin 64) : EReal := X (ix2 s (hc h c))

theorem tri01 (t s : Fin 64) : (k0_pay5 : FVec Ideal S64x64 .bf16) (ix2 t s) = if s ≤ t then (1 : EReal) else 0 := by
  pointwise [k0_pay5]
  rw [tri_eq]
  by_cases h : s ≤ t
  · rw [decide_eq_true h, if_pos h]; rfl
  · rw [decide_eq_false h, if_neg h]; rfl

/-- The running sums, before the copies. -/
def cumM (g : FVec Ideal S64x256 .f32) : FVec Ideal S64x256 .f32 :=
  addf (addf (matmul dot_S64x64_S64x256_S64x256_1_0_0_1_n_n none k0_pay5 (k0_pay13 g) (constant S64x256 .f32 0x00000000#32))
    (matmul dot_S64x64_S64x256_S64x256_1_0_0_1_n_n none k0_pay5 (k0_pay14 g) (constant S64x256 .f32 0x00000000#32)))
    (matmul dot_S64x64_S64x256_S64x256_1_0_0_1_n_n none k0_pay5
      (truncf .bf16 (subf (subf g (extf .f32 (k0_pay13 g) bitsLt_bf16_f32)) (extf .f32 (k0_pay14 g) bitsLt_bf16_f32)) bitsLt_bf16_f32) (constant S64x256 .f32 0x00000000#32))

theorem bC_eq (g : FVec Ideal S64x256 .f32) : bC g = rep (cumM g) := rfl

theorem cumM_apply (g : FVec Ideal S64x256 .f32) (hg : ∀ i, g i ≤ 0) (t : Fin 64) (h : Fin 4) (c : Fin 64) :
    cumM g (ix2 t (hc h c)) = cum (hd g h) t c := by
  rw [← cum_three (hd g h) (fun s c => hg _)]
  pointwise [cumM, k0_pay13, k0_pay14]
  simp only [tri01]
  rfl

theorem bC_apply (g : FVec Ideal S64x256 .f32) (hg : ∀ i, g i ≤ 0) (t : Fin 64) (h j : Fin 4) (c : Fin 64) :
    bC (F := Ideal) g (ix2 t (ln h j c)) = cum (hd g h) t c := by
  rw [bC_eq, rep_apply, cumM_apply g hg]

/-- The running sums less the anchor of the lane's sub-block. -/
def dC (B : FVec Ideal S64x1024 .f32) : FVec Ideal S64x1024 .f32 :=
  subf B (broadcastTo S64x1024 (addf (addf (addf (broadcast S1x1024 (Scalar.ofBits .f32 0x00000000#32))
      (select (cmpi .eq lane (broadcast S1x1024 1#32)) (extractStridedSlice S1x1024 ![15, 0] B slices_S64x1024_o15_0_S1x1024) (broadcast S1x1024 (Scalar.ofBits .f32 0x00000000#32))))
      (select (cmpi .eq lane (broadcast S1x1024 2#32)) (extractStridedSlice S1x1024 ![31, 0] B slices_S64x1024_o31_0_S1x1024) (broadcast S1x1024 (Scalar.ofBits .f32 0x00000000#32))))
      (select (cmpi .eq lane (broadcast S1x1024 3#32)) (extractStridedSlice S1x1024 ![47, 0] B slices_S64x1024_o47_0_S1x1024) (broadcast S1x1024 (Scalar.ofBits .f32 0x00000000#32)))) broadcasts_S1x1024_S64x1024)

theorem pay16_eq (g : FVec Ideal S64x256 .f32) : k0_pay16 k0_pay5 lane k0_pay12 g (k0_pay13 g) (k0_pay14 g) = dC (bC g) := rfl

theorem lane_ln (h j : Fin 4) (c : Fin 64) : lane (ix2 (0 : Fin 1) (ln h j c)) = BitVec.ofNat 32 j.val := by
  rw [lane_eq]; congr 1; show (256 * h.val + 64 * j.val + c.val) / 64 % 4 = j.val; omega

theorem dC_apply (B : FVec Ideal S64x1024 .f32) (γ : Fin 64 → Fin 64 → EReal) (h : Fin 4)
    (hB : ∀ t j c, B (ix2 t (ln h j c)) = cum γ t c) (t : Fin 64) (j : Fin 4) (c : Fin 64) :
    dC B (ix2 t (ln h j c)) = cum γ t c - anchor γ j c := by
  pointwise [dC]
  rw [lane_ln, hB t j c, hB 15 j c, hB 31 j c, hB 47 j c]
  congr 1
  have z : ∀ x : EReal, (0 : EReal) + x = x := zero_add
  match j with
  | ⟨0, _⟩ => exact (add_zero _).trans (add_zero _)
  | ⟨1, _⟩ => exact ((add_zero _).trans (add_zero _))
  | ⟨2, _⟩ => exact ((add_zero _).trans (zero_add _))
  | ⟨3, _⟩ => exact (congrArg (· + cum γ 47 c) (add_zero (0 : EReal))).trans (zero_add _)

theorem qMask_apply (t : Fin 64) (h j : Fin 4) (c : Fin 64) : qMask (ix2 t (ln h j c)) = BitVec.ofBool (decide (j.val ≤ t.val / 16)) := by
  have e : qMask (ix2 t (ln h j c)) = IntOp.cmpi .sle (lane (ix2 (0 : Fin 1) (ln h j c))) (k0_pay9 (ix2 t (0 : Fin 1))) := by
    pointwise [qMask, k0_pay10]
    rfl
  rw [e, lane_ln, row_eq]
  have : ∀ (j : Fin 4) (r : Fin 4), IntOp.cmpi .sle (BitVec.ofNat 32 j.val) (BitVec.ofNat 32 r.val) = BitVec.ofBool (decide (j.val ≤ r.val)) := by decide
  exact this j ⟨t.val / 16, by omega⟩
theorem kMask_apply (t : Fin 64) (h j : Fin 4) (c : Fin 64) : kMask (ix2 t (ln h j c)) = BitVec.ofBool (decide (j.val = t.val / 16)) := by
  have e : kMask (ix2 t (ln h j c)) = IntOp.cmpi .eq (lane (ix2 (0 : Fin 1) (ln h j c))) (k0_pay9 (ix2 t (0 : Fin 1))) := by
    pointwise [kMask, k0_pay11]
    rfl
  rw [e, lane_ln, row_eq]
  have : ∀ (j : Fin 4) (r : Fin 4), IntOp.cmpi .eq (BitVec.ofNat 32 j.val) (BitVec.ofNat 32 r.val) = BitVec.ofBool (decide (j.val = r.val)) := by decide
  exact this j ⟨t.val / 16, by omega⟩

variable (g q k : FVec Ideal S64x256 .f32) (hg : ∀ i, g i ≤ 0)
include hg

theorem qC_apply (t : Fin 64) (h j : Fin 4) (c : Fin 64) :
    qC (F := Ideal) g q (ix2 t (ln h j c)) = qLane (hd g h) (hd q h) t j c := by
  have e : qC (F := Ideal) g q (ix2 t (ln h j c)) = rep q (ix2 t (ln h j c)) *
      Scalar.select (qMask (ix2 t (ln h j c))) (Ideal.exp (min (dC (bC (F := Ideal) g) (ix2 t (ln h j c))) 0)) (0 : EReal) := by
    rw [← pay16_eq]
    pointwise [qC, k0_pay19, k0_pay17, rep, k0_pay20]
  rw [e, rep_apply, qMask_apply, dC_apply _ (hd g h) h (fun t j c => bC_apply g hg t h j c)]
  unfold qLane
  by_cases hj : j.val ≤ t.val / 16
  · rw [decide_eq_true hj, if_pos hj]; rfl
  · rw [decide_eq_false hj, if_neg hj]; rfl

theorem kC_apply (t : Fin 64) (h j : Fin 4) (c : Fin 64) :
    kC (F := Ideal) g k (ix2 t (ln h j c)) = kLane (hd g h) (hd k h) t j c := by
  have e : kC (F := Ideal) g k (ix2 t (ln h j c)) = rep k (ix2 t (ln h j c)) *
      Scalar.select (kMask (ix2 t (ln h j c))) (Ideal.exp (Scalar.select (kMask (ix2 t (ln h j c))) (0 - dC (bC (F := Ideal) g) (ix2 t (ln h j c))) 0)) (0 : EReal) := by
    rw [← pay16_eq]
    pointwise [kC, k0_pay21, rep]
  rw [e, rep_apply, kMask_apply, dC_apply _ (hd g h) h (fun t j c => bC_apply g hg t h j c)]
  unfold kLane
  by_cases hj : j.val = t.val / 16
  · rw [decide_eq_true hj, if_pos hj]; rfl
  · rw [decide_eq_false hj, if_neg hj]; rfl

theorem kS_apply (t : Fin 64) (h j : Fin 4) (c : Fin 64) :
    kS (F := Ideal) g k (ix2 t (ln h j c)) = hd k h t c * Ideal.exp (cum (hd g h) 63 c - cum (hd g h) t c) := by
  have e : kS (F := Ideal) g k (ix2 t (ln h j c)) = rep k (ix2 t (ln h j c)) *
      Ideal.exp (bC (F := Ideal) g (ix2 63 (ln h j c)) - bC (F := Ideal) g (ix2 t (ln h j c))) := by
    pointwise [kS, k0_pay22, k0_pay18, rep]
  rw [e, rep_apply, bC_apply g hg, bC_apply g hg]
  rfl

theorem eL_apply (h j : Fin 4) (c : Fin 64) :
    eL (F := Ideal) g (ix2 (0 : Fin 1) (ln h j c)) = Ideal.exp (cum (hd g h) 63 c) := by
  have e : eL (F := Ideal) g (ix2 (0 : Fin 1) (ln h j c)) = Ideal.exp (bC (F := Ideal) g (ix2 63 (ln h j c))) := by
    pointwise [eL, k0_pay23, k0_pay18]
  rw [e, bC_apply g hg]

end Cert.KernelIdeal.GlaKer

end
-- ==== Proof.GlaChunk.lean ====
/- One head's chunk of the kernel, read at an index over the extended reals: its outputs and its next state are the
   recurrence's. The kernel keeps the state transposed, values by keys. -/
module

public import proofs.«01_k».proof.Proof.GlaKer

@[expose] public section

set_option maxRecDepth 16384

noncomputable section

namespace Cert.KernelIdeal.GlaChunk

open Idealize.ShloMosaic Cert.KernelIdeal Cert.KernelIdeal.Gen Cert.KernelIdeal.GlaBody Cert.KernelIdeal.GlaMask Cert.KernelIdeal.GlaKer Cert.GlaSpec

theorem wide (hh : Fin 4) (Q : FVec Ideal S64x1024 .bf16) (t : Fin 64) (j : Fin 4) (c : Fin 64) :
    extractStridedSlice S64x256 ![0, 256 * hh.val] Q (sl256 hh) (ix2 t (⟨j.val * 64 + c.val, by omega⟩ : Fin 256)) = Q (ix2 t (ln hh j c)) := by
  pointwise
  exact congrArg Q (congrArg (ix2 t) (Fin.ext (by show 256 * hh.val + (j.val * 64 + c.val) = 256 * hh.val + 64 * j.val + c.val; omega)))
theorem att_sum (hh : Fin 4) (Q K : FVec Ideal S64x1024 .bf16) (t s : Fin 64) :
    att hh Q K (ix2 t s) = if s ≤ t then ∑ j : Fin 4, ∑ c : Fin 64, Q (ix2 t (ln hh j c)) * K (ix2 s (ln hh j c)) else (0 : EReal) := by
  have e : att hh Q K (ix2 t s) = Scalar.select (k0_pay4 (ix2 t s)) (∑ l : Fin 256,
      extractStridedSlice S64x256 ![0, 256 * hh.val] Q (sl256 hh) (ix2 t l) * extractStridedSlice S64x256 ![0, 256 * hh.val] K (sl256 hh) (ix2 s l)) (0 : EReal) := by
    pointwise [att]
  rw [e, tri_eq]
  by_cases h : s ≤ t
  · rw [decide_eq_true h, if_pos h]
    refine Eq.trans (b := ∑ l : Fin 256, (extractStridedSlice S64x256 ![0, 256 * hh.val] Q (sl256 hh) (ix2 t l) : EReal) * extractStridedSlice S64x256 ![0, 256 * hh.val] K (sl256 hh) (ix2 s l)) rfl ?_
    refine (Fin.sum_univ_tiles (M := EReal) 4 64 rfl _).trans (Finset.sum_congr rfl fun j _ => Finset.sum_congr rfl fun c _ => ?_)
    refine Eq.trans ?_ (congrArg₂ (· * ·) (wide hh Q t j c) (wide hh K s j c))
    rfl
  · rw [decide_eq_false h, if_neg h]; rfl

variable (g q k : FVec Ideal S64x256 .f32) (hg : ∀ i, g i ≤ 0) (v : FVec Ideal S64x128 .f32) (s : FVec Ideal S128x64 .f32)

theorem ln_zero (hh : Fin 4) (c : Fin 64) (h : 256 * hh.val + c.val < 1024) : (⟨256 * hh.val + c.val, h⟩ : Fin 1024) = ln hh 0 c :=
  Fin.ext (by show 256 * hh.val + c.val = 256 * hh.val + 64 * 0 + c.val; omega)

include hg

theorem nextC_apply (hh : Fin 4) (e : Fin 128) (c : Fin 64) :
    nextC hh (eL (F := Ideal) g) (upd hh (kS (F := Ideal) g k) v) s (ix2 e c) =
      next (hd g hh) (hd k hh) (fun r e => v (ix2 r e)) (fun c e => s (ix2 e c)) c e := by
  pointwise [nextC, upd]
  simp only [ln_zero, eL_apply g hg, kS_apply g k hg]
  unfold next
  rw [mul_comm]
  exact congrArg _ (Finset.sum_congr rfl fun r _ => mul_comm _ _)

theorem outC_apply (hh : Fin 4) (t : Fin 64) (e : Fin 128) :
    outC hh (qC (F := Ideal) g q) (kC (F := Ideal) g k) v s (ix2 t e) =
      out (hd g hh) (hd q hh) (hd k hh) (fun r e => v (ix2 r e)) (fun c e => s (ix2 e c)) t e := by
  pointwise [outC]
  simp only [ln_zero, att_sum, qC_apply g q hg, kC_apply g k hg, score_lanes (hd g hh) (hd q hh) (hd k hh) (fun s c => hg _), qLane_zero (hd g hh) (hd q hh) (fun s c => hg _)]
  rfl

end Cert.KernelIdeal.GlaChunk

end
-- ==== Proof.GlaFold.lean ====
/- The kernel's grid points in turn: what they carry is the layer's state, what they write is the layer's result. -/
module

public import proofs.«01_k».proof.Proof.GlaProj
public import proofs.«01_k».proof.Proof.GlaChunk
public import proofs.«01_k».proof.Proof.Gen.KernelIdeal.Value

@[expose] public section

set_option maxRecDepth 16384

noncomputable section

namespace Cert.KernelIdeal.GlaFold

open Idealize.ShloMosaic Idealize.ShloMosaic.TcCoe Cert.KernelIdeal Cert.KernelIdeal.Gen Cert.KernelIdeal.GlaBody Cert.KernelIdeal.GlaPoint
open Cert.KernelIdeal.GlaHost Cert.KernelIdeal.GlaProj Cert.KernelIdeal.GlaKer Cert.KernelIdeal.GlaChunk Cert.GlaModel

section Block

variable (x0 : Vec Ideal S512x1024 .f32) (w : FVec Ideal S1024x6612 .f32) (a : FVec Ideal S16x256 .f32) (bb : FVec Ideal S256 .f32) (ng : FVec Ideal S128 .f32)
  (X : Fin 8 → Fin 4096 → Fin 1024 → EReal) (b : Fin 8) (n0 : ℕ)
  (hx : ∀ (u : Fin 8) (s : Fin 64) (k : Fin 1024), x0 (ix2 (⟨64 * u.val + s.val, by omega⟩ : Fin 512) k) = X b (tok (n0 + u.val) s) k)
  (S : Fin 4 → Vec Ideal S1x128x64 .f32)

/-- The block's log-decays and projections. -/
abbrev gB := gateP x0 (wAll w) (waAll a) (shapeCast S1x256 bb shapeCasts_S256_S1x256)
abbrev pB := k0_pay2 x0 (wAll w)

include hx

theorem gP_nonpos (u : Fin 8) (i : S64x256.Idx) : gP (gB x0 w a bb) u i ≤ (0 : EReal) := by
  rw [eq_ix2 i]
  exact g_nonpos x0 w a bb X b n0 hx u (i 0) (i 1)
theorem hd_g (u : Fin 8) (h : Fin 4) : hd (gP (gB x0 w a bb) u) h = gS X (wF w) (aF a) (bF bb) b h (n0 + u.val) :=
  funext fun s => funext fun c => g_apply x0 w a bb X b n0 hx u s (hc h c)
theorem hd_q (u : Fin 8) (h : Fin 4) : hd (qP (F := Ideal) (pB x0 w) u) h = qS X (wF w) b h (n0 + u.val) :=
  funext fun s => funext fun c => P_q x0 w X b n0 hx u s h c
theorem hd_k (u : Fin 8) (h : Fin 4) : hd (kP (F := Ideal) (pB x0 w) u) h = kS X (wF w) b h (n0 + u.val) :=
  funext fun s => funext fun c => P_k x0 w X b n0 hx u s h c
theorem vP_eq (u : Fin 8) (h : Fin 4) : (fun (r : Fin 64) (e : Fin 128) => (vP (F := Ideal) (pB x0 w) u h (ix2 r e) : EReal)) = vS X (wF w) b h (n0 + u.val) :=
  funext fun s => funext fun e => P_v x0 w X b n0 hx u s h e

variable (hS : ∀ (h : Fin 4) (e : Fin 128) (c : Fin 64), S h (ix3 (0 : Fin 1) e c) = stS X (wF w) (aF a) (bF bb) b h n0 c e)
include hS

/-- The state before the block's chunk `u`. -/
theorem stC_apply (h : Fin 4) : ∀ (u : ℕ) (hu : u ≤ 8) (c : Fin 64) (e : Fin 128),
    stC (gP (gB x0 w a bb)) (kP (pB x0 w)) (vP (pB x0 w)) h (shapeCast S128x64 (S h) shapeCasts_S1x128x64_S128x64) u hu (ix2 e c)
      = stS X (wF w) (aF a) (bF bb) b h (n0 + u) c e
  | 0, _, c, e => by
    refine Eq.trans ?_ (hS h e c)
    show shapeCast S128x64 (S h) shapeCasts_S1x128x64_S128x64 (ix2 e c) = S h (ix3 0 e c)
    pointwise
  | u + 1, hu, c, e => by
    unfold stC
    rw [nextC_apply _ _ (gP_nonpos x0 w a bb X b n0 hx ⟨u, hu⟩), hd_g x0 w a bb X b n0 hx ⟨u, hu⟩ h, hd_k x0 w X b n0 hx ⟨u, hu⟩ h, vP_eq x0 w X b n0 hx ⟨u, hu⟩ h]
    rw [show (fun (c : Fin 64) (e : Fin 128) => (stC (gP (gB x0 w a bb)) (kP (pB x0 w)) (vP (pB x0 w)) h (shapeCast S128x64 (S h) shapeCasts_S1x128x64_S128x64) u (Nat.le_of_lt hu) (ix2 e c) : EReal))
      = stS X (wF w) (aF a) (bF bb) b h (n0 + u) from funext fun c => funext fun e => stC_apply h u (Nat.le_of_lt hu) c e]
    rfl

theorem accC_apply (h : Fin 4) (u : Fin 8) (t : Fin 64) (e : Fin 128) :
    accC (gP (gB x0 w a bb)) (qP (pB x0 w)) (kP (pB x0 w)) (vP (pB x0 w)) S h u (ix2 t e) = oS X (wF w) (aF a) (bF bb) b h (n0 + u.val) t e := by
  unfold accC
  rw [outC_apply _ _ _ (gP_nonpos x0 w a bb X b n0 hx u), hd_g x0 w a bb X b n0 hx u h, hd_q x0 w X b n0 hx u h, hd_k x0 w X b n0 hx u h, vP_eq x0 w X b n0 hx u h]
  rw [show (fun (c : Fin 64) (e : Fin 128) => (stC (gP (gB x0 w a bb)) (kP (pB x0 w)) (vP (pB x0 w)) h (shapeCast S128x64 (S h) shapeCasts_S1x128x64_S128x64) u.val (Nat.le_of_lt u.isLt) (ix2 e c) : EReal))
      = stS X (wF w) (aF a) (bF bb) b h (n0 + u.val) from funext fun c => funext fun e => stC_apply x0 w a bb X b n0 hx S hS h u.val (Nat.le_of_lt u.isLt) c e]
  rfl

/-- The state the block leaves. -/
theorem stP_apply (h : Fin 4) (e : Fin 128) (c : Fin 64) :
    stP (pB x0 w) (gB x0 w a bb) S h (ix3 (0 : Fin 1) e c) = stS X (wF w) (aF a) (bF bb) b h (n0 + 8) c e := by
  refine Eq.trans ?_ (stC_apply x0 w a bb X b n0 hx S hS h 8 (le_refl 8) c e)
  unfold stP newC
  generalize stC (gP (gB x0 w a bb)) (kP (pB x0 w)) (vP (pB x0 w)) h (shapeCast S128x64 (S h) shapeCasts_S1x128x64_S128x64) 8 (le_refl 8) = z
  pointwise

theorem yP_apply (h : Fin 4) (u : Fin 8) (t : Fin 64) (e : Fin 128) :
    yP (pB x0 w) (gB x0 w a bb) S h (ix2 (⟨64 * u.val + t.val, by omega⟩ : Fin 512) e) = oS X (wF w) (aF a) (bF bb) b h (n0 + u.val) t e := by
  refine Eq.trans ?_ (accC_apply x0 w a bb X b n0 hx S hS h u t e)
  have hu : (⟨(64 * u.val + t.val) / 64, by omega⟩ : Fin 8) = u := Fin.ext (by show (64 * u.val + t.val) / 64 = u.val; omega)
  have ht : (⟨(64 * u.val + t.val) % 64, Nat.mod_lt _ (by decide)⟩ : Fin 64) = t := Fin.ext (by show (64 * u.val + t.val) % 64 = t.val; omega)
  show accC _ _ _ _ S h (⟨(64 * u.val + t.val) / 64, by omega⟩ : Fin 8) (ix2 (⟨(64 * u.val + t.val) % 64, Nat.mod_lt _ (by decide)⟩ : Fin 64) e) = _
  rw [hu, ht]

theorem outP_apply (h : Fin 4) (u : Fin 8) (t : Fin 64) (e : Fin 128) :
    outP (pB x0 w) (gB x0 w a bb) (shapeCast S1x128 ng shapeCasts_S128_S1x128) S h (ix2 (⟨64 * u.val + t.val, by omega⟩ : Fin 512) e)
      = res X (wF w) (aF a) (bF bb) (fun e => ng (ix1 e)) b (n0 + u.val) t h e := by
  have f : ∀ (r : FVec Ideal S512x512 .f32) (y : Vec Ideal S512x128 .f32) (i : Fin 512),
      finC h (k0_pay281 r) (k0_pay282 (shapeCast S1x128 ng shapeCasts_S128_S1x128)) y (ix2 i e)
        = fin (fun e => (ng (ix1 e) : EReal)) (r (ix2 i (⟨128 * h.val + e.val, by omega⟩ : Fin 512))) (fun e => y (ix2 i e)) e := fun r y i => by
    pointwise [finC, k0_pay281, k0_pay282, k0_pay283]
    unfold fin
    rw [zero_sub]
  unfold outP res
  rw [f]
  refine congrArg₂ (fun r y => fin (fun e => (ng (ix1 e) : EReal)) r y e) (P_r x0 w X b n0 hx u t ⟨128 * h.val + e.val, by omega⟩) (funext fun e => ?_)
  exact yP_apply x0 w a bb X b n0 hx S hS h u t e

end Block

variable (m : (ℓ : Loc nD τ sig) → Buf (Elt Ideal) ℓ) (c : Dev nD)

/-- The arguments as functions of their indices. -/
def xM : Fin 8 → Fin 4096 → Fin 1024 → EReal := fun b p k => (m ((c : Thread nD τ).loc main_arg0) : FVec Ideal S8x4096x1024 .f32) (ix3 b p k)
abbrev wM : FVec Ideal S1024x6612 .f32 := m ((c : Thread nD τ).loc main_arg1)
abbrev aM : FVec Ideal S16x256 .f32 := m ((c : Thread nD τ).loc main_arg2)
abbrev bM : FVec Ideal S256 .f32 := m ((c : Thread nD τ).loc main_arg3)
abbrev nM : FVec Ideal S128 .f32 := m ((c : Thread nD τ).loc main_arg4)

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = 0 ∧ win0_2.index t (1 : Fin 2) = 0 := (by decide +kernel : ∀ t : Fin grid0.N, _)
theorem index3 : ∀ t : Fin cfg0.N, win0_3.index t (0 : Fin 2) = 0 ∧ win0_3.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)

theorem blk1 (t : Fin cfg0.N) : iblk m c 1 t = wAll (wM m c) := by
  refine Eq.trans (funext fun y => congrArg (V m c (Pipeline.arrRef spec0 1)) (funext fun a => Fin.ext ?_)) (V_1 m c)
  match a with
  | ⟨0, _⟩ => show win0_1.index t (0 : Fin 2) * 1024 + 1 * (y 0).val = (y 0).val; rw [(index1 t).1]; omega
  | ⟨1, _⟩ => show win0_1.index t (1 : Fin 2) * 1664 + 1 * (y 1).val = (y 1).val; rw [(index1 t).2]; omega
theorem blk2 (t : Fin cfg0.N) : iblk m c 2 t = waAll (aM m c) := by
  refine Eq.trans (funext fun y => congrArg (V m c (Pipeline.arrRef spec0 2)) (funext fun a => Fin.ext ?_)) (V_2 m c)
  match a with
  | ⟨0, _⟩ => show win0_2.index t (0 : Fin 2) * 128 + 1 * (y 0).val = (y 0).val; rw [(index2 t).1]; omega
  | ⟨1, _⟩ => show win0_2.index t (1 : Fin 2) * 256 + 1 * (y 1).val = (y 1).val; rw [(index2 t).2]; omega
theorem blk3 (t : Fin cfg0.N) : iblk m c 3 t = shapeCast S1x256 (bM m c) shapeCasts_S256_S1x256 := by
  refine Eq.trans (funext fun y => congrArg (V m c (Pipeline.arrRef spec0 3)) (funext fun a => Fin.ext ?_)) (V_3 m c)
  match a with
  | ⟨0, _⟩ => show win0_3.index t (0 : Fin 2) * 1 + 1 * (y 0).val = (y 0).val; rw [(index3 t).1]; omega
  | ⟨1, _⟩ => show win0_3.index t (1 : Fin 2) * 256 + 1 * (y 1).val = (y 1).val; rw [(index3 t).2]; omega
theorem blk4 (t : Fin cfg0.N) : iblk m c 4 t = shapeCast S1x128 (nM m c) shapeCasts_S128_S1x128 := by
  refine Eq.trans (funext fun y => congrArg (V m c (Pipeline.arrRef spec0 4)) (funext fun a => Fin.ext ?_)) (V_4 m c)
  match a with
  | ⟨0, _⟩ => show win0_4.index t (0 : Fin 2) * 1 + 1 * (y 0).val = (y 0).val; rw [(index4 t).1]; omega
  | ⟨1, _⟩ => show win0_4.index t (1 : Fin 2) * 128 + 1 * (y 1).val = (y 1).val; rw [(index4 t).2]; omega

theorem stream_apply (x : FVec Ideal S8x4096x1024 .f32) (i : Fin 32768) (k : Fin 1024) :
    shapeCast S32768x1024 x shapeCasts_S8x4096x1024_S32768x1024 (ix2 i k) = x (ix3 (⟨i.val / 4096, by omega⟩ : Fin 8) (⟨i.val % 4096, Nat.mod_lt _ (by decide)⟩ : Fin 4096) k) := by
  pointwise

/-- Point `n`'s batch. -/
def bt (n : ℕ) : Fin 8 := ⟨n / 8 % 8, Nat.mod_lt _ (by decide)⟩

theorem blk0 (n : ℕ) (hn : n < cfg0.N) (u : Fin 8) (s : Fin 64) (k : Fin 1024) :
    iblk m c 0 ⟨n, hn⟩ (ix2 (⟨64 * u.val + s.val, by omega⟩ : Fin 512) k) = xM m c (bt n) (tok (8 * (n % 8) + u.val) s) k := by
  have hN : n < 64 := lt_of_lt_of_eq hn N_0
  have hi : 512 * n + (64 * u.val + s.val) < 32768 := by omega
  have e : ((cfg0.win 0).blk (⟨n, hn⟩ : Fin cfg0.N)).view.emb (ix2 (⟨64 * u.val + s.val, by omega⟩ : Fin 512) k) = ix2 (⟨512 * n + (64 * u.val + s.val), hi⟩ : Fin 32768) k := by
    funext a
    match a with
    | ⟨0, _⟩ =>
      refine Fin.ext ?_
      show win0_0.index (⟨n, hn⟩ : Fin cfg0.N) (0 : Fin 2) * 512 + 1 * (64 * u.val + s.val) = 512 * n + (64 * u.val + s.val)
      rw [(index0 ⟨n, hn⟩).1]
      show n * 512 + 1 * (64 * u.val + s.val) = 512 * n + (64 * u.val + s.val)
      omega
    | ⟨1, _⟩ =>
      refine Fin.ext ?_
      show win0_0.index (⟨n, hn⟩ : Fin cfg0.N) (1 : Fin 2) * 1024 + 1 * k.val = k.val
      rw [(index0 ⟨n, hn⟩).2]; omega
  refine (congrArg (V m c (Pipeline.arrRef spec0 0)) e).trans ((congrFun (V_0 m c) _).trans ((stream_apply _ _ k).trans ?_))
  unfold xM
  refine congrArg₂ (fun b p => (m ((c : Thread nD τ).loc main_arg0) : FVec Ideal S8x4096x1024 .f32) (ix3 b p k)) (Fin.ext ?_) (Fin.ext ?_)
  · show (512 * n + (64 * u.val + s.val)) / 4096 = n / 8 % 8
    omega
  · show (512 * n + (64 * u.val + s.val)) % 4096 = (64 * (8 * (n % 8) + u.val) + s.val) % 4096
    omega

abbrev st (h : Fin 4) (n : ℕ) (b : Fin 8) := stS (xM m c) (wF (wM m c)) (aF (aM m c)) (bF (bM m c)) b h n

theorem sP_clear (h : Fin 4) (e : Fin 128) (k : Fin 64) : (sP (F := Ideal) (k0_pay1 (F := Ideal)) h (ix3 (0 : Fin 1) e k) : EReal) = 0 := by
  unfold sP
  pointwise [k0_pay1]

/-- A batch's first point. -/
theorem first (n : ℕ) (hn : n < cfg0.N) (h0 : n % 8 = 0) :
    (∀ (h : Fin 4) (e : Fin 128) (k : Fin 64), (outsAt0 m c n hn).2 (ix3 h e k) = st m c h (8 * (n % 8) + 8) (bt n) k e)
    ∧ ∀ (h : Fin 4) (u : Fin 8) (t : Fin 64) (e : Fin 128), (outsAt0 m c n hn).1 (ix2 (⟨64 * u.val + t.val, by omega⟩ : Fin 512) (⟨128 * h.val + e.val, by omega⟩ : Fin 512))
        = res (xM m c) (wF (wM m c)) (aF (aM m c)) (bF (bM m c)) (fun e => nM m c (ix1 e)) (bt n) (8 * (n % 8) + u.val) t h e := by
  have hx := blk0 m c n hn
  have hS : ∀ (h : Fin 4) (e : Fin 128) (k : Fin 64), sP (F := Ideal) (k0_pay1 (F := Ideal)) h (ix3 (0 : Fin 1) e k) = st m c h (8 * (n % 8)) (bt n) k e := fun h e k => by
    rw [sP_clear, h0]; rfl
  constructor
  · intro h e k
    have E := congrArg Prod.snd (outsAt0_A m c ⟨n, hn⟩ h0)
    dsimp only at E
    refine (congrFun E _).trans ?_
    refine (stA_at c (grid0.coords ⟨n, hn⟩) _ _ _ _ _ _ _ _ _ _ _ _ _ _ _ _ _ _ _ _ _ _ _ _ _ _ h e k).trans ?_
    rw [blk1, blk2, blk3]
    exact stP_apply _ _ _ _ _ _ _ hx (sP (k0_pay1 (F := Ideal))) hS h e k
  · intro h u t e
    have E := congrArg Prod.fst (outsAt0_A m c ⟨n, hn⟩ h0)
    dsimp only at E
    refine (congrFun E _).trans ?_
    refine (outA_at c (grid0.coords ⟨n, hn⟩) _ _ _ _ _ _ _ _ _ _ _ _ _ _ _ _ _ _ _ _ _ _ _ _ _ _ h _ e).trans ?_
    rw [blk1, blk2, blk3, blk4]
    exact outP_apply _ _ _ _ _ _ _ _ hx (sP (k0_pay1 (F := Ideal))) hS h u t e

/-- A batch's later points. -/
theorem later (n : ℕ) (hn : n < cfg0.N) (h0 : ¬n % 8 = 0)
    (hprev : ∀ (h : Fin 4) (e : Fin 128) (k : Fin 64), (outsAt0 m c (n - 1) (Nat.lt_of_le_of_lt (Nat.sub_le _ _) hn)).2 (ix3 h e k) = st m c h (8 * (n % 8)) (bt n) k e) :
    (∀ (h : Fin 4) (e : Fin 128) (k : Fin 64), (outsAt0 m c n hn).2 (ix3 h e k) = st m c h (8 * (n % 8) + 8) (bt n) k e)
    ∧ ∀ (h : Fin 4) (u : Fin 8) (t : Fin 64) (e : Fin 128), (outsAt0 m c n hn).1 (ix2 (⟨64 * u.val + t.val, by omega⟩ : Fin 512) (⟨128 * h.val + e.val, by omega⟩ : Fin 512))
        = res (xM m c) (wF (wM m c)) (aF (aM m c)) (bF (bM m c)) (fun e => nM m c (ix1 e)) (bt n) (8 * (n % 8) + u.val) t h e := by
  have hx := blk0 m c n hn
  have hS : ∀ (h : Fin 4) (e : Fin 128) (k : Fin 64), sP (F := Ideal) (outsAt0 m c (n - 1) (Nat.lt_of_le_of_lt (Nat.sub_le _ _) hn)).2 h (ix3 (0 : Fin 1) e k) = st m c h (8 * (n % 8)) (bt n) k e := fun h e k => hprev h e k
  constructor
  · intro h e k
    have E := congrArg Prod.snd (outsAt0_B m c ⟨n, hn⟩ h0)
    dsimp only at E
    refine (congrFun E _).trans ?_
    refine (stB_at c (grid0.coords ⟨n, hn⟩) _ _ _ _ _ _ _ _ _ _ _ _ _ _ _ _ _ _ _ _ _ _ _ _ _ _ _ h e k).trans ?_
    rw [blk1, blk2, blk3]
    exact stP_apply _ _ _ _ _ _ _ hx (sP _) hS h e k
  · intro h u t e
    have E := congrArg Prod.fst (outsAt0_B m c ⟨n, hn⟩ h0)
    dsimp only at E
    refine (congrFun E _).trans ?_
    refine (outB_at c (grid0.coords ⟨n, hn⟩) _ _ _ _ _ _ _ _ _ _ _ _ _ _ _ _ _ _ _ _ _ _ _ _ _ _ _ h _ e).trans ?_
    rw [blk1, blk2, blk3, blk4]
    exact outP_apply _ _ _ _ _ _ _ _ hx (sP _) hS h u t e

/-- What the points carry and write. -/
theorem points : ∀ (n : ℕ) (hn : n < cfg0.N),
    (∀ (h : Fin 4) (e : Fin 128) (k : Fin 64), (outsAt0 m c n hn).2 (ix3 h e k) = st m c h (8 * (n % 8) + 8) (bt n) k e)
    ∧ ∀ (h : Fin 4) (u : Fin 8) (t : Fin 64) (e : Fin 128), (outsAt0 m c n hn).1 (ix2 (⟨64 * u.val + t.val, by omega⟩ : Fin 512) (⟨128 * h.val + e.val, by omega⟩ : Fin 512))
        = res (xM m c) (wF (wM m c)) (aF (aM m c)) (bF (bM m c)) (fun e => nM m c (ix1 e)) (bt n) (8 * (n % 8) + u.val) t h e := by
  intro n
  induction n with
  | zero =>
    intro hn
    exact first m c 0 hn (Nat.zero_mod _)
  | succ n ih =>
    intro hn
    by_cases h0 : (n + 1) % 8 = 0
    · exact first m c (n + 1) hn h0
    · exact later m c (n + 1) hn h0 fun h e k => ((ih (Nat.lt_of_succ_lt hn)).1 h e k).trans
        (congrArg₂ (fun j b => st m c h j b k e) (by omega : 8 * (n % 8) + 8 = 8 * ((n + 1) % 8)) (Fin.ext (by show n / 8 % 8 = (n + 1) / 8 % 8; omega)))

end Cert.KernelIdeal.GlaFold

end
-- ==== Proof.RefCum.lean ====
/- The reference's running sum, its contractions and its mask, each read at an index over the extended reals. -/
module

public import proofs.«01_k».proof.Proof.Gen.ReferenceIdeal.Step
public import Idealize.ShloMosaic.Lib.Pointwise
public import Idealize.ShloMosaic.Lib.WordCmp

@[expose] public section

set_option maxRecDepth 16384

noncomputable section

namespace Cert.ReferenceIdeal.RefCum

open Idealize.ShloMosaic Cert.ReferenceIdeal Cert.ReferenceIdeal.Gen Cert.ReferenceIdeal.Step

/-- Adding a list up from the left is its start plus the list's sum. -/
theorem foldl_add {α : Type} (f : α → EReal) : ∀ (l : List α) (v : EReal), l.foldl (fun r n => r + f n) v = v + (l.map f).sum
  | [], v => by simp
  | a :: l, v => by rw [List.foldl_cons, foldl_add f l, List.map_cons, List.sum_cons, add_assoc]

/-- The positions of a window of 64 rows. -/
def rowPos : Fin 64 ≃ (⟨4, ![1, 1, 64, 1]⟩ : Shape).Idx where
  toFun w := ix4 (0 : Fin 1) (0 : Fin 1) w (0 : Fin 1)
  invFun j := j 2
  left_inv _ := rfl
  right_inv j := by
    refine Eq.trans ?_ (eq_ix4 j).symm
    exact congrArg₂ (fun a b => ix4 (n0 := 1) (n1 := 1) (n2 := 64) (n3 := 1) a b (j 2) 0) (Subsingleton.elim _ _) (Subsingleton.elim _ _) |>.trans
      (congrArg (fun a => ix4 (n0 := 1) (n1 := 1) (n2 := 64) (n3 := 1) (j 0) (j 1) (j 2) a) (Subsingleton.elim _ _))

/-- The window of 64 rows that ends at row `t`, padded with zeros before the first row, sums the rows up to `t`. -/
theorem window_sum (f : Fin 64 → EReal) (t : Fin 64) :
    (∑ w : Fin 64, if h : 63 ≤ t.val + w.val then f ⟨t.val + w.val - 63, by omega⟩ else 0) = ∑ s : Fin 64, if s ≤ t then f s else 0 := by
  rw [← Equiv.sum_comp (Equiv.addLeft (t + 1)) (fun s : Fin 64 => if s ≤ t then f s else 0)]
  refine Finset.sum_congr rfl fun w _ => ?_
  have hv : (Equiv.addLeft (t + 1) w).val = (t.val + 1 + w.val) % 64 := by
    show (t + 1 + w).val = _
    rw [Fin.val_add, Fin.val_add]
    show ((t.val + 1 % 64) % 64 + w.val) % 64 = _
    omega
  by_cases h : 63 ≤ t.val + w.val
  · have e : Equiv.addLeft (t + 1) w = (⟨t.val + w.val - 63, by omega⟩ : Fin 64) := Fin.ext (hv.trans (by show _ = t.val + w.val - 63; omega))
    rw [dif_pos h, e, if_pos (Fin.le_def.mpr (by show t.val + w.val - 63 ≤ t.val; omega))]
  · rw [dif_neg h, if_neg fun hl => by
      have := Fin.le_def.mp hl
      rw [hv] at this
      omega]

/-- Window position `q` of row `t` lies inside the operand. -/
def Inside (b : Fin 8) (h : Fin 4) (t c : Fin 64) (q : (⟨4, ![1, 1, 64, 1]⟩ : Shape).Idx) : Prop :=
  ∀ a : Fin 4, (![0, 0, 63, 0] : Fin 4 → ℕ) a ≤ (ix4 b h t c a).val * (![1, 1, 1, 1] : Fin 4 → ℕ) a + (q a).val
    ∧ (ix4 b h t c a).val * (![1, 1, 1, 1] : Fin 4 → ℕ) a + (q a).val - (![0, 0, 63, 0] : Fin 4 → ℕ) a < S8x4x64x64.size a

/-- The element a window's row reads: the operand's row, or the padding. -/
theorem window_at (x : FVec Ideal S8x4x64x64 .f32) (b : Fin 8) (h : Fin 4) (t c w : Fin 64) (q : (⟨4, ![1, 1, 64, 1]⟩ : Shape).Idx) (hq : q = rowPos w)
    (d : Decidable (Inside b h t c q)) :
    @dite EReal (Inside b h t c q) d
      (fun hin => x (fun a => ⟨(ix4 b h t c a).val * (![1, 1, 1, 1] : Fin 4 → ℕ) a + (q a).val - (![0, 0, 63, 0] : Fin 4 → ℕ) a, (hin a).2⟩)) (fun _ => 0)
      = if h' : 63 ≤ t.val + w.val then (x (ix4 b h ⟨t.val + w.val - 63, by omega⟩ c) : EReal) else 0 := by
  subst hq
  have ht := t.isLt
  have hw := w.isLt
  have hb := b.isLt
  have hh := h.isLt
  have hc := c.isLt
  by_cases h63 : 63 ≤ t.val + w.val
  · have hin : Inside b h t c (rowPos w) := fun a => by
      match a with
      | ⟨0, _⟩ => show 0 ≤ b.val * 1 + 0 ∧ b.val * 1 + 0 - 0 < 8; omega
      | ⟨1, _⟩ => show 0 ≤ h.val * 1 + 0 ∧ h.val * 1 + 0 - 0 < 4; omega
      | ⟨2, _⟩ => show 63 ≤ t.val * 1 + w.val ∧ t.val * 1 + w.val - 63 < 64; omega
      | ⟨3, _⟩ => show 0 ≤ c.val * 1 + 0 ∧ c.val * 1 + 0 - 0 < 64; omega
    refine (dif_pos hin).trans (Eq.trans ?_ (dif_pos h63).symm)
    refine congrArg x (funext fun a => Fin.ext ?_)
    match a with
    | ⟨0, _⟩ => show b.val * 1 + 0 - 0 = b.val; omega
    | ⟨1, _⟩ => show h.val * 1 + 0 - 0 = h.val; omega
    | ⟨2, _⟩ => show t.val * 1 + w.val - 63 = t.val + w.val - 63; omega
    | ⟨3, _⟩ => show c.val * 1 + 0 - 0 = c.val; omega
  · rw [dif_neg h63]
    refine dif_neg fun hin => h63 ?_
    have h2 : 63 ≤ t.val * 1 + w.val := (hin 2).1
    omega

/-- The reference's running sum over the rows of a chunk. -/
theorem cumsum_apply (x : FVec Ideal S8x4x64x64 .f32) (z : FVec Ideal S_ .f32) (hz : z (Shape.Idx.first h_S_) = (0 : EReal))
    (b : Fin 8) (h : Fin 4) (t c : Fin 64) :
    (Host.reduceWindowAdd ![1, 1, 64, 1] ![1, 1, 1, 1] ![0, 0, 63, 0] ![0, 0, 0, 0] x z
      reduceWindows_S8x4x64x64_S8x4x64x64_w1s1p0_0_w1s1p0_0_w64s1p63_0_w1s1p0_0 h_S_ (ix4 b h t c) : EReal)
      = ∑ s : Fin 64, if s ≤ t then (x (ix4 b h s c) : EReal) else 0 := by
  refine Eq.trans ?_ (window_sum (fun s => x (ix4 b h s c)) t)
  unfold Host.reduceWindowAdd
  rw [hz]
  rw [Ideal.hostReduceWindowAdd_def]
  unfold Ideal.hostReduceWindowAdd Host.reduceWindow
  refine (foldl_add _ _ _).trans ?_
  rw [zero_add, ← Fin.sum_univ_def]
  refine (Equiv.sum_comp (Shape.rowMajor (⟨4, ![1, 1, 64, 1]⟩ : Shape)) _).symm.trans ?_
  refine (Equiv.sum_comp rowPos _).symm.trans ?_
  exact Finset.sum_congr rfl fun w _ => window_at x b h t c w _ (Equiv.symm_apply_apply _ _) _

/-- Queries against one key row per pair of positions. -/
theorem dotQ_apply (x : FVec Ideal S8x4x64x64 .f32) (y : FVec Ideal S8x4x64x64x64 .f32) (b : Fin 8) (h : Fin 4) (t s : Fin 64) :
    (Host.dotGeneral dot_S8x4x64x64_S8x4x64x64x64_S8x4x64x64_3_4_n_3_012_012 none x y (ix4 b h t s) : EReal)
      = ∑ c : Fin 64, (x (ix4 b h t c) : EReal) * y (ix5 b h t s c) := by
  pointwise

/-- Rows against the rows they select. -/
theorem dotV_apply (x : FVec Ideal S8x4x64x64 .f32) (y : FVec Ideal S8x4x64x128 .f32) (b : Fin 8) (h : Fin 4) (t : Fin 64) (e : Fin 128) :
    (Host.dotGeneral dot_S8x4x64x64_S8x4x64x128_S8x4x64x128_3_2_2_3_01_01 none x y (ix4 b h t e) : EReal)
      = ∑ s : Fin 64, (x (ix4 b h t s) : EReal) * y (ix4 b h s e) := by
  pointwise

/-- Columns against columns, summed over the rows. -/
theorem dotT_apply (x : FVec Ideal S8x4x64x64 .f32) (y : FVec Ideal S8x4x64x128 .f32) (b : Fin 8) (h : Fin 4) (c : Fin 64) (e : Fin 128) :
    (Host.dotGeneral dot_S8x4x64x64_S8x4x64x128_S8x4x64x128_2_2_3_3_01_01 none x y (ix4 b h c e) : EReal)
      = ∑ s : Fin 64, (x (ix4 b h s c) : EReal) * y (ix4 b h s e) := by
  pointwise

/-- The projection of the stream. -/
theorem dotW_apply (x : FVec Ideal S8x4096x1024 .f32) (y : FVec Ideal S1024x6612 .f32) (b : Fin 8) (t : Fin 4096) (j : Fin 6612) :
    (Host.dotGeneral dot_S8x4096x1024_S1024x6612_S8x4096x6612_2_0_01_1_n_n none x y (ix3 b t j) : EReal)
      = ∑ k : Fin 1024, (x (ix3 b t k) : EReal) * y (ix2 k j) := by
  pointwise

/-- The gate's second matrix. -/
theorem dotA_apply (x : FVec Ideal S8x4096x16 .f32) (y : FVec Ideal S16x256 .f32) (b : Fin 8) (t : Fin 4096) (j : Fin 256) :
    (Host.dotGeneral dot_S8x4096x16_S16x256_S8x4096x256_2_0_01_1_n_n none x y (ix3 b t j) : EReal)
      = ∑ k : Fin 16, (x (ix3 b t k) : EReal) * y (ix2 k j) := by
  pointwise

end Cert.ReferenceIdeal.RefCum

end
-- ==== Proof.RefTrip.lean ====
/- One trip of the reference's loop, read at an index over the extended reals: the chunk's queries, keys, values and
   gates, the chunk's outputs and the state after it. -/
module

public import proofs.«01_k».proof.Proof.RefCum
public import proofs.«01_k».proof.Proof.GlaSpec

@[expose] public section

set_option maxRecDepth 16384

noncomputable section

namespace Cert.ReferenceIdeal.RefTrip

open Idealize.ShloMosaic Cert.ReferenceIdeal Cert.ReferenceIdeal.Gen Cert.ReferenceIdeal.Step Cert.ReferenceIdeal.RefCum Cert.GlaSpec

/-- Where a trip cuts its chunk. -/
def cut (j : Fin 64) : Fin 5 → ℕ := ![j.val, 0, 0, 0, 0]

/-- A trip's counter is where it cuts. -/
theorem cut_eq (j : Fin 64) (a : Fin 5) :
    (((![constantI S_ 32 (BitVec.ofNat 32 j.val), constantI S_ 32 0#32, constantI S_ 32 0#32, constantI S_ 32 0#32, constantI S_ 32 0#32]
      : Fin 5 → IVec S_ 32)) a (Shape.Idx.first h_S_)).toInt = (cut j a : ℤ) := by
  have hj := j.isLt
  match a with
  | ⟨0, _⟩ => exact WordCmp.toInt_ofNat_of_lt (w := 32) (by omega)
  | ⟨1, _⟩ => rfl
  | ⟨2, _⟩ => rfl
  | ⟨3, _⟩ => rfl
  | ⟨4, _⟩ => rfl

/-- A trip's chunk of 64 columns lies inside the whole. -/
theorem cut_in (j : Fin 64) : S64x8x4x64x64.Slices (cut j) S1x8x4x64x64 := ⟨rfl, fun a => by
  have hj := j.isLt
  match a with
  | ⟨0, _⟩ => show j.val + 1 ≤ 64; omega
  | ⟨1, _⟩ => exact le_refl 8
  | ⟨2, _⟩ => exact le_refl 4
  | ⟨3, _⟩ => exact le_refl 64
  | ⟨4, _⟩ => exact le_refl 64⟩

/-- A trip's chunk of 128 columns lies inside the whole. -/
theorem cut_in' (j : Fin 64) : S64x8x4x64x128.Slices (cut j) S1x8x4x64x128 := ⟨rfl, fun a => by
  have hj := j.isLt
  match a with
  | ⟨0, _⟩ => show j.val + 1 ≤ 64; omega
  | ⟨1, _⟩ => exact le_refl 8
  | ⟨2, _⟩ => exact le_refl 4
  | ⟨3, _⟩ => exact le_refl 64
  | ⟨4, _⟩ => exact le_refl 128⟩

/-- A cut of the whole is its chunk. -/
theorem slice_apply (x : FVec Ideal S64x8x4x64x64 .f32) (j : Fin 64) (b : Fin 8) (h : Fin 4) (t c : Fin 64) :
    (shapeCast S8x4x64x64 (extractStridedSlice S1x8x4x64x64 (cut j) x (cut_in j)) shapeCasts_S1x8x4x64x64_S8x4x64x64 (ix4 b h t c) : EReal)
      = x (ix5 j b h t c) := by
  pointwise [cut]

/-- A cut of the whole values is its chunk. -/
theorem slice_apply' (x : FVec Ideal S64x8x4x64x128 .f32) (j : Fin 64) (b : Fin 8) (h : Fin 4) (t : Fin 64) (e : Fin 128) :
    (shapeCast S8x4x64x128 (extractStridedSlice S1x8x4x64x128 (cut j) x (cut_in' j)) shapeCasts_S1x8x4x64x128_S8x4x64x128 (ix4 b h t e) : EReal)
      = x (ix5 j b h t e) := by
  pointwise [cut]

/-- Chunk `j`'s queries. -/
theorem b5_apply (j : Fin 64) (s : State Ideal) (b : Fin 8) (h : Fin 4) (t c : Fin 64) :
    (b5 j.val s (ix4 b h t c) : EReal) = s.main_v43_0 (ix5 j b h t c) :=
  (congrArg (fun y => (shapeCast S8x4x64x64 y shapeCasts_S1x8x4x64x64_S8x4x64x64 (ix4 b h t c) : EReal))
    (WordCmp.dynamicSlice_eq_extract _ s.main_v43_0 _ sliceFits_S64x8x4x64x64_S1x8x4x64x64 (cut j) (cut_in j) (cut_eq j))).trans (slice_apply _ j b h t c)

/-- Chunk `j`'s keys. -/
theorem b11_apply (j : Fin 64) (s : State Ideal) (b : Fin 8) (h : Fin 4) (t c : Fin 64) :
    (b11 j.val s (ix4 b h t c) : EReal) = s.main_v43_1 (ix5 j b h t c) :=
  (congrArg (fun y => (shapeCast S8x4x64x64 y shapeCasts_S1x8x4x64x64_S8x4x64x64 (ix4 b h t c) : EReal))
    (WordCmp.dynamicSlice_eq_extract _ s.main_v43_1 _ sliceFits_S64x8x4x64x64_S1x8x4x64x64 (cut j) (cut_in j) (cut_eq j))).trans (slice_apply _ j b h t c)

/-- Chunk `j`'s gates. -/
theorem b23_apply (j : Fin 64) (s : State Ideal) (b : Fin 8) (h : Fin 4) (t c : Fin 64) :
    (b23 j.val s (ix4 b h t c) : EReal) = s.main_v43_3 (ix5 j b h t c) :=
  (congrArg (fun y => (shapeCast S8x4x64x64 y shapeCasts_S1x8x4x64x64_S8x4x64x64 (ix4 b h t c) : EReal))
    (WordCmp.dynamicSlice_eq_extract _ s.main_v43_3 _ sliceFits_S64x8x4x64x64_S1x8x4x64x64 (cut j) (cut_in j) (cut_eq j))).trans (slice_apply _ j b h t c)

/-- Chunk `j`'s values. -/
theorem b17_apply (j : Fin 64) (s : State Ideal) (b : Fin 8) (h : Fin 4) (t : Fin 64) (e : Fin 128) :
    (b17 j.val s (ix4 b h t e) : EReal) = s.main_v43_2 (ix5 j b h t e) :=
  (congrArg (fun y => (shapeCast S8x4x64x128 y shapeCasts_S1x8x4x64x128_S8x4x64x128 (ix4 b h t e) : EReal))
    (WordCmp.dynamicSlice_eq_extract _ s.main_v43_2 _ sliceFits_S64x8x4x64x128_S1x8x4x64x128 (cut j) (cut_in' j) (cut_eq j))).trans (slice_apply' _ j b h t e)

/-- The mask of a chunk: the positions up to the row's own. -/
theorem mask_apply (t s : Fin 64) : (K_main_v32 (F := Ideal)) (ix2 t s) = BitVec.ofBool (decide (s ≤ t)) := by
  have ht := t.isLt
  have hs := s.isLt
  have e : (K_main_v32 (F := Ideal)) (ix2 t s)
      = Scalar.select (IntOp.cmpi .sge (IntOp.addi (BitVec.ofNat 32 t.val) 0#32) (BitVec.ofNat 32 s.val)) 1#1 0#1 := by
    pointwise [K_main_v32, K_main_call1_v4, K_main_call1_v2, K_main_call1_v0, K_main_call1_v1, K_main_call1_v3, K_main_call1_v5, K_main_v31, K_main_c, K_main_call1_c, K_main_call1_c_0, hlo_ix]
  have a0 : IntOp.addi (BitVec.ofNat 32 t.val) 0#32 = BitVec.ofNat 32 t.val := BitVec.add_zero _
  rw [e, a0, WordCmp.cmpi_sge_ofNat (by omega) (by omega)]
  by_cases h : s ≤ t
  · rw [decide_eq_true h, decide_eq_true (show s.val ≤ t.val from h)]; rfl
  · rw [decide_eq_false h, decide_eq_false (show ¬ s.val ≤ t.val from h)]; rfl

/-- The running log-decays of chunk `j`. -/
theorem b26_apply (j : Fin 64) (s : State Ideal) (b : Fin 8) (h : Fin 4) (t c : Fin 64) :
    (b26 j.val s (ix4 b h t c) : EReal) = cum (fun t c => s.main_v43_3 (ix5 j b h t c)) t c := by
  have hz : (b25 (F := Ideal) j.val s (Shape.Idx.first h_S_) : EReal) = 0 := Ideal.ofBits_zero_f32
  refine (cumsum_apply _ _ hz b h t c).trans (Finset.sum_congr rfl fun r _ => ?_)
  rw [b23_apply]

/-- The decay from one position of a chunk to a later one. -/
theorem b37_apply (j : Fin 64) (st : State Ideal) (b : Fin 8) (h : Fin 4) (t s c : Fin 64) :
    (b37 j.val st (ix5 b h t s c) : EReal)
      = if s ≤ t then Ideal.exp (cum (fun t c => st.main_v43_3 (ix5 j b h t c)) t c - cum (fun t c => st.main_v43_3 (ix5 j b h t c)) s c) else 0 := by
  have e : (b37 j.val st (ix5 b h t s c) : EReal)
      = Ideal.exp (Scalar.select (K_main_v32 (F := Ideal) (ix2 t s)) ((b26 j.val st (ix4 b h t c) : EReal) - b26 j.val st (ix4 b h s c)) (Ideal.ofBits .f32 0xFF800000#32)) := by
    pointwise [b37, b36, b34, b32, b31, b29, b27, b30, b28, b35, b33, hlo_ix]
  have hbot : Ideal.ofBits .f32 0xFF800000#32 = (⊥ : EReal) := by simp [Ideal.ofBits, Ideal.ieee]
  rw [e, mask_apply, b26_apply, b26_apply, hbot]
  by_cases hs : s ≤ t
  · rw [decide_eq_true hs, if_pos hs]; rfl
  · rw [decide_eq_false hs, if_neg hs]; exact Ideal.exp_bot

/-- The last row's running log-decay. -/
theorem b48_apply (j : Fin 64) (s : State Ideal) (b : Fin 8) (h : Fin 4) (c : Fin 64) :
    (b48 j.val s (ix3 b h c) : EReal) = b26 j.val s (ix4 b h 63 c) := by
  pointwise [b48, b47, hlo_ix]

/-- The decay of the whole chunk, for every value column. -/
theorem b51_apply (j : Fin 64) (s : State Ideal) (b : Fin 8) (h : Fin 4) (c : Fin 64) (e : Fin 128) :
    (b51 j.val s (ix4 b h c e) : EReal) = Ideal.exp (b26 j.val s (ix4 b h 63 c)) := by
  rw [← b48_apply]
  pointwise [b51, b50, b49, hlo_ix]

/-- The decay from a position to the end of the chunk. -/
theorem b55_apply (j : Fin 64) (s : State Ideal) (b : Fin 8) (h : Fin 4) (t c : Fin 64) :
    (b55 j.val s (ix4 b h t c) : EReal) = Ideal.exp ((b26 j.val s (ix4 b h 63 c) : EReal) - b26 j.val s (ix4 b h t c)) := by
  pointwise [b55, b54, b53, b47, hlo_ix]

/-- The chunk's outputs. -/
theorem b46_apply (j : Fin 64) (s : State Ideal) (b : Fin 8) (h : Fin 4) (t : Fin 64) (e : Fin 128) :
    (b46 j.val s (ix4 b h t e) : EReal)
      = out (fun t c => s.main_v43_3 (ix5 j b h t c)) (fun t c => s.main_v43_0 (ix5 j b h t c)) (fun t c => s.main_v43_1 (ix5 j b h t c))
          (fun t e => s.main_v43_2 (ix5 j b h t e)) (fun c e => s.main_v43_6 (ix4 b h c e)) t e := by
  refine congrArg₂ (fun a b : EReal => a + b) ((dotV_apply _ _ b h t e).trans (Finset.sum_congr rfl fun r _ => ?_))
    ((dotV_apply _ _ b h t e).trans (Finset.sum_congr rfl fun c _ => ?_))
  · rw [b17_apply]
    refine congrArg (fun a : EReal => a * s.main_v43_2 (ix5 j b h r e)) ((dotQ_apply _ _ b h t r).trans ?_)
    have ek : ∀ c : Fin 64, (b40 j.val s (ix5 b h t r c) : EReal) = (b37 j.val s (ix5 b h t r c) : EReal) * b11 j.val s (ix4 b h r c) := fun c => by
      pointwise [b40, b39, b38, hlo_ix]
    unfold score
    by_cases hr : r ≤ t
    · rw [if_pos hr]
      refine Finset.sum_congr rfl fun c _ => ?_
      rw [ek, b37_apply, if_pos hr, b5_apply, b11_apply]
    · rw [if_neg hr]
      refine Finset.sum_eq_zero fun c _ => ?_
      rw [ek, b37_apply, if_neg hr, zero_mul, mul_zero]
  · refine congrArg (fun a : EReal => a * s.main_v43_6 (ix4 b h c e)) ?_
    have eq : (b44 j.val s (ix4 b h t c) : EReal) = (b5 j.val s (ix4 b h t c) : EReal) * Ideal.exp (b26 j.val s (ix4 b h t c)) := rfl
    rw [eq, b5_apply, b26_apply]

/-- The state after the chunk. -/
theorem b58_apply (j : Fin 64) (s : State Ideal) (b : Fin 8) (h : Fin 4) (c : Fin 64) (e : Fin 128) :
    (b58 j.val s (ix4 b h c e) : EReal)
      = next (fun t c => s.main_v43_3 (ix5 j b h t c)) (fun t c => s.main_v43_1 (ix5 j b h t c))
          (fun t e => s.main_v43_2 (ix5 j b h t e)) (fun c e => s.main_v43_6 (ix4 b h c e)) c e := by
  refine congrArg₂ (fun a b : EReal => a + b) ?_ ((dotT_apply _ _ b h c e).trans (Finset.sum_congr rfl fun r _ => ?_))
  · refine congrArg (fun a : EReal => a * s.main_v43_6 (ix4 b h c e)) ?_
    rw [b51_apply, b26_apply]
  · have eq : (b56 j.val s (ix4 b h r c) : EReal) = (b11 j.val s (ix4 b h r c) : EReal) * b55 j.val s (ix4 b h r c) := rfl
    rw [eq, b55_apply, b17_apply, b11_apply, b26_apply, b26_apply]

/-- The outputs after the chunk: the chunk's own at its place. -/
theorem b64_apply (j n : Fin 64) (s : State Ideal) (b : Fin 8) (h : Fin 4) (t : Fin 64) (e : Fin 128) :
    (b64 j.val s (ix5 n b h t e) : EReal) = if n = j then (b46 j.val s (ix4 b h t e) : EReal) else s.main_v43_7 (ix5 n b h t e) := by
  have hj := j.isLt
  have hn := n.isLt
  refine (congrFun (WordCmp.dynamicUpdateSlice_eq_update s.main_v43_7 (b59 j.val s) _ updateFits_S64x8x4x64x128_S1x8x4x64x128 (cut j) (cut_in' j) (cut_eq j)) _).trans ?_
  have e1 : ∀ t e, (b59 j.val s (ix5 0 b h t e) : EReal) = b46 j.val s (ix4 b h t e) := fun t e => by
    pointwise [b59, hlo_ix]
  by_cases h0 : n = j
  · subst h0
    rw [if_pos rfl, ← e1]
    pointwise [cut]
    rw [dif_pos (by omega)]
    exact congrArg (fun r : Fin 1 => b59 n.val s (ix5 r b h t e)) (Subsingleton.elim _ _)
  · rw [if_neg h0]
    pointwise [cut]
    rw [dif_neg fun hr => h0 (Fin.ext (by omega))]

end Cert.ReferenceIdeal.RefTrip

end
-- ==== Proof.RefHost.lean ====
/- What the reference computes before its loop, read at an index over the extended reals: the chunks of the queries, the
   keys, the values and the log-gates. -/
module

public import proofs.«01_k».proof.Proof.RefCum
public import proofs.«01_k».proof.Proof.GlaModel

@[expose] public section

set_option maxRecDepth 16384

noncomputable section

namespace Cert.ReferenceIdeal.RefHost

open Idealize.ShloMosaic Cert.ReferenceIdeal Cert.ReferenceIdeal.Gen Cert.ReferenceIdeal.Step Cert.ReferenceIdeal.RefCum Cert.GlaModel

variable (x : FVec Ideal S8x4096x1024 .f32) (w : FVec Ideal S1024x6612 .f32) (a : FVec Ideal S16x256 .f32) (bi : FVec Ideal S256 .f32)

/-- The arguments as functions of their coordinates. -/
def xF : Fin 8 → Fin 4096 → Fin 1024 → EReal := fun b t k => x (ix3 b t k)
def wF : Fin 1024 → Fin 6612 → EReal := fun k j => w (ix2 k j)
def aF : Fin 16 → Fin 256 → EReal := fun l j => a (ix2 l j)
def bF : Fin 256 → EReal := fun j => bi (ix1 j)

/-- The projection at a row and a column. -/
theorem v0_apply (b : Fin 8) (τ' : Fin 4096) (j : Fin 6612) : (A_main_v0 (F := Ideal) x w a bi (ix3 b τ' j) : EReal) = proj (xF x) (wF w) b τ' j :=
  dotW_apply _ _ b τ' j

/-- A token's row of the stream. -/
theorem tok_eq (n t : Fin 64) (h : n.val * 64 + t.val < 4096) : (⟨n.val * 64 + t.val, h⟩ : Fin 4096) = tok n.val t :=
  Fin.ext (by show n.val * 64 + t.val = (64 * n.val + t.val) % 4096; omega)

/-- The projection at a token and a column of it. -/
theorem v0_tok (n t : Fin 64) (b : Fin 8) (h : n.val * 64 + t.val < 4096) (i j : Fin 6612) (e : i.val = j.val) :
    (A_main_v0 (F := Ideal) x w a bi (ix3 b ⟨n.val * 64 + t.val, h⟩ i) : EReal) = proj (xF x) (wF w) b (tok n.val t) j := by
  rw [tok_eq, v0_apply, Fin.ext e]

/-- The queries. -/
theorem q_apply (n : Fin 64) (b : Fin 8) (h : Fin 4) (t c : Fin 64) :
    (A_main_v35 (F := Ideal) x w a bi (ix5 n b h t c) : EReal) = qS (xF x) (wF w) b h n.val t c := by
  pointwise [A_main_v35, A_main_v34, A_main_v27, A_main_v25, A_main_v7, K_main_v26, K_main_cst_0, hlo_ix]
  rw [v0_tok x w a bi n t b _ _ ⟨964 + (64 * h.val + c.val), by omega⟩ (by show 964 + (h.val * 64 + c.val) = 964 + (64 * h.val + c.val); omega), eighth]
  rfl

/-- The keys. -/
theorem k_apply (n : Fin 64) (b : Fin 8) (h : Fin 4) (t c : Fin 64) :
    (A_main_v37 (F := Ideal) x w a bi (ix5 n b h t c) : EReal) = kS (xF x) (wF w) b h n.val t c := by
  pointwise [A_main_v37, A_main_v36, A_main_v28, A_main_v8, hlo_ix]
  exact v0_tok x w a bi n t b _ _ _ (by show 1220 + (h.val * 64 + c.val) = 1220 + (64 * h.val + c.val); omega)

/-- The values. -/
theorem v_apply (n : Fin 64) (b : Fin 8) (h : Fin 4) (t : Fin 64) (e : Fin 128) :
    (A_main_v39 (F := Ideal) x w a bi (ix5 n b h t e) : EReal) = vS (xF x) (wF w) b h n.val t e := by
  pointwise [A_main_v39, A_main_v38, A_main_v29, A_main_v9, hlo_ix]
  exact v0_tok x w a bi n t b _ _ _ (by show 1476 + (h.val * 128 + e.val) = 1476 + (128 * h.val + e.val); omega)

/-- The gate's argument. -/
theorem pre_apply (b : Fin 8) (τ' : Fin 4096) (j : Fin 256) :
    (A_main_v19 (F := Ideal) x w a bi (ix3 b τ' j) : EReal) = pre (xF x) (wF w) (aF a) (bF bi) b τ' j := by
  refine congrArg₂ (fun a b : EReal => a + b) ((dotA_apply _ _ b τ' j).trans (Finset.sum_congr rfl fun l _ => ?_)) ?_
  · refine congrArg (fun y : EReal => y * a (ix2 l j)) ?_
    pointwise [A_main_v10, hlo_ix]
    exact v0_apply x w a bi b τ' _
  · pointwise [A_main_v18, A_main_v17, hlo_ix]
    rfl

/-- The log-gate at a token and a column. -/
theorem gate_apply (b : Fin 8) (τ' : Fin 4096) (j : Fin 256) :
    (A_main_v24 (F := Ideal) x w a bi (ix3 b τ' j) : EReal) = gate (pre (xF x) (wF w) (aF a) (bF bi) b τ' j) := by
  rw [← pre_apply x w a bi, ← gate_softplus]
  pointwise [A_main_v24, A_main_v22, A_main_v21, A_main_call0_v4, A_main_call0_v6, A_main_call0_v11, A_main_call0_v10, A_main_call0_v9, A_main_call0_v8, A_main_call0_v7, A_main_call0_v3, A_main_call0_v1, A_main_v20, K_main_call0_v0, K_main_call0_v2, K_main_call0_v5, K_main_call0_cst, K_main_v23, K_main_cst, hlo_ix]
  rw [if_neg (fun h => h rfl), sixteen]
  rfl

/-- The log-gates. -/
theorem g_apply (n : Fin 64) (b : Fin 8) (h : Fin 4) (t c : Fin 64) :
    (A_main_v41 (F := Ideal) x w a bi (ix5 n b h t c) : EReal) = gS (xF x) (wF w) (aF a) (bF bi) b h n.val t c := by
  unfold gS
  rw [← gate_apply x w a bi]
  pointwise [A_main_v41, A_main_v40, A_main_v30, hlo_ix]
  rw [tok_eq]
  exact congrArg (fun j => (A_main_v24 (F := Ideal) x w a bi (ix3 b (tok n.val t) j) : EReal)) (Fin.ext (by show h.val * 64 + c.val = 64 * h.val + c.val; omega))

end Cert.ReferenceIdeal.RefHost

end
-- ==== Proof.RefFold.lean ====
/- The reference's scan, chunk by chunk, and its result read at an index over the extended reals. -/
module

public import proofs.«01_k».proof.Proof.RefTrip
public import proofs.«01_k».proof.Proof.RefHost
public import proofs.«01_k».proof.Proof.RefLoop

@[expose] public section

set_option maxRecDepth 16384

noncomputable section

namespace Cert.ReferenceIdeal.RefFold

open Idealize.ShloMosaic Cert.ReferenceIdeal Cert.ReferenceIdeal.Gen Cert.ReferenceIdeal.Step Cert.ReferenceIdeal.RefCum Cert.ReferenceIdeal.RefTrip
  Cert.ReferenceIdeal.RefHost Cert.ReferenceIdeal.RefLoop Cert.GlaModel Cert.GlaSpec

variable (x : FVec Ideal S8x4096x1024 .f32) (w : FVec Ideal S1024x6612 .f32) (a : FVec Ideal S16x256 .f32) (bi : FVec Ideal S256 .f32) (g : FVec Ideal S128 .f32)

/-- The scan's state before chunk `n`. -/
def at' (n : ℕ) : State Ideal := iter (init x w a bi) n

/-- The scan leaves the queries, the keys, the values and the gates as they are. -/
theorem at_q : ∀ n, (at' x w a bi n).main_v43_0 = A_main_v35 x w a bi
  | 0 => rfl
  | n + 1 => at_q n
theorem at_k : ∀ n, (at' x w a bi n).main_v43_1 = A_main_v37 x w a bi
  | 0 => rfl
  | n + 1 => at_k n
theorem at_v : ∀ n, (at' x w a bi n).main_v43_2 = A_main_v39 x w a bi
  | 0 => rfl
  | n + 1 => at_v n
theorem at_g : ∀ n, (at' x w a bi n).main_v43_3 = A_main_v41 x w a bi
  | 0 => rfl
  | n + 1 => at_g n

/-- The chunk's gates, queries, keys and values are the layer's. -/
theorem g_fun (n : ℕ) (j : Fin 64) (b : Fin 8) (h : Fin 4) :
    (fun t c => ((at' x w a bi n).main_v43_3 (ix5 j b h t c) : EReal)) = gS (xF x) (wF w) (aF a) (bF bi) b h j.val := by
  funext t c; rw [at_g]; exact g_apply x w a bi j b h t c
theorem q_fun (n : ℕ) (j : Fin 64) (b : Fin 8) (h : Fin 4) :
    (fun t c => ((at' x w a bi n).main_v43_0 (ix5 j b h t c) : EReal)) = qS (xF x) (wF w) b h j.val := by
  funext t c; rw [at_q]; exact q_apply x w a bi j b h t c
theorem k_fun (n : ℕ) (j : Fin 64) (b : Fin 8) (h : Fin 4) :
    (fun t c => ((at' x w a bi n).main_v43_1 (ix5 j b h t c) : EReal)) = kS (xF x) (wF w) b h j.val := by
  funext t c; rw [at_k]; exact k_apply x w a bi j b h t c
theorem v_fun (n : ℕ) (j : Fin 64) (b : Fin 8) (h : Fin 4) :
    (fun t e => ((at' x w a bi n).main_v43_2 (ix5 j b h t e) : EReal)) = vS (xF x) (wF w) b h j.val := by
  funext t e; rw [at_v]; exact v_apply x w a bi j b h t e

/-- The state before chunk `n` is the layer's. -/
theorem st_fun (b : Fin 8) (h : Fin 4) : ∀ n, n ≤ 64 →
    (fun c e => ((at' x w a bi n).main_v43_6 (ix4 b h c e) : EReal)) = stS (xF x) (wF w) (aF a) (bF bi) b h n
  | 0, _ => by funext c e; exact Ideal.ofBits_zero_f32
  | n + 1, hn => by
    funext c e
    refine (b58_apply ⟨n, by omega⟩ (at' x w a bi n) b h c e).trans ?_
    rw [g_fun, k_fun, v_fun, st_fun b h n (by omega)]
    rfl

/-- The outputs before chunk `n`: those of the chunks before. -/
theorem o_apply (b : Fin 8) (h : Fin 4) (i : Fin 64) (t : Fin 64) (e : Fin 128) : ∀ n, n ≤ 64 → i.val < n →
    ((at' x w a bi n).main_v43_7 (ix5 i b h t e) : EReal) = oS (xF x) (wF w) (aF a) (bF bi) b h i.val t e
  | 0, _, hi => absurd hi (Nat.not_lt_zero _)
  | n + 1, hn, hi => by
    refine (b64_apply ⟨n, by omega⟩ i (at' x w a bi n) b h t e).trans ?_
    by_cases hin : i = ⟨n, by omega⟩
    · obtain rfl : i.val = n := congrArg Fin.val hin
      rw [if_pos hin, b46_apply, g_fun, q_fun, k_fun, v_fun, st_fun x w a bi b h i.val (by omega)]
      rfl
    · rw [if_neg hin]
      exact o_apply b h i t e n (by omega) (by
        have : i.val ≠ n := fun hv => hin (Fin.ext hv)
        omega)

/-- What the operations after the scan make of its outputs. -/
theorem readout (s : State Ideal) (b : Fin 8) (n t : Fin 64) (h : Fin 4) (e : Fin 128) :
    (R_main_v79 (F := Ideal) s x w g (ix2 ⟨4096 * b.val + 64 * n.val + t.val, by omega⟩ ⟨128 * h.val + e.val, by omega⟩) : EReal)
      = fin (fun e => g (ix1 e)) (proj (xF x) (wF w) b (tok n.val t) ⟨2004 + (128 * h.val + e.val), by omega⟩) (fun e => s.main_v43_7 (ix5 n b h t e)) e := by
  have et : (⟨(4096 * b.val + 64 * n.val + t.val) % 4096, Nat.mod_lt _ (by decide)⟩ : Fin 4096) = tok n.val t :=
    Fin.ext (by show (4096 * b.val + 64 * n.val + t.val) % 4096 = (64 * n.val + t.val) % 4096; omega)
  unfold fin proj
  rw [← et]
  pointwise [R_main_v79, hlo_ix]
  rfl

/-- The reference's result at batch `b`, token `t` of chunk `n`, head `h` and entry `e`. -/
theorem result (b : Fin 8) (n t : Fin 64) (h : Fin 4) (e : Fin 128) :
    (R_main_v79 (F := Ideal) (at' x w a bi 64) x w g (ix2 ⟨4096 * b.val + 64 * n.val + t.val, by omega⟩ ⟨128 * h.val + e.val, by omega⟩) : EReal)
      = res (xF x) (wF w) (aF a) (bF bi) (fun e => g (ix1 e)) b n.val t h e := by
  rw [readout, funext fun e => o_apply x w a bi b h n t e 64 (le_refl _) n.isLt]
  rfl

/-- The same of the scan's last state as the run states it. -/
theorem result_iter (b : Fin 8) (n t : Fin 64) (h : Fin 4) (e : Fin 128) :
    (R_main_v79 (F := Ideal) (iter (init x w a bi) 64) x w g (ix2 ⟨4096 * b.val + 64 * n.val + t.val, by omega⟩ ⟨128 * h.val + e.val, by omega⟩) : EReal)
      = res (xF x) (wF w) (aF a) (bF bi) (fun e => g (ix1 e)) b n.val t h e := by
  have H := result x w a bi g b n t h e
  unfold at' at H
  exact H

end Cert.ReferenceIdeal.RefFold

end
-- ==== Proof.GlaResult.lean ====
/- The kernel's result and the reference's, compared: the two programs end with equal values. -/
module

public import proofs.«01_k».proof.Defs
public import proofs.«01_k».proof.Proof.GlaFold
public import proofs.«01_k».proof.Proof.RefFold

@[expose] public section

set_option maxRecDepth 16384

noncomputable section

namespace Cert.GlaResult

open Idealize.ShloMosaic Idealize.SL.Sem Cert.GlaModel Cert.KernelIdeal.GlaProj Cert.KernelIdeal.GlaFold

section KernelSide

open Cert.KernelIdeal Cert.KernelIdeal.Gen Cert.KernelIdeal.Value

variable (m : (ℓ : Loc nD τ sig) → Buf (Elt Ideal) ℓ) (c : Dev nD)

/-- The kernel's result at batch `b`, token `t` of chunk `n`, head `h` and entry `e`. -/
theorem kernel_at (b : Fin 8) (n t : Fin 64) (h : Fin 4) (e : Fin 128) :
    (G5 m c (ix2 (⟨4096 * b.val + 64 * n.val + t.val, by omega⟩ : Fin 32768) (⟨128 * h.val + e.val, by omega⟩ : Fin 512)) : EReal)
      = res (xM m c) (wF (wM m c)) (aF (aM m c)) (bF (bM m c)) (fun e => nM m c (ix1 e)) b n.val t h e := by
  have hp : pt5Of (ix2 (⟨4096 * b.val + 64 * n.val + t.val, by omega⟩ : Fin 32768) (⟨128 * h.val + e.val, by omega⟩ : Fin 512)) = 8 * b.val + n.val / 8 := by
    show 1 * ((4096 * b.val + 64 * n.val + t.val) / 512 - 0) + 1 * ((128 * h.val + e.val) / 512 - 0) = 8 * b.val + n.val / 8
    omega
  have hl : loc5Of (ix2 (⟨4096 * b.val + 64 * n.val + t.val, by omega⟩ : Fin 32768) (⟨128 * h.val + e.val, by omega⟩ : Fin 512))
      = ix2 (⟨64 * (n.val % 8) + t.val, by omega⟩ : Fin 512) (⟨128 * h.val + e.val, by omega⟩ : Fin 512) := by
    funext a
    match a with
    | ⟨0, _⟩ => exact Fin.ext (by show (4096 * b.val + 64 * n.val + t.val) % 512 = 64 * (n.val % 8) + t.val; omega)
    | ⟨1, _⟩ => exact Fin.ext (by show (128 * h.val + e.val) % 512 = 128 * h.val + e.val; omega)
  have hN : cfg0.N = 64 := N_0
  have hlt : 8 * b.val + n.val / 8 < cfg0.N := by omega
  unfold G5
  rw [dif_pos (by rw [hp]; exact hlt), hl, fold0_congr m c _ _ _ (by omega) hp, ← outsAt0_sweep m c _ hlt]
  refine ((points m c _ hlt).2 h ⟨n.val % 8, by omega⟩ t e).trans ?_
  refine congrArg₂ (fun b' n' => res (xM m c) (wF (wM m c)) (aF (aM m c)) (bF (bM m c)) (fun e => nM m c (ix1 e)) b' n' t h e) (Fin.ext ?_) ?_
  · show (8 * b.val + n.val / 8) / 8 % 8 = b.val
    omega
  · show 8 * ((8 * b.val + n.val / 8) % 8) + n.val % 8 = n.val
    omega

end KernelSide

/-- Two arrays of the result's shape are equal when they agree at every batch, chunk, token, head and entry. -/
theorem ext_result {f g : Cert.KernelIdeal.S32768x512.Idx → EReal}
    (h : ∀ (b : Fin 8) (n t : Fin 64) (hd : Fin 4) (e : Fin 128),
      f (ix2 (⟨4096 * b.val + 64 * n.val + t.val, by omega⟩ : Fin 32768) (⟨128 * hd.val + e.val, by omega⟩ : Fin 512))
        = g (ix2 (⟨4096 * b.val + 64 * n.val + t.val, by omega⟩ : Fin 32768) (⟨128 * hd.val + e.val, by omega⟩ : Fin 512))) : f = g := by
  funext i
  obtain ⟨p, q, rfl⟩ : ∃ (p : Fin 32768) (q : Fin 512), i = ix2 p q := ⟨i 0, i 1, eq_ix2 i⟩
  have hp := p.isLt
  have hq := q.isLt
  have e0 : (⟨4096 * (p.val / 4096) + 64 * (p.val / 64 % 64) + p.val % 64, by omega⟩ : Fin 32768) = p := Fin.ext (by show 4096 * (p.val / 4096) + 64 * (p.val / 64 % 64) + p.val % 64 = p.val; omega)
  have e1 : (⟨128 * (q.val / 128) + q.val % 128, by omega⟩ : Fin 512) = q := Fin.ext (by show 128 * (q.val / 128) + q.val % 128 = q.val; omega)
  have := h ⟨p.val / 4096, by omega⟩ ⟨p.val / 64 % 64, by omega⟩ ⟨p.val % 64, by omega⟩ ⟨q.val / 128, by omega⟩ ⟨q.val % 128, by omega⟩
  rw [e0, e1] at this
  exact this

/-- From memories that agree on the arguments the kernel's result is the reference's. -/
theorem agree (m : (ℓ : Loc Cert.KernelIdeal.nD Cert.KernelIdeal.τ Cert.KernelIdeal.sig) → Buf (Elt Ideal) ℓ) (c : Dev Cert.KernelIdeal.nD) :
    (Cert.KernelIdeal.Value.G5 m c : Cert.KernelIdeal.S32768x512.Idx → EReal)
      = Cert.ReferenceIdeal.Step.R_main_v79 (F := Ideal)
          (Cert.ReferenceIdeal.RefLoop.iter (Cert.ReferenceIdeal.Step.init
            (m ((c.tc : Thread Cert.KernelIdeal.nD Cert.KernelIdeal.τ).loc Cert.KernelIdeal.main_arg0)) (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) (m ((c.tc : Thread Cert.KernelIdeal.nD Cert.KernelIdeal.τ).loc Cert.KernelIdeal.main_arg3))) 64)
          (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg4)) :=
  ext_result fun b n t h e => (kernel_at m c b n t h e).trans (Cert.ReferenceIdeal.RefFold.result_iter _ _ _ _ _ b n t h e).symm

end Cert.GlaResult

end
-- ==== Proof.FfnHost.lean ====
/- The expert network's launch: the buffers as the host operations before the kernel call leave them, the two prefetched
   tables among them, and the windows' blocks read off those buffers. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Tactic
public import Idealize.ShloMosaic.Lib.WordCmp
public import Idealize.ShloMosaic.Lib.Ring

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The host operations. -/

/-- The host operations before the kernel call, stretch by stretch. -/
abbrev stretches : List (List (HloOp τ sig (Elt F))) :=
  [hostOps0, hostOps0_1, hostOps0_2, hostOps0_3, hostOps0_4, hostOps0_5, hostOps0_6]

/-- Core `c`'s buffers when the kernel is called. -/
abbrev V (c : Dev nD) (b : Ref sig .tc) : Buf (Elt F) ((c : Thread nD τ).loc b) :=
  StableHlo.after (List.flatten stretches) (fun b => m (c, b)) b

/-- No operation draws fresh values. -/
theorem stretches_fresh : (stretches (F := F)).Forall fun ops => ops.Forall fun op => op.fresh = ∅ := by
  simp only [stretches, List.Forall]
  repeat' constructor

/-- Each operation touches the core's references only. -/
theorem stretches_sub : (stretches (F := F)).Forall fun ops => ops.Forall fun op => op.bufs ⊆ StableHlo.tcRefs τ sig := by
  simp only [stretches, List.Forall]
  exact ⟨hostOps0_sub, hostOps0_1_sub, hostOps0_2_sub, hostOps0_3_sub, hostOps0_4_sub, hostOps0_5_sub, hostOps0_6_sub⟩

set_option maxHeartbeats 800000 in
/-- The program is these stretches, then the kernel call. -/
theorem hmain (𝒱₀ : Variants) : Pipeline.HMainP (Ix := Unit) (Name := ℕ) (U := UR sig nD τ) (Lvl := ℕ) pcfgs 0 defs₀ 𝒱₀ m
    (main (F := F)) (V m) :=
  Pipeline.hmainP_prefixes pcfgs 0 defs₀ 𝒱₀ m main stretches stretches_sub stretches_fresh main_chain

/-- A buffer that is the result of none of the host operations is found as launched. -/
theorem V_of_not_written (c : Dev nD) (b : Ref sig .tc)
    (h : (List.flatten (stretches (F := F))).Forall fun op => (Proc.devRef .tc b : DevRef τ sig) ∉ op.writes) :
    V m c b = m ((c : Thread nD τ).loc b) :=
  StableHlo.after_of_forall_not_mem (b := Proc.devRef .tc b) _ _ (List.forall_iff_forall_mem.mp h)

theorem V_main_arg0 (c : Dev nD) : V m c main_arg0 = m ((c : Thread nD τ).loc main_arg0) := V_of_not_written m c _ (by
  simp only [stretches, hostOps0, hostOps0_1, hostOps0_2, hostOps0_3, hostOps0_4, hostOps0_5, hostOps0_6, List.flatten_cons,
    List.flatten_nil, List.append_nil, List.cons_append, List.nil_append, List.Forall, StableHlo.nullary_writes,
    StableHlo.unary_writes, StableHlo.binary_writes, StableHlo.ternary_writes, StableHlo.reshape_writes, Finset.mem_singleton]
  repeat' apply And.intro
  all_goals exact StableHlo.devRef_ne_of_ne (by decide))
theorem V_main_arg1 (c : Dev nD) : V m c main_arg1 = m ((c : Thread nD τ).loc main_arg1) := V_of_not_written m c _ (by
  simp only [stretches, hostOps0, hostOps0_1, hostOps0_2, hostOps0_3, hostOps0_4, hostOps0_5, hostOps0_6, List.flatten_cons,
    List.flatten_nil, List.append_nil, List.cons_append, List.nil_append, List.Forall, StableHlo.nullary_writes,
    StableHlo.unary_writes, StableHlo.binary_writes, StableHlo.ternary_writes, StableHlo.reshape_writes, Finset.mem_singleton]
  repeat' apply And.intro
  all_goals exact StableHlo.devRef_ne_of_ne (by decide))
theorem V_main_arg2 (c : Dev nD) : V m c main_arg2 = m ((c : Thread nD τ).loc main_arg2) := V_of_not_written m c _ (by
  simp only [stretches, hostOps0, hostOps0_1, hostOps0_2, hostOps0_3, hostOps0_4, hostOps0_5, hostOps0_6, List.flatten_cons,
    List.flatten_nil, List.append_nil, List.cons_append, List.nil_append, List.Forall, StableHlo.nullary_writes,
    StableHlo.unary_writes, StableHlo.binary_writes, StableHlo.ternary_writes, StableHlo.reshape_writes, Finset.mem_singleton]
  repeat' apply And.intro
  all_goals exact StableHlo.devRef_ne_of_ne (by decide))
theorem V_main_arg3 (c : Dev nD) : V m c main_arg3 = m ((c : Thread nD τ).loc main_arg3) := V_of_not_written m c _ (by
  simp only [stretches, hostOps0, hostOps0_1, hostOps0_2, hostOps0_3, hostOps0_4, hostOps0_5, hostOps0_6, List.flatten_cons,
    List.flatten_nil, List.append_nil, List.cons_append, List.nil_append, List.Forall, StableHlo.nullary_writes,
    StableHlo.unary_writes, StableHlo.binary_writes, StableHlo.ternary_writes, StableHlo.reshape_writes, Finset.mem_singleton]
  repeat' apply And.intro
  all_goals exact StableHlo.devRef_ne_of_ne (by decide))
theorem V_main_arg4 (c : Dev nD) : V m c main_arg4 = m ((c : Thread nD τ).loc main_arg4) := V_of_not_written m c _ (by
  simp only [stretches, hostOps0, hostOps0_1, hostOps0_2, hostOps0_3, hostOps0_4, hostOps0_5, hostOps0_6, List.flatten_cons,
    List.flatten_nil, List.append_nil, List.cons_append, List.nil_append, List.Forall, StableHlo.nullary_writes,
    StableHlo.unary_writes, StableHlo.binary_writes, StableHlo.ternary_writes, StableHlo.reshape_writes, Finset.mem_singleton]
  repeat' apply And.intro
  all_goals exact StableHlo.devRef_ne_of_ne (by decide))

/-! The prefetched tables. -/

/-- The tables' contents when the kernel is called: each tile's expert, and the number of tiles in use. -/
def tbl : pre0.Contents (Elt F) := fun j => V m (0 : Dev nD) (pre0.ref j)

/-- There is one device, so these are the contents on every device. -/
theorem V_pre (c : Dev nD) (j : Fin 2) : V m c (pre0.ref j) = tbl m j := by
  obtain rfl : c = 0 := Subsingleton.elim _ _
  rfl

/-- The tables name experts that exist. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tabE : Memref sig .tc .smem S160 .i32 := Memref.whole main_v19
abbrev tabN : Memref sig .tc .smem S1 .i32 := Memref.whole main_v23

/-- A table's contents on core `c`, and the half share of it that the body holds. -/
abbrev TabBuf (c : Dev nD) {S : Shape} {e : EltTy} (M : Memref sig .tc .smem S e) : Type :=
  Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- The halves of the tables handed to the body, one by one. -/
theorem tables_eq (c : Dev nD) :
    (Pipeline.ΦT pre0 (tbl m) c : sProp 𝕄) = iprop(tabPt c tabE (tbl m 0) ∗ tabPt c tabN (tbl m 1)) := by
  unfold Pipeline.ΦT Pipeline.prefHeld
  rw [show (Finset.univ : Finset (Fin 2)) = insert (0 : Fin 2) {(1 : Fin 2)} from by decide,
    bigSep_insert (by decide), bigSep_singleton]
  rfl

/-! The windows' blocks. -/

/-- Window `w`'s block at point `t`. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- An input window's staging buffer holds its block at every point, fetched there or before. -/
theorem before_0 (hO : Ok m) {c : Dev nD} (dat : Dat τ (Elt F) Unit ℕ (UR sig nD τ) ℕ (cfgM m hO) c)
    (hA : dat.A 0 = V m c (Pipeline.arrRef spec0 0)) (hafter : ∀ t, dat.after 0 t = iblk m hO c 0 t)
    (t : Fin (cfgM m hO).N) (d) : dat.before 0 t d = iblk m hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
theorem before_1 (hO : Ok m) {c : Dev nD} (dat : Dat τ (Elt F) Unit ℕ (UR sig nD τ) ℕ (cfgM m hO) c)
    (hA : dat.A 1 = V m c (Pipeline.arrRef spec0 1)) (hafter : ∀ t, dat.after 1 t = iblk m hO c 1 t)
    (t : Fin (cfgM m hO).N) (d) : dat.before 1 t d = iblk m hO c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
theorem before_2 (hO : Ok m) {c : Dev nD} (dat : Dat τ (Elt F) Unit ℕ (UR sig nD τ) ℕ (cfgM m hO) c)
    (hA : dat.A 2 = V m c (Pipeline.arrRef spec0 2)) (hafter : ∀ t, dat.after 2 t = iblk m hO c 2 t)
    (t : Fin (cfgM m hO).N) (d) : dat.before 2 t d = iblk m hO c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
theorem before_3 (hO : Ok m) {c : Dev nD} (dat : Dat τ (Elt F) Unit ℕ (UR sig nD τ) ℕ (cfgM m hO) c)
    (hA : dat.A 3 = V m c (Pipeline.arrRef spec0 3)) (hafter : ∀ t, dat.after 3 t = iblk m hO c 3 t)
    (t : Fin (cfgM m hO).N) (d) : dat.before 3 t d = iblk m hO c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)

end Cert.Kernel2Ideal.Ffn

end
-- ==== Proof.FfnBody.lean ====
/- What one grid point of the expert network's kernel does: a tile in use gets its expert's output, any other gets zeros. -/
module

public import proofs.«01_k».proof.Proof.FfnHost
public import Idealize.ShloMosaic.Lib.WholeRead
public import Idealize.ShloMosaic.Lib.VecWindow

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Kernel2Ideal Cert.Kernel2Ideal.Gen

variable {F : FTy → Type} [FloatOps F]

local notation "𝕄" => MT nD τ sig Unit (Elt F) ℕ (UR sig nD τ) ℕ

/-- The one index of an array of one word. -/
def first : S1.Idx := fun a => ⟨0, (by decide : ∀ a, 0 < S1.size a) a⟩
/-- The word of the second table: how many tiles are in use. -/
def used {c : Dev nD} (xt1 : TabBuf (F := F) c tabN) : BitVec 32 := (xt1 : S1.Idx → BitVec 32) first

/-- A tile is in use when its number is below that word; otherwise its second condition holds. -/
theorem cond1_iff (i : grid0.Coords) (n : BitVec 32) :
    k0_cond1 i n = 1#1 ↔ (BitVec.ofNat 32 (i 0).val).toInt < n.toInt := by
  unfold k0_cond1
  show Iff (IntOp.cmpi .ne ((IntOp.cmpi .slt (BitVec.ofNat 32 (i 0).val) n).setWidth 32) 0#32 = 1#1) _
  rw [WordCmp.cmpi_slt_eq]
  by_cases h : (BitVec.ofNat 32 (i 0).val).toInt < n.toInt
  · rw [decide_eq_true h]; exact ⟨fun _ => h, fun _ => by decide⟩
  · rw [decide_eq_false h]; exact ⟨fun h' => absurd h' (by decide), fun h' => absurd h' h⟩
theorem cond2_iff (i : grid0.Coords) (n : BitVec 32) : k0_cond2 i n = 1#1 ↔ ¬ k0_cond1 i n = 1#1 := by
  rw [cond1_iff]
  unfold k0_cond2
  show Iff (IntOp.cmpi .ne ((IntOp.cmpi .sge (BitVec.ofNat 32 (i 0).val) n).setWidth 32) 0#32 = 1#1) _
  rw [WordCmp.cmpi_sge_eq]
  by_cases h : n.toInt ≤ (BitVec.ofNat 32 (i 0).val).toInt
  · rw [decide_eq_true h]; exact ⟨fun _ => by omega, fun _ => by decide⟩
  · rw [decide_eq_false h]; exact ⟨fun h' => absurd h' (by decide), fun h' => absurd h' (by omega)⟩

/-- So the output's window is stored at every point. -/
theorem never_idle (pf : pre0.Contents (Elt F)) (i : grid0.Coords) : idle0 pf 4 i = false := by
  show (!(k0_cond1 i (pf.atD 1 ![0]) == 1#1) && !(k0_cond2 i (pf.atD 1 ![0]) == 1#1)) = false
  by_cases h : k0_cond1 i (pf.atD 1 ![0]) = 1#1
  · rw [h]; rfl
  · rw [(cond2_iff i _).2 h, Bool.and_comm]; rfl

/-- What a point leaves in the output's block: the expert's output on the tile, or zeros. -/
def tileOut (i : grid0.Coords) (n : BitVec 32) (x0 : Vec F S512x1024 .f32) (x1 x2 : Vec F S1x1x1024x256 .f32)
    (x3 : Vec F S1x1x256x1024 .f32) : Vec F S512x1024 .f32 :=
  if k0_cond1 i n = 1#1 then k0_pay1 x0 x1 x2 x3 else k0_pay2

/-- A load of a whole block from offset zero is the block. -/
theorem read_all {s : Shape} {e : EltTy} {M : Memref sig .tc .vmem s e} (h : M.IsWhole) (off : Fin s.rank → ℕ)
    (inb : ∀ a, off a + s.size a ≤ s.size a) (X : s.Idx → Elt F e) :
    View.readAt (Elt F) M.view (Rect.unit off s.size inb).toLoadRect (h.unread X) = X := by
  funext x
  rw [h.readAt_unread]
  refine congrArg X (funext fun a => Fin.ext ?_)
  show off a + 1 * (x a).val = (x a).val
  have := inb a
  omega

/-- The body, on any staging buffers: the inputs' blocks and the tables stay, the output's block becomes `tileOut`. -/
theorem run_body (c : Dev nD) (i : grid0.Coords)
    (arg3 : Memref sig .tc .vmem S512x1024 .f32) (harg3 : arg3.IsWhole)
    (arg4 : Memref sig .tc .vmem S1x1x1024x256 .f32) (harg4 : arg4.IsWhole)
    (arg5 : Memref sig .tc .vmem S1x1x1024x256 .f32) (harg5 : arg5.IsWhole)
    (arg6 : Memref sig .tc .vmem S1x1x256x1024 .f32) (harg6 : arg6.IsWhole)
    (arg7 : Memref sig .tc .vmem S512x1024 .f32) (harg7 : arg7.IsWhole)
    (x0 : Vec F S512x1024 .f32) (x1 x2 : Vec F S1x1x1024x256 .f32) (x3 : Vec F S1x1x256x1024 .f32)
    (xt0 : TabBuf (F := F) c tabE) (xt1 : TabBuf (F := F) c tabN) (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d) ∗ tabPt c tabE xt0 ∗ tabPt c tabN xt1
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (tileOut i (used xt1) x0 x1 x2 x3)
            ∗ tabPt c tabE xt0 ∗ tabPt c tabN xt1) -∗ K ⟨⟩))
      ⊢ wp frame (wpE (defs₀ (F := F)) Variants.none c none) E (cc0_moe_ffn i tabE (Memref.isWhole_whole _) tabN
          (Memref.isWhole_whole _) arg3 harg3 arg4 harg4 arg5 harg5 arg6 harg6 arg7 harg7) K := by
  simp only [cc0_moe_ffn_eq_skeleton]
  unfold cc0_moe_ffn_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := harg3.eq_unread hf0
  obtain rfl := harg4.eq_unread hf1
  obtain rfl := harg5.eq_unread hf2
  obtain rfl := harg6.eq_unread hf3
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    have hn : run_body.sl.r c xt1 = used xt1 := by
      unfold run_body.sl.r used
      exact congrArg (xt1 : S1.Idx → BitVec 32) (funext fun a => Fin.ext (by
        have h1 : ∀ (a : Fin 1) (x : Fin (S1.size a)), x.val = 0 := by decide
        exact (h1 a _).trans (h1 a _).symm))
    rw [hn]
    unfold tileOut
    by_cases h : k0_cond1 i (used xt1) = 1#1
    · have h2 : ¬ k0_cond2 i (used xt1) = 1#1 := fun h' => (cond2_iff i _).1 h' h
      rw [dif_neg h2, dif_pos h, if_pos h]
      refine (View.read_writes_full _ _ _ _ _).trans ?_
      rw [read_all harg3, read_all harg4, read_all harg5, read_all harg6]
    · rw [dif_pos ((cond2_iff i _).2 h), if_neg h]
      exact View.read_writes_full _ _ _ _ _
  isplitl [HT0]; · iexact HT0
  iexact HT1

end Cert.Kernel2Ideal.Ffn

end
-- ==== Proof.FfnFrame.lean ====
/- The expert network's kernel call at every grid point: the run of the whole program, with the output array's blocks equal
   to what the body leaves, and the argument arrays unchanged. -/
module

public import proofs.«01_k».proof.Proof.FfnBody
public import Idealize.ShloMosaic.Lib.Claim

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output's block after point `t`. -/
def outsAt (hO : Ok m) (c : Dev nD) (t : Fin (cfgM m hO).N) : Vec F S512x1024 .f32 :=
  tileOut (grid0.coords t) (used (c := c) (tbl m 1)) (iblk m hO c 0 t) (iblk m hO c 1 t) (iblk m hO c 2 t) (iblk m hO c 3 t)

/-- The call's proof data: the arrays as found; after each point the inputs' blocks as they were and the output's as the
    body leaves it. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outsAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by
  dsimp only [dats]; try rfl
theorem after_1 (hO : Ok m) (c : Dev nD) (t : Fin (cfgM m hO).N) : (dats m hO 0 c).after 1 t = iblk m hO c 1 t := by
  dsimp only [dats]; try rfl
theorem after_2 (hO : Ok m) (c : Dev nD) (t : Fin (cfgM m hO).N) : (dats m hO 0 c).after 2 t = iblk m hO c 2 t := by
  dsimp only [dats]; try rfl
theorem after_3 (hO : Ok m) (c : Dev nD) (t : Fin (cfgM m hO).N) : (dats m hO 0 c).after 3 t = iblk m hO c 3 t := by
  dsimp only [dats]; try rfl
theorem after_4 (hO : Ok m) (c : Dev nD) (t : Fin (cfgM m hO).N) : (dats m hO 0 c).after 4 t = outsAt m hO c t := by
  dsimp only [dats]; try rfl

/-- The staging buffer of each window at point `t`. -/
abbrev stg0 (hO : Ok m) (t : Fin (cfgM m hO).N) : Memref sig .tc .vmem S512x1024 .f32 := spec0_0.stage ((cfgM m hO).slots t 0)
abbrev stg1 (hO : Ok m) (t : Fin (cfgM m hO).N) : Memref sig .tc .vmem S1x1x1024x256 .f32 := spec0_1.stage ((cfgM m hO).slots t 1)
abbrev stg2 (hO : Ok m) (t : Fin (cfgM m hO).N) : Memref sig .tc .vmem S1x1x1024x256 .f32 := spec0_2.stage ((cfgM m hO).slots t 2)
abbrev stg3 (hO : Ok m) (t : Fin (cfgM m hO).N) : Memref sig .tc .vmem S1x1x256x1024 .f32 := spec0_3.stage ((cfgM m hO).slots t 3)
abbrev stg4 (hO : Ok m) (t : Fin (cfgM m hO).N) : Memref sig .tc .vmem S512x1024 .f32 := spec0_4.stage ((cfgM m hO).slots t 4)

/-- The body at point `t`, on the tables and the staging buffers. -/
abbrev bodyAt (hO : Ok m) (t : Fin (cfgM m hO).N) : Prog (TpuEff nD τ sig (Elt F) Λ₀ .tc) PUnit :=
  cc0_moe_ffn (grid0.coords t) tabE (Memref.isWhole_whole _) tabN (Memref.isWhole_whole _)
    (stg0 m hO t) (hstage0_0 (((cfgM m hO).slots t 0).cast nbuf0_0)) (stg1 m hO t) (hstage0_1 (((cfgM m hO).slots t 1).cast nbuf0_1))
    (stg2 m hO t) (hstage0_2 (((cfgM m hO).slots t 2).cast nbuf0_2)) (stg3 m hO t) (hstage0_3 (((cfgM m hO).slots t 3).cast nbuf0_3))
    (stg4 m hO t) (hstage0_4 (((cfgM m hO).slots t 4).cast nbuf0_4))

/-- What the body is called with at point `t`, window by window, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (stg0 m hO t) fullShare ((dats m hO 0 c).before 0 t d))
    ∗ (∃ d, owns (c : Thread nD τ) (stg1 m hO t) fullShare ((dats m hO 0 c).before 1 t d))
    ∗ (∃ d, owns (c : Thread nD τ) (stg2 m hO t) fullShare ((dats m hO 0 c).before 2 t d))
    ∗ (∃ d, owns (c : Thread nD τ) (stg3 m hO t) fullShare ((dats m hO 0 c).before 3 t d))
    ∗ (∃ d, owns (c : Thread nD τ) (stg4 m hO t) fullShare ((dats m hO 0 c).before 4 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (stg0 m hO t) fullShare ((dats m hO 0 c).after 0 t)
    ∗ owns (c : Thread nD τ) (stg1 m hO t) fullShare ((dats m hO 0 c).after 1 t)
    ∗ owns (c : Thread nD τ) (stg2 m hO t) fullShare ((dats m hO 0 c).after 2 t)
    ∗ owns (c : Thread nD τ) (stg3 m hO t) fullShare ((dats m hO 0 c).after 3 t)
    ∗ owns (c : Thread nD τ) (stg4 m hO t) fullShare ((dats m hO 0 c).after 4 t))

theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0 m hO (dats m hO 0 c) (A_eq m hO c 0) (after_0 m hO c), before_1 m hO (dats m hO 0 c) (A_eq m hO c 1) (after_1 m hO c),
    before_2 m hO (dats m hO 0 c) (A_eq m hO c 2) (after_2 m hO c), before_3 m hO (dats m hO 0 c) (A_eq m hO c 3) (after_3 m hO c)]
  rw [show (dats m hO 0 c).Φ t.succ = (dats m hO 0 c).Φ t.castSucc from rfl,
    show (dats m hO 0 c).owesAt () t.succ = (dats m hO 0 c).owesAt () t.castSucc from rfl,
    after_0, after_1, after_2, after_3, after_4]
  rw [show (dats m hO 0 c).Φ t.castSucc = iprop(Pipeline.ΦA spec0 c ∗ Pipeline.ΦT pre0 (tbl m) c) from rfl, tables_eq]
  unfold outsAt
  iintro ⟨⟨HΦ, ⟨HT0, HT1⟩⟩, Ho, ⟨%d0, H0⟩, ⟨%d1, H1⟩, ⟨%d2, H2⟩, ⟨%d3, H3⟩, ⟨%d4, H4⟩⟩
  iapply (run_body c (grid0.coords t) _ _ _ _ _ _ _ _ _ _ (iblk m hO c 0 t) (iblk m hO c 1 t) (iblk m hO c 2 t)
    (iblk m hO c 3 t) (tbl m 0) (tbl m 1) Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem row_eq (hO : Ok m) (t : Fin (cfgM m hO).N) :
    defs₀ (F := F) .tc (cfgM m hO).body ((cfgM m hO).bodyArgs t ((cfgM m hO).slots t)) = bodyAt m hO t := by
  unfold defs₀
  rw [Defs.onTc_tc]

theorem body_obligation (hO : Ok m) (c : Dev nD) :
    BodyObligation (dats (F := F) m hO 0 c) (defs₀ (F := F)) Variants.none () Set.univ := fun t => by
  rw [bigSep_W0, bigSep_W0, row_eq m hO]
  refine triple_restated (sound_body m hO c t) rfl .rfl fun _ =>
    sep_mono .rfl (sep_mono .rfl (sep_mono .rfl (sep_mono .rfl (sep_mono .rfl (sep_mono .rfl ?_)))))
  dsimp only
  split
  · next h => exact absurd ((never_idle (tbl m) _).symm.trans h) Bool.false_ne_true
  · exact .rfl

set_option backward.isDefEq.respectTransparency.types false in
/-- The program's run, with every counter at zero at the end. -/
theorem run_all (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The run, read at the arguments and the result. -/
theorem run_main (hO : Ok m) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v24) = (dats m hO 0 c).arrAt 4 (cfgM m hO).N)
      ∧ r.2.sem = fun _ => 0) :=
  (θ_run defs _ _).mono (fun r h => ⟨fun c => ⟨⟨
      ((h.1 c).2 main_arg0 (by decide : main_arg0 ∈ Pipeline.restRefs sig spec0)).trans (V_main_arg0 m c),
      ((h.1 c).1 0).trans (((dats m hO 0 c).arrAt_in 0 rfl _).trans ((A_eq m hO c 0).trans (V_main_arg1 m c))),
      ((h.1 c).1 1).trans (((dats m hO 0 c).arrAt_in 1 rfl _).trans ((A_eq m hO c 1).trans (V_main_arg2 m c))),
      ((h.1 c).1 2).trans (((dats m hO 0 c).arrAt_in 2 rfl _).trans ((A_eq m hO c 2).trans (V_main_arg3 m c))),
      ((h.1 c).1 3).trans (((dats m hO 0 c).arrAt_in 3 rfl _).trans ((A_eq m hO c 3).trans (V_main_arg4 m c)))⟩,
      (h.1 c).1 4⟩, h.2⟩) (run_all m ρ hO)

end Cert.Kernel2Ideal.Ffn

end
-- ==== Proof.FfnCount.lean ====
/- The expert network's integer facts: rounding a count up to whole tiles, the running sum of the experts' rooms, and which
   expert a tile belongs to. -/
module

public import Idealize.ShloMosaic.Lib.Pointwise
public import Idealize.ShloMosaic.Lib.WordCmp
public import Idealize.ShloMosaic.Lib.Routing.Ops

@[expose] public section

set_option maxRecDepth 16384

noncomputable section

namespace Cert.FfnCount

open Idealize.ShloMosaic

/-! Words. -/

/-- A word's sign, as a word. -/
def sgn (a : BitVec 32) : BitVec 32 := if a = 0 then 0 else if a.msb then -1 else 1

/-- The floor of a word divided by 512, from the quotient and the remainder that round towards zero. -/
def floorWord (a : BitVec 32) : BitVec 32 :=
  Scalar.select (IntOp.andi (IntOp.cmpi .ne (sgn a) (sgn 512#32)) (IntOp.cmpi .ne (IntOp.remsi .host a 512#32) 0#32))
    (IntOp.subi (IntOp.divsi .host a 512#32) 1#32) (IntOp.divsi .host a 512#32)

theorem msb_ofNat {n : ℕ} (h : n < 2 ^ 31) : (BitVec.ofNat 32 n).msb = false := by
  rw [BitVec.msb_eq_false_iff_two_mul_lt, BitVec.toNat_ofNat]
  omega

theorem no_corner (a : BitVec 32) : ¬ IntOp.SDivCorner a 512#32 := by
  rintro (h | ⟨-, h⟩)
  · exact absurd h (by decide)
  · exact absurd h (by decide)

/-- On a word that holds a natural below 2³¹ it is the natural's quotient. -/
theorem floorWord_ofNat {n : ℕ} (h : n < 2 ^ 31) : floorWord (BitVec.ofNat 32 n) = BitVec.ofNat 32 (n / 512) := by
  have hq : IntOp.divsi .host (BitVec.ofNat 32 n) 512#32 = BitVec.ofNat 32 (n / 512) := by
    unfold IntOp.divsi
    rw [if_neg (no_corner _), BitVec.sdiv_eq, msb_ofNat h, show (512#32).msb = false from by decide]
    refine BitVec.eq_of_toNat_eq ?_
    show ((BitVec.ofNat 32 n) / 512#32).toNat = _
    rw [BitVec.toNat_udiv, BitVec.toNat_ofNat, BitVec.toNat_ofNat, BitVec.toNat_ofNat, Nat.mod_eq_of_lt (show n < 2 ^ 32 by omega),
      Nat.mod_eq_of_lt (show n / 512 < 2 ^ 32 by omega)]
  unfold floorWord
  rw [hq]
  refine WordCmp.select_of_eq_zero ?_ _ _
  by_cases h0 : n = 0
  · subst h0; decide
  · have hs : sgn (BitVec.ofNat 32 n) = 1 := by
      unfold sgn
      rw [if_neg, msb_ofNat h]
      · rfl
      · intro e
        have := congrArg BitVec.toNat e
        rw [BitVec.toNat_ofNat] at this
        change n % 2 ^ 32 = 0 at this
        omega
    rw [hs, show IntOp.cmpi .ne (1 : BitVec 32) (sgn 512#32) = 0#1 from by decide]
    exact BitVec.zero_and

/-! Naturals: `g e` is how many tiles expert `e` needs. -/

/-- The tiles before expert `e`'s. -/
def upTo (g : ℕ → ℕ) (e : ℕ) : ℕ := ((List.range e).map g).sum

theorem upTo_succ (g : ℕ → ℕ) (e : ℕ) : upTo g (e + 1) = upTo g e + g e := by
  unfold upTo
  rw [List.range_succ, List.map_append, List.sum_append, List.map_singleton, List.sum_singleton]

theorem upTo_mono (g : ℕ → ℕ) {a b : ℕ} (h : a ≤ b) : upTo g a ≤ upTo g b := by
  induction b, h using Nat.le_induction with
  | base => exact le_rfl
  | succ b _ ih => exact ih.trans (by rw [upTo_succ]; omega)

/-- The running sum of the rooms in slots is 512 times that in tiles. -/
theorem upTo_mul (g : ℕ → ℕ) (e : ℕ) : ((List.range e).map fun i => g i * 512).sum = upTo g e * 512 := by
  induction e with
  | zero => rfl
  | succ e ih => rw [List.range_succ, List.map_append, List.sum_append, ih, upTo_succ, List.map_singleton, List.sum_singleton]; omega

/-- Each room of at most 65 tiles, 32 experts take at most 2080. -/
theorem upTo_le (g : ℕ → ℕ) (hg : ∀ e, g e ≤ 65) (e : ℕ) : upTo g e ≤ 65 * e := by
  induction e with
  | zero => exact le_rfl
  | succ e ih => have := hg e; rw [upTo_succ]; omega

/-- The experts among the first `n` whose tiles all come before tile `i`. -/
def passed (g : ℕ → ℕ) (i n : ℕ) : ℕ := Nat.count (fun e => upTo g (e + 1) ≤ i) n

theorem lt_passed (g : ℕ → ℕ) (i : ℕ) {e n : ℕ} (he : e < n) : e < passed g i n ↔ upTo g (e + 1) ≤ i := by
  unfold passed
  induction n with
  | zero => omega
  | succ n ih =>
    rw [Nat.count_succ]
    by_cases h : upTo g (n + 1) ≤ i
    · have hall : Nat.count (fun e => upTo g (e + 1) ≤ i) n = n := by
        rw [Nat.count_iff_forall]
        exact fun k hk => (upTo_mono g (by omega)).trans h
      rw [if_pos h, hall]
      exact ⟨fun _ => (upTo_mono g (by omega)).trans h, fun _ => he⟩
    · rw [if_neg h]
      rcases Nat.lt_succ_iff_lt_or_eq.mp he with h' | rfl
      · exact ih h'
      · have := Nat.count_le (fun e => upTo g (e + 1) ≤ i) (n := e)
        exact ⟨fun h'' => by omega, fun h'' => absurd h'' h⟩

theorem passed_le (g : ℕ → ℕ) (i n : ℕ) : passed g i n ≤ n := Nat.count_le _

/-- Tile `i` is expert `e`'s just when `e` experts are passed. -/
theorem owner_iff (g : ℕ → ℕ) (i : ℕ) {e : ℕ} (he : e < 32) :
    (upTo g e ≤ i ∧ i < upTo g (e + 1)) ↔ passed g i 32 = e := by
  have h1 := lt_passed g i he
  rcases e with _ | e
  · have : upTo g 0 = 0 := rfl
    omega
  · have h2 := lt_passed g i (show e < 32 by omega)
    omega

/-- A tile is in use when some expert owns it. -/
theorem used_iff (g : ℕ → ℕ) (i : ℕ) : i < upTo g 32 ↔ passed g i 32 < 32 := by
  have h1 := lt_passed g i (show 31 < 32 by omega)
  have := passed_le g i 32
  show i < upTo g (31 + 1) ↔ _
  omega

/-- A slot lies in a segment just when its tile does. -/
theorem slot_iff (a b i r : ℕ) (hr : r < 512) : (a * 512 ≤ i * 512 + r ∧ i * 512 + r < b * 512) ↔ (a ≤ i ∧ i < b) := by omega

/-- The tiles an expert of `n e` tokens needs. -/
def tiles (n : ℕ → ℕ) (e : ℕ) : ℕ := (n e + 511) / 512

theorem tiles_le {n : ℕ → ℕ} (hn : ∀ e, n e ≤ 32768) (k : ℕ) : tiles n k ≤ 65 := by
  have := hn k
  unfold tiles
  omega

end Cert.FfnCount

end
-- ==== Proof.FfnTable.lean ====
/- The kernel's two tables: what the host operations leave in them, and that the first names experts that exist. -/
module

public import proofs.«01_k».proof.Proof.FfnFrame
public import proofs.«01_k».proof.Proof.FfnCount

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen Cert.FfnCount

variable {F : FTy → Type} [FloatOps F]

/-- Each expert's room in slots: its count rounded up to whole tiles. -/
def rooms (cnt : IVec S32 32) : IVec S32 32 :=
  let x := subi (addi cnt (broadcastInDim S32 ![] bcast_S_S32 (constantI S_ 32 512#32))) (broadcastInDim S32 ![] bcast_S_S32 (constantI S_ 32 1#32))
  let d := broadcastInDim S32 ![] bcast_S_S32 (constantI S_ 32 512#32)
  muli (select (andi (cmpi .ne (signi x) (broadcastInDim S32 ![] bcast_S_S32 (signi (constantI S_ 32 512#32))))
      (cmpi .ne (Host.remsi x d) (broadcastInDim S32 ![] bcast_S_S32 (constantI S_ 32 0#32))))
    (subi (Host.divsi x d) (broadcastInDim S32 ![] bcast_S_S32 (constantI S_ 32 1#32))) (Host.divsi x d)) d

/-- Where each expert's segment ends. -/
def ends (cnt : IVec S32 32) : IVec S32 32 :=
  Host.reduceWindow IntOp.addi ![32] ![1] ![31] ![0] (rooms cnt) (broadcastInDim S_ ![] bcast_S_S_ (constantI S_ 32 0#32))
    reduceWindows_S32_S32_w32s1p31_0 h_S_

/-- Each tile's expert: how many segments end at or before the tile's first slot, but at most 31. -/
def tileExpert (E : IVec S32 32) : IVec S160 32 :=
  minsi (Host.reduce IntOp.addi
    (extui 32 (cmpi .sge
      (broadcastInDim S160x32 ![0, 1] bcast_S160x1_S160x32_0_1 (broadcastInDim S160x1 ![0] bcast_S160_S160x1_0
        (muli (iotaInDim S160 32 0) (broadcastInDim S160 ![] bcast_S_S160 (constantI S_ 32 512#32)))))
      (broadcastInDim S160x32 ![0, 1] bcast_S1x32_S160x32_0_1 (broadcastInDim S1x32 ![1] bcast_S32_S1x32_1 E))) natLt_1_32)
    (constantI S_ 32 0#32) reducesTo_S160x32_S160_d1 h_S_) (broadcastInDim S160 ![] bcast_S_S160 (constantI S_ 32 31#32))

/-- How many tiles are in use: the last segment's end in tiles. -/
def tilesUsed (E : IVec S32 32) : IVec S1 32 :=
  let x : IVec S_ 32 := shapeCast S_ (extractStridedSlice S1 ![31] E slices_S32_S1_31) shapeCasts_S1_S_
  let d : IVec S_ 32 := constantI S_ 32 512#32
  shapeCast S1 (select (andi (cmpi .ne (signi x) (signi d)) (cmpi .ne (Host.remsi x d) (constantI S_ 32 0#32)))
    (subi (Host.divsi x d) (constantI S_ 32 1#32)) (Host.divsi x d)) shapeCasts_S_S1

variable (m : (ℓ : Loc nD τ sig) → Buf (Elt F) ℓ)

set_option maxHeartbeats 4000000 in
theorem V_expert (c : Dev nD) : V m c main_v19 = tileExpert (ends (m ((c : Thread nD τ).loc main_arg0))) := by
  simp only [V, stretches, hostOps0, hostOps0_1, hostOps0_2, hostOps0_3, hostOps0_4, hostOps0_5, hostOps0_6, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_results_simp <;> rfl

set_option maxHeartbeats 4000000 in
theorem V_used (c : Dev nD) : V m c main_v23 = tilesUsed (ends (m ((c : Thread nD τ).loc main_arg0))) := by
  simp only [V, stretches, hostOps0, hostOps0_1, hostOps0_2, hostOps0_3, hostOps0_4, hostOps0_5, hostOps0_6, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_results_simp <;> rfl

/-- The tile that a grid point computes. -/
def tileNo (i : grid0.Coords) : Fin 160 := ⟨(i 0).val, (i 0).isLt⟩

/-- The word of the first table at a tile. -/
def expertWord (i : grid0.Coords) : BitVec 32 :=
  tileExpert (ends (m (((0 : Dev nD) : Thread nD τ).loc main_arg0))) (ix1 (tileNo i))

/-- The word that a weight's window reads off the first table. -/
theorem at_expert (i : grid0.Coords) (inb : ∀ a, (k0_off1 i) a + S1.size a ≤ S160.size a) (h : S1.numel = 1) :
    (tbl m).at 0 (Rect.unit (s := S160) ![(Scalar.indexCast (BitVec.ofNat 32 (i 0).val)).toNat] S1.size inb) h = expertWord m i := by
  unfold expertWord
  rw [← V_expert m 0]
  refine congrArg (V m 0 main_v19) (funext fun a => Fin.ext ?_)
  have hi := (i 0).isLt
  change (i 0).val < 160 at hi
  match a with
  | ⟨0, _⟩ =>
    show (BitVec.ofNat 32 (i 0).val).toNat + 1 * 0 = (i 0).val
    rw [BitVec.toNat_ofNat]
    omega

theorem transform_1 (i : grid0.Coords) : cc0_transform_1 k0_off1_inb numel1_S1 (tbl m) i = ![0, (expertWord m i).toNat, 0, 0] :=
  congrArg (fun w : BitVec 32 => (![0, w.toNat, 0, 0] : Fin 4 → ℕ)) (at_expert m i _ _)
theorem transform_2 (i : grid0.Coords) : cc0_transform_2 k0_off1_inb numel1_S1 (tbl m) i = ![0, (expertWord m i).toNat, 0, 0] :=
  congrArg (fun w : BitVec 32 => (![0, w.toNat, 0, 0] : Fin 4 → ℕ)) (at_expert m i _ _)
theorem transform_3 (i : grid0.Coords) : cc0_transform_3 k0_off1_inb numel1_S1 (tbl m) i = ![0, (expertWord m i).toNat, 0, 0] :=
  congrArg (fun w : BitVec 32 => (![0, w.toNat, 0, 0] : Fin 4 → ℕ)) (at_expert m i _ _)

/-- A tile's word in the first table: the count of the segments that end at or before its first slot, but at most 31. -/
theorem tileExpert_apply (E : IVec S32 32) (i : Fin 160) (Q : ℕ → Prop) [DecidablePred Q]
    (hQ : ∀ e : Fin 32, IntOp.cmpi .sge (BitVec.ofNat 32 (i.val * 512)) (E (ix1 e)) = 1#1 ↔ Q e.val) :
    tileExpert E (ix1 i) = BitVec.ofNat 32 (min (Nat.count Q 32) 31) := by
  have hc : Nat.count Q 32 ≤ 32 := Nat.count_le _
  show IntOp.minsi (Host.reduce IntOp.addi (extui 32 _ natLt_1_32) (constantI S_ 32 0#32) reducesTo_S160x32_S160_d1 h_S_ (ix1 i)) 31#32 = _
  refine (congrArg (fun w => IntOp.minsi w 31#32) (Routing.reduce_count (by decide) _ natLt_1_32 reducesTo_S160x32_S160_d1 h_S_ i Q
    fun q => ?_)).trans ?_
  · refine Iff.trans (Eq.to_iff (congrArg (· = 1#1) (congrArg₂ (IntOp.cmpi .sge) ?_ ?_))) (hQ q)
    · refine (Routing.bcRows bcast_S160_S160x1_0 bcast_S160x1_S160x32_0_1 _ i q).trans ?_
      exact WordCmp.muli_ofNat i.val 512
    · exact Routing.bcCols bcast_S32_S1x32_1 bcast_S1x32_S160x32_0_1 E i q
  generalize Nat.count Q 32 = k at hc ⊢
  interval_cases k <;> decide

/-- So it names an expert that exists. -/
theorem expertWord_le (i : grid0.Coords) : (expertWord m i).toNat ≤ 31 := by
  unfold expertWord
  rw [tileExpert_apply _ _ (fun e => ∃ h : e < 32, IntOp.cmpi .sge (BitVec.ofNat 32 ((tileNo i).val * 512))
    (ends (m (((0 : Dev nD) : Thread nD τ).loc main_arg0)) (ix1 ⟨e, h⟩)) = 1#1) fun e => ⟨fun h => ⟨e.isLt, h⟩, fun ⟨_, h⟩ => h⟩]
  rw [BitVec.toNat_ofNat]
  omega

theorem fits_up {w : ℕ} (hw : w ≤ 31) : ∀ a, ((![0, w, 0, 0] : Fin 4 → ℕ) a + 1) * S1x1x1024x256.size a ≤ S2x32x1024x256.size a
  | ⟨0, _⟩ => show (0 + 1) * 1 ≤ 2 by omega
  | ⟨1, _⟩ => show (w + 1) * 1 ≤ 32 by omega
  | ⟨2, _⟩ => show (0 + 1) * 1024 ≤ 1024 by omega
  | ⟨3, _⟩ => show (0 + 1) * 256 ≤ 256 by omega
theorem fits_down {w : ℕ} (hw : w ≤ 31) : ∀ a, ((![0, w, 0, 0] : Fin 4 → ℕ) a + 1) * S1x1x256x1024.size a ≤ S2x32x256x1024.size a
  | ⟨0, _⟩ => show (0 + 1) * 1 ≤ 2 by omega
  | ⟨1, _⟩ => show (w + 1) * 1 ≤ 32 by omega
  | ⟨2, _⟩ => show (0 + 1) * 256 ≤ 256 by omega
  | ⟨3, _⟩ => show (0 + 1) * 1024 ≤ 1024 by omega

/-- Whatever the counts, every block that the tables name lies inside its array. -/
theorem ok_all : Ok m :=
  ⟨fun i => ⟨fun a => by rw [transform_1]; exact fits_up (expertWord_le m i) a, Or.inl rfl⟩,
    fun i => ⟨fun a => by rw [transform_2]; exact fits_up (expertWord_le m i) a, Or.inl rfl⟩,
    fun i => ⟨fun a => by rw [transform_3]; exact fits_down (expertWord_le m i) a, Or.inl rfl⟩⟩

end Cert.Kernel2Ideal.Ffn

end
-- ==== Proof.FfnFrames.lean ====
/- The expert network's programs run, leave their arguments unchanged and every counter at zero. -/
module

public import proofs.«01_k».proof.Defs
public import proofs.«01_k».proof.Proof.Gen.Kernel2
public import proofs.«01_k».proof.Proof.Gen.Reference2Ideal.Run
public import proofs.«01_k».proof.Proof.Gen.Pre_counts
public import proofs.«01_k».proof.Proof.FfnTable
public import Idealize.ShloMosaic.Lib.Claim
public import Idealize.ShloMosaic.Lib.Quiescent

@[expose] public section

set_option maxRecDepth 16384

noncomputable section

namespace Cert.FfnFrames

open Idealize.ShloMosaic Idealize.SL.Sem

/-- What the frame of the kernel as printed says, said of the program printed for the reals, at machine floats: the two have
    the same text. -/
def frameAtBits : Prop :=
  ∀ (m : (ℓ : Loc Cert.Kernel2Ideal.nD Cert.Kernel2Ideal.τ Cert.Kernel2Ideal.sig) → Buf (Elt Bits) ℓ) (g : Dev Cert.Kernel2Ideal.nD → PrngReg), True →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

theorem same : frameAtBits = Cert.quiescent_Kernel2 := by sl_kernel_rfl

theorem at_bits : frameAtBits := fun m ρ _ =>
  (θ_run Cert.Kernel2Ideal.defs _ _).mono (fun _ h => ⟨fun c => (h.1 c).1, h.2⟩)
    (Cert.Kernel2Ideal.Ffn.run_main (F := Bits) m ρ (Cert.Kernel2Ideal.Ffn.ok_all m))

/-- The kernel as printed: its run is the run of the program printed for the reals, at machine floats. -/
theorem frame_kernel : Cert.quiescent_Kernel2 := same.mp at_bits

theorem frame_ideal : Cert.quiescent_Kernel2Ideal := fun m ρ _ =>
  (θ_run Cert.Kernel2Ideal.defs _ _).mono (fun _ h => ⟨fun c => (h.1 c).1, h.2⟩)
    (Cert.Kernel2Ideal.Ffn.run_main (F := Ideal) m ρ (Cert.Kernel2Ideal.Ffn.ok_all m))

theorem frame_reference : Cert.quiescent_Reference2Ideal := fun m ρ _ =>
  (θ_run Cert.Reference2Ideal.defs _ _).mono
    (fun r h => ⟨fun c => (h c).2, sem_eq_zero_of_no_sems (by decide) r.2⟩) (Cert.Reference2Ideal.Value.run (F := Ideal) m ρ)

end Cert.FfnFrames

end
-- ==== Proof.FfnPoint.lean ====
/- One tile of the expert network over the extended reals: the kernel's block read at a row and a column. -/
module

public import proofs.«01_k».proof.Proof.FfnTable

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen Cert.FfnCount

/-- The expert's output on its tile. -/
theorem pay1_apply (x0 : Vec Ideal S512x1024 .f32) (x1 x2 : Vec Ideal S1x1x1024x256 .f32) (x3 : Vec Ideal S1x1x256x1024 .f32)
    (r : Fin 512) (d : Fin 1024) :
    (k0_pay1 x0 x1 x2 x3 (ix2 r d) : EReal) = ∑ f : Fin 256,
      (∑ k : Fin 1024, (x0 (ix2 r k) : EReal) * x1 (ix4 (0 : Fin 1) (0 : Fin 1) k f))
        * Ideal.div 1 (1 + Ideal.exp (-∑ k : Fin 1024, (x0 (ix2 r k) : EReal) * x1 (ix4 (0 : Fin 1) (0 : Fin 1) k f)))
        * (∑ k : Fin 1024, (x0 (ix2 r k) : EReal) * x2 (ix4 (0 : Fin 1) (0 : Fin 1) k f)) * x3 (ix4 (0 : Fin 1) (0 : Fin 1) f d) := by
  pointwise [k0_pay1]
  simp only [zero_sub]

/-- A tile not in use. -/
theorem pay2_apply (r : Fin 512) (d : Fin 1024) : (k0_pay2 (F := Ideal) (ix2 r d) : EReal) = 0 := by
  pointwise [k0_pay2]

end Cert.Kernel2Ideal.Ffn

end
-- ==== Proof.FfnValue.lean ====
/- The expert network's result over the extended reals: a tile in use holds its expert's network on its rows, any other tile zeros. -/
module

public import proofs.«01_k».proof.Proof.FfnPoint
public import Idealize.ShloMosaic.Lib.Pipeline.ValueKit
public import Idealize.ShloMosaic.Lib.Pipeline.Kit

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen Cert.FfnCount

/-! The tables' words, for counts in range. -/

section Words

variable (cnt : IVec S32 32) (n : ℕ → ℕ)

theorem rooms_apply (hn : ∀ e, n e ≤ 32768) (hc : ∀ e : Fin 32, cnt (ix1 e) = BitVec.ofNat 32 (n e.val)) (e : Fin 32) :
    rooms cnt (ix1 e) = BitVec.ofNat 32 (tiles n e.val * 512) := by
  have := hn e.val
  have hs : IntOp.subi (BitVec.ofNat 32 (n e.val + 512)) 1#32 = BitVec.ofNat 32 (n e.val + 511) := by
    rw [show n e.val + 512 = (n e.val + 511) + 1 from rfl, BitVec.ofNat_add]
    exact BitVec.add_sub_cancel _ _
  show IntOp.muli (floorWord (IntOp.subi (IntOp.addi (cnt (ix1 e)) 512#32) 1#32)) 512#32 = _
  rw [hc, WordCmp.addi_ofNat, hs, floorWord_ofNat (by omega), WordCmp.muli_ofNat]
  rfl

theorem ends_apply (hn : ∀ e, n e ≤ 32768) (hc : ∀ e : Fin 32, cnt (ix1 e) = BitVec.ofNat 32 (n e.val)) (e : Fin 32) :
    ends cnt (ix1 e) = BitVec.ofNat 32 (upTo (tiles n) (e.val + 1) * 512) := by
  rw [← upTo_mul]
  exact Routing.cumsum1 rfl (rooms cnt) (fun i => tiles n i * 512) (rooms_apply cnt n hn hc) _ rfl _ _ e

/-- A tile's expert is the number of experts whose segments end at or before it. -/
theorem tileExpert_ends (hn : ∀ e, n e ≤ 32768) (hc : ∀ e : Fin 32, cnt (ix1 e) = BitVec.ofNat 32 (n e.val)) (i : Fin 160) :
    tileExpert (ends cnt) (ix1 i) = BitVec.ofNat 32 (min (passed (tiles n) i.val 32) 31) := by
  refine tileExpert_apply (ends cnt) i (fun e => upTo (tiles n) (e + 1) ≤ i.val) fun e => ?_
  have hb := upTo_le (tiles n) (tiles_le hn) (e.val + 1)
  have he := e.isLt
  have hi := i.isLt
  rw [ends_apply cnt n hn hc, WordCmp.cmpi_sge_ofNat_eq_one_iff (by omega) (by omega)]
  omega

theorem tilesUsed_ends (hn : ∀ e, n e ≤ 32768) (hc : ∀ e : Fin 32, cnt (ix1 e) = BitVec.ofNat 32 (n e.val)) :
    tilesUsed (ends cnt) (ix1 (0 : Fin 1)) = BitVec.ofNat 32 (upTo (tiles n) 32) := by
  have hb := upTo_le (tiles n) (tiles_le hn) 32
  have h : tilesUsed (ends cnt) (ix1 (0 : Fin 1)) = floorWord (ends cnt (ix1 (31 : Fin 32))) := by
    pointwise [tilesUsed, floorWord, sgn]
  rw [h, ends_apply cnt n hn hc, floorWord_ofNat (by show upTo (tiles n) 32 * 512 < _; omega)]
  exact congrArg (BitVec.ofNat 32) (Nat.mul_div_cancel _ (by omega))

end Words

/-! The blocks, read at coordinates. -/

variable (m : (ℓ : Loc nD τ sig) → Buf (Elt Ideal) ℓ)

theorem coord (t : Fin grid0.N) : (grid0.coords t 0).val = t.val := by
  revert t; decide +kernel

theorem transform_0 (t : Fin grid0.N) : cc0_transform_0 (grid0.coords t) = ![t.val, 0] := by
  revert t; decide +kernel

theorem iblk_0 (hO : Ok m) (c : Dev nD) (t : Fin grid0.N) (r : Fin 512) (k : Fin 1024) (l : Fin 81920) (hl : l.val = t.val * 512 + r.val) :
    (iblk m hO c 0 t : Vec Ideal S512x1024 .f32) (ix2 r k) = m ((c : Thread nD τ).loc main_arg1) (ix2 l k) := by
  rw [← V_main_arg1 m c]
  refine congrArg (V m c main_arg1) (funext fun a => Fin.ext ?_)
  match a with
  | ⟨0, _⟩ =>
    show cc0_transform_0 (grid0.coords t) 0 * 512 + 1 * r.val = l.val
    rw [transform_0, hl]
    show t.val * 512 + 1 * r.val = _
    omega
  | ⟨1, _⟩ =>
    show cc0_transform_0 (grid0.coords t) 1 * 1024 + 1 * k.val = k.val
    rw [transform_0]
    show 0 * 1024 + 1 * k.val = _
    omega

theorem iblk_1 (hO : Ok m) (c : Dev nD) (t : Fin grid0.N) (k : Fin 1024) (f : Fin 256) (e : Fin 32)
    (he : (expertWord m (grid0.coords t)).toNat = e.val) :
    (iblk m hO c 1 t : Vec Ideal S1x1x1024x256 .f32) (ix4 (0 : Fin 1) (0 : Fin 1) k f) = m ((c : Thread nD τ).loc main_arg2) (ix4 (0 : Fin 2) e k f) := by
  rw [← V_main_arg2 m c]
  refine congrArg (V m c main_arg2) (funext fun a => Fin.ext ?_)
  refine (congrArg (fun v : Fin 4 → ℕ => v a * S1x1x1024x256.size a + 1 * (ix4 (0 : Fin 1) (0 : Fin 1) k f a).val)
    (transform_1 m (grid0.coords t))).trans ?_
  rw [he]
  match a with
  | ⟨0, _⟩ => rfl
  | ⟨1, _⟩ => show e.val * 1 + 1 * 0 = e.val; omega
  | ⟨2, _⟩ => show 0 * 1024 + 1 * k.val = k.val; omega
  | ⟨3, _⟩ => show 0 * 256 + 1 * f.val = f.val; omega

theorem iblk_2 (hO : Ok m) (c : Dev nD) (t : Fin grid0.N) (k : Fin 1024) (f : Fin 256) (e : Fin 32)
    (he : (expertWord m (grid0.coords t)).toNat = e.val) :
    (iblk m hO c 2 t : Vec Ideal S1x1x1024x256 .f32) (ix4 (0 : Fin 1) (0 : Fin 1) k f) = m ((c : Thread nD τ).loc main_arg3) (ix4 (0 : Fin 2) e k f) := by
  rw [← V_main_arg3 m c]
  refine congrArg (V m c main_arg3) (funext fun a => Fin.ext ?_)
  refine (congrArg (fun v : Fin 4 → ℕ => v a * S1x1x1024x256.size a + 1 * (ix4 (0 : Fin 1) (0 : Fin 1) k f a).val)
    (transform_2 m (grid0.coords t))).trans ?_
  rw [he]
  match a with
  | ⟨0, _⟩ => rfl
  | ⟨1, _⟩ => show e.val * 1 + 1 * 0 = e.val; omega
  | ⟨2, _⟩ => show 0 * 1024 + 1 * k.val = k.val; omega
  | ⟨3, _⟩ => show 0 * 256 + 1 * f.val = f.val; omega

theorem iblk_3 (hO : Ok m) (c : Dev nD) (t : Fin grid0.N) (f : Fin 256) (d : Fin 1024) (e : Fin 32)
    (he : (expertWord m (grid0.coords t)).toNat = e.val) :
    (iblk m hO c 3 t : Vec Ideal S1x1x256x1024 .f32) (ix4 (0 : Fin 1) (0 : Fin 1) f d) = m ((c : Thread nD τ).loc main_arg4) (ix4 (0 : Fin 2) e f d) := by
  rw [← V_main_arg4 m c]
  refine congrArg (V m c main_arg4) (funext fun a => Fin.ext ?_)
  refine (congrArg (fun v : Fin 4 → ℕ => v a * S1x1x256x1024.size a + 1 * (ix4 (0 : Fin 1) (0 : Fin 1) f d a).val)
    (transform_3 m (grid0.coords t))).trans ?_
  rw [he]
  match a with
  | ⟨0, _⟩ => rfl
  | ⟨1, _⟩ => show e.val * 1 + 1 * 0 = e.val; omega
  | ⟨2, _⟩ => show 0 * 256 + 1 * f.val = f.val; omega
  | ⟨3, _⟩ => show 0 * 1024 + 1 * d.val = d.val; omega

end Cert.Kernel2Ideal.Ffn

end
-- ==== Proof.FfnArray.lean ====
/- The expert network's output array over the extended reals: a row of a tile in use holds the network of the tile's expert on
   that row, any other row zeros. -/
module

public import proofs.«01_k».proof.Proof.FfnValue

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen Cert.FfnCount

/-- Expert `e`'s network on row `l`, at column `d`. -/
def network (x : Vec Ideal S81920x1024 .f32) (wg wu : Vec Ideal S2x32x1024x256 .f32) (wd : Vec Ideal S2x32x256x1024 .f32)
    (l : Fin 81920) (e : Fin 32) (d : Fin 1024) : EReal :=
  ∑ f : Fin 256,
    (∑ k : Fin 1024, (x (ix2 l k) : EReal) * wg (ix4 (0 : Fin 2) e k f))
      * Ideal.div 1 (1 + Ideal.exp (-∑ k : Fin 1024, (x (ix2 l k) : EReal) * wg (ix4 (0 : Fin 2) e k f)))
      * (∑ k : Fin 1024, (x (ix2 l k) : EReal) * wu (ix4 (0 : Fin 2) e k f)) * wd (ix4 (0 : Fin 2) e f d)

variable (m : (ℓ : Loc nD τ sig) → Buf (Elt Ideal) ℓ)

/-- The output array, for experts of `n` tokens. -/
def wanted (n : ℕ → ℕ) (c : Dev nD) : S81920x1024.Idx → EReal := fun i =>
  if h : passed (tiles n) ((i 0).val / 512) 32 < 32 then
    network (m ((c : Thread nD τ).loc main_arg1)) (m ((c : Thread nD τ).loc main_arg2)) (m ((c : Thread nD τ).loc main_arg3))
      (m ((c : Thread nD τ).loc main_arg4)) (i 0) ⟨_, h⟩ (i 1)
  else 0

variable (n : ℕ → ℕ)

theorem expertWord_eq (hn : ∀ e, n e ≤ 32768)
    (hc : ∀ e : Fin 32, (m (((0 : Dev nD) : Thread nD τ).loc main_arg0) : IVec S32 32) (ix1 e) = BitVec.ofNat 32 (n e.val)) (t : Fin grid0.N) :
    (expertWord m (grid0.coords t)).toNat = min (passed (tiles n) t.val 32) 31 := by
  unfold expertWord
  rw [tileExpert_ends _ n hn hc, BitVec.toNat_ofNat, Nat.mod_eq_of_lt (by omega)]
  exact congrArg (fun k => min (passed (tiles n) k 32) 31) (coord t)

theorem inUse_iff (hn : ∀ e, n e ≤ 32768)
    (hc : ∀ e : Fin 32, (m (((0 : Dev nD) : Thread nD τ).loc main_arg0) : IVec S32 32) (ix1 e) = BitVec.ofNat 32 (n e.val)) (t : Fin grid0.N) :
    k0_cond1 (grid0.coords t) (used (c := 0) (tbl m 1)) = 1#1 ↔ passed (tiles n) t.val 32 < 32 := by
  have hu : used (c := 0) (tbl m 1) = BitVec.ofNat 32 (upTo (tiles n) 32) := by
    rw [← tilesUsed_ends _ n hn hc, ← V_used m 0]
    refine congrArg (V m 0 main_v23) (funext fun a => Fin.ext ?_)
    match a with
    | ⟨0, _⟩ => rfl
  have hb := upTo_le (tiles n) (tiles_le hn) 32
  have ht := t.isLt
  change t.val < 160 at ht
  have hw : ∀ k : ℕ, k < 2 ^ 31 → (BitVec.ofNat 32 k).toInt = (k : ℤ) := fun k hk => by
    rw [BitVec.toInt_eq_msb_cond, msb_ofNat hk, if_neg (by decide), BitVec.toNat_ofNat, Nat.mod_eq_of_lt (by omega)]
  rw [cond1_iff, coord, hu, ← used_iff, hw _ (by omega), hw _ (by omega)]
  omega

theorem wanted_pos (c : Dev nD) (l : Fin 81920) (d : Fin 1024) (h : passed (tiles n) (l.val / 512) 32 < 32) :
    wanted m n c (ix2 l d) = network (m ((c : Thread nD τ).loc main_arg1)) (m ((c : Thread nD τ).loc main_arg2))
      (m ((c : Thread nD τ).loc main_arg3)) (m ((c : Thread nD τ).loc main_arg4)) l ⟨_, h⟩ d := dif_pos h
theorem wanted_neg (c : Dev nD) (l : Fin 81920) (d : Fin 1024) (h : ¬ passed (tiles n) (l.val / 512) 32 < 32) :
    wanted m n c (ix2 l d) = 0 := dif_neg h

/-- A point's block, in use. -/
theorem tile_network (hO : Ok m) (t : Fin grid0.N) (e : Fin 32) (he : (expertWord m (grid0.coords t)).toNat = e.val)
    (r : Fin 512) (d : Fin 1024) (l : Fin 81920) (hl : l.val = t.val * 512 + r.val) :
    (k0_pay1 (iblk m hO 0 0 t : Vec Ideal S512x1024 .f32) (iblk m hO 0 1 t : Vec Ideal S1x1x1024x256 .f32)
        (iblk m hO 0 2 t : Vec Ideal S1x1x1024x256 .f32) (iblk m hO 0 3 t : Vec Ideal S1x1x256x1024 .f32) (ix2 r d) : EReal)
      = network (m (((0 : Dev nD) : Thread nD τ).loc main_arg1)) (m (((0 : Dev nD) : Thread nD τ).loc main_arg2))
          (m (((0 : Dev nD) : Thread nD τ).loc main_arg3)) (m (((0 : Dev nD) : Thread nD τ).loc main_arg4)) l e d := by
  refine (pay1_apply _ _ _ _ r d).trans (Finset.sum_congr rfl fun f _ => ?_)
  have hg := Finset.sum_congr (rfl : (Finset.univ : Finset (Fin 1024)) = Finset.univ) fun k _ =>
    congrArg₂ (· * · : EReal → EReal → EReal) (iblk_0 m hO 0 t r k l hl) (iblk_1 m hO 0 t k f e he)
  have hu := Finset.sum_congr (rfl : (Finset.univ : Finset (Fin 1024)) = Finset.univ) fun k _ =>
    congrArg₂ (· * · : EReal → EReal → EReal) (iblk_0 m hO 0 t r k l hl) (iblk_2 m hO 0 t k f e he)
  exact congrArg₂ (· * · : EReal → EReal → EReal)
    (congrArg₂ (· * · : EReal → EReal → EReal) (congrArg (fun v : EReal => v * Ideal.div 1 (1 + Ideal.exp (-v))) hg) hu)
    (iblk_3 m hO 0 t f d e he)

/-- A point's block. -/
theorem outsAt_apply (hO : Ok m) (hn : ∀ e, n e ≤ 32768)
    (hc : ∀ e : Fin 32, (m (((0 : Dev nD) : Thread nD τ).loc main_arg0) : IVec S32 32) (ix1 e) = BitVec.ofNat 32 (n e.val)) (t : Fin grid0.N)
    (r : Fin 512) (d : Fin 1024) (l : Fin 81920) (hl : l.val = t.val * 512 + r.val) :
    (outsAt m hO 0 t (ix2 r d) : EReal) = wanted m n 0 (ix2 l d) := by
  have hq : l.val / 512 = t.val := by omega
  have hu := inUse_iff m n hn hc t
  have he := expertWord_eq m n hn hc t
  unfold outsAt tileOut
  by_cases h : passed (tiles n) t.val 32 < 32
  · have h' : passed (tiles n) (l.val / 512) 32 < 32 := by rw [hq]; exact h
    have hw : (expertWord m (grid0.coords t)).toNat = (⟨_, h'⟩ : Fin 32).val := by
      rw [he]
      show _ = passed (tiles n) (l.val / 512) 32
      rw [hq]
      omega
    rw [if_pos (hu.2 h), wanted_pos m n 0 l d h']
    exact tile_network m hO t _ hw r d l hl
  · have h' : ¬ passed (tiles n) (l.val / 512) 32 < 32 := by rw [hq]; exact h
    rw [if_neg (fun k => h (hu.1 k)), wanted_neg m n 0 l d h']
    exact pay2_apply r d

/-- The output's window is written back at every point. -/
theorem flush_4 (hO : Ok m) : ∀ t, ((cfgM m hO).win 4).flush t = true :=
  (fun t => (Pipeline.Window.flushOf_reads cc0_transform_4 reads0_4 hreads0_4 0 (by decide) (by decide)
    (Pipeline.Window.sep_of_coord cc0_transform_4 0 0 (fun _ => rfl) (by decide)) (P := 1) (m := 0) (by decide) rfl t).mpr (Nat.mod_one _) :
    ∀ t : Fin grid0.N, Pipeline.Window.flushOf grid0 true cc0_transform_4 t = true)

theorem transform_4 (t : Fin grid0.N) : cc0_transform_4 (grid0.coords t) = ![t.val, 0] := transform_0 t

/-- Where a point's block sits in the output array. -/
theorem emb_4 (hO : Ok m) (t : Fin grid0.N) (y : S512x1024.Idx) (l : Fin 81920) (hl : l.val = t.val * 512 + (y 0).val) :
    ((((cfgM m hO).win 4).blk t).view.emb y : S81920x1024.Idx) = ix2 l (y 1) := by
  refine funext fun a => Fin.ext ?_
  refine (congrArg (fun v : Fin 2 → ℕ => v a * S512x1024.size a + 1 * (y a).val) (transform_4 t)).trans ?_
  match a with
  | ⟨0, _⟩ => show t.val * 512 + 1 * (y 0).val = l.val; omega
  | ⟨1, _⟩ => show 0 * 1024 + 1 * (y 1).val = (y 1).val; omega

theorem block_eq (hO : Ok m) (hn : ∀ e, n e ≤ 32768)
    (hc : ∀ e : Fin 32, (m (((0 : Dev nD) : Thread nD τ).loc main_arg0) : IVec S32 32) (ix1 e) = BitVec.ofNat 32 (n e.val)) (t : Fin grid0.N)
    (y : S512x1024.Idx) : (outsAt m hO 0 t y : EReal) = wanted m n 0 ((((cfgM m hO).win 4).blk t).view.emb y) := by
  have h0 : (y 0).val < 512 := (y 0).isLt
  have ht : t.val < 160 := t.isLt
  refine Eq.trans ?_ (congrArg (wanted m n 0) (emb_4 m hO t y ⟨t.val * 512 + (y 0).val, by omega⟩ rfl)).symm
  refine Eq.trans ?_ (outsAt_apply m n hO hn hc t (y 0) (y 1) _ rfl)
  exact congrArg (outsAt m hO 0 t) (eq_ix2 y)

theorem covered (hO : Ok m) (i : S81920x1024.Idx) : ∃ t : Fin grid0.N, ∃ y : S512x1024.Idx, ((((cfgM m hO).win 4).blk t).view.emb y : S81920x1024.Idx) = i := by
  have hi : (i 0).val < 81920 := (i 0).isLt
  refine ⟨⟨(i 0).val / 512, by show _ < 160; omega⟩, ix2 (⟨(i 0).val % 512, Nat.mod_lt _ (by omega)⟩ : Fin 512) (i 1), ?_⟩
  refine (emb_4 m hO _ _ (i 0) ?_).trans (eq_ix2 i).symm
  show (i 0).val = (i 0).val / 512 * 512 + (i 0).val % 512
  omega

/-- The output array after the call. -/
theorem array_eq (hO : Ok m) (hn : ∀ e, n e ≤ 32768)
    (hc : ∀ e : Fin 32, (m (((0 : Dev nD) : Thread nD τ).loc main_arg0) : IVec S32 32) (ix1 e) = BitVec.ofNat 32 (n e.val)) :
    (dats m hO 0 0).arrAt 4 (cfgM m hO).N = wanted m n 0 := by
  refine (dats m hO 0 0).arrAt_eq_of_emb 4 _ (fun t _ y => ?_) fun i => ?_
  · refine Eq.trans ?_ (block_eq m n hO hn hc t y)
    show (dats m hO 0 0).after 4 t y = _
    rw [after_4]
  · obtain ⟨t, y, rfl⟩ := covered m hO i
    exact ⟨t, flush_4 m hO t, View.emb_mem_set _ y⟩

end Cert.Kernel2Ideal.Ffn

end
-- ==== Proof.FfnRef.lean ====
/- The expert network's reference, read at a slot and a column: every expert's output there, weighted by whose slot it is. -/
module

public import proofs.«01_k».proof.Proof.Gen.Reference2Ideal.Run
public import proofs.«01_k».proof.Proof.FfnCount

@[expose] public section

set_option maxRecDepth 16384

noncomputable section

namespace Cert.Reference2Ideal.FfnRef

open Idealize.ShloMosaic Idealize.ShloMosaic.TcCoe Idealize.SL.Sem
open Cert.Reference2Ideal Cert.Reference2Ideal.Gen Cert.FfnCount

/-- Each expert's room in slots: its count rounded up to whole tiles. -/
def rooms (cnt : IVec S32 32) : IVec S32 32 :=
  let x := addi cnt (broadcastInDim S32 ![] bcast_S_S32 (constantI S_ 32 511#32))
  let d := broadcastInDim S32 ![] bcast_S_S32 (constantI S_ 32 512#32)
  muli (select (andi (cmpi .ne (signi x) (broadcastInDim S32 ![] bcast_S_S32 (signi (constantI S_ 32 512#32))))
      (cmpi .ne (Host.remsi x d) (broadcastInDim S32 ![] bcast_S_S32 (constantI S_ 32 0#32))))
    (subi (Host.divsi x d) (broadcastInDim S32 ![] bcast_S_S32 (constantI S_ 32 1#32))) (Host.divsi x d)) d

/-- Where each expert's segment ends. -/
def ends (cnt : IVec S32 32) : IVec S32 32 :=
  Host.reduceWindow IntOp.addi ![32] ![1] ![31] ![0] (rooms cnt) (broadcastInDim S_ ![] bcast_S_S_ (constantI S_ 32 0#32))
    reduceWindows_S32_S32_w32s1p31_0 h_S_

/-- Whose slot it is: one where the slot lies in the expert's segment, zero elsewhere. -/
def combine (cnt : IVec S32 32) : FVec Ideal S81920x32 .f32 :=
  let slot := broadcastInDim S81920x32 ![0, 1] bcast_S81920x1_S81920x32_0_1
    (broadcastInDim S81920x1 ![0] bcast_S81920_S81920x1_0 (iotaInDim S81920 32 0))
  uitofp .f32 (andi
    (cmpi .sle (broadcastInDim S81920x32 ![0, 1] bcast_S1x32_S81920x32_0_1 (broadcastInDim S1x32 ![1] bcast_S32_S1x32_1
      (subi (ends cnt) (rooms cnt)))) slot)
    (cmpi .slt slot (broadcastInDim S81920x32 ![0, 1] bcast_S1x32_S81920x32_0_1 (broadcastInDim S1x32 ![1] bcast_S32_S1x32_1 (ends cnt)))))

/-- The slots through each expert's first matrix of a layer. -/
def through (x : FVec Ideal S81920x1024 .f32) (w : FVec Ideal S2x32x1024x256 .f32) : FVec Ideal S81920x32x256 .f32 :=
  Host.dotGeneral dot_S81920x1024_S32x1024x256_S81920x32x256_1_1_0_02_n_n none x
    (shapeCast S32x1024x256 (extractStridedSlice S1x32x1024x256 ![0, 0, 0, 0] w slices_S2x32x1024x256_S1x32x1024x256_0_0_0_0)
      shapeCasts_S1x32x1024x256_S32x1024x256)

def ones : FVec Ideal S81920x32x256 .f32 := broadcastInDim S81920x32x256 ![] bcast_S_S81920x32x256 (constant S_ .f32 0x3F800000#32)

/-- The gated hidden values, weighted. -/
def hidden (cnt : IVec S32 32) (x : FVec Ideal S81920x1024 .f32) (wg wu : FVec Ideal S2x32x1024x256 .f32) : FVec Ideal S81920x32x256 .f32 :=
  mulf (mulf (mulf (through x wg) (Host.divf ones (addf ones (Host.exp (Host.negf (through x wg)))))) (through x wu))
    (broadcastInDim S81920x32x256 ![0, 1, 2] bcast_S81920x32x1_S81920x32x256_0_1_2
      (broadcastInDim S81920x32x1 ![0, 1] bcast_S81920x32_S81920x32x1_0_1 (combine cnt)))

/-- The second matrices of a layer, one under the other. -/
def downs (wd : FVec Ideal S2x32x256x1024 .f32) : FVec Ideal S8192x1024 .f32 :=
  shapeCast S8192x1024 (shapeCast S32x256x1024 (extractStridedSlice S1x32x256x1024 ![0, 0, 0, 0] wd slices_S2x32x256x1024_S1x32x256x1024_0_0_0_0)
    shapeCasts_S1x32x256x1024_S32x256x1024) shapeCasts_S32x256x1024_S8192x1024

theorem result_eq (m : (ℓ : Loc nD τ sig) → Buf (Elt Ideal) ℓ) (c : Dev nD) :
    Value.res_out0 m c = Host.dotGeneral (F := Ideal) dot_S81920x8192_S8192x1024_S81920x1024_1_0_0_1_n_n none
      (shapeCast S81920x8192 (hidden (m ((c : Thread nD τ).loc main_arg0)) (m ((c : Thread nD τ).loc main_arg1)) (m ((c : Thread nD τ).loc main_arg2))
        (m ((c : Thread nD τ).loc main_arg3))) shapeCasts_S81920x32x256_S81920x8192) (downs (m ((c : Thread nD τ).loc main_arg4))) := rfl

theorem dot_apply (x : FVec Ideal S81920x8192 .f32) (y : FVec Ideal S8192x1024 .f32) (l : Fin 81920) (d : Fin 1024) :
    (Host.dotGeneral dot_S81920x8192_S8192x1024_S81920x1024_1_0_0_1_n_n none x y (ix2 l d) : EReal)
      = ∑ j : Fin 8192, (x (ix2 l j) : EReal) * y (ix2 j d) := by
  pointwise

theorem through_apply (x : FVec Ideal S81920x1024 .f32) (w : FVec Ideal S2x32x1024x256 .f32) (l : Fin 81920) (e : Fin 32) (f : Fin 256) :
    (through x w (ix3 l e f) : EReal) = ∑ k : Fin 1024, (x (ix2 l k) : EReal) * w (ix4 (0 : Fin 2) e k f) := by
  pointwise [through]

theorem downs_apply (wd : FVec Ideal S2x32x256x1024 .f32) (e : Fin 32) (f : Fin 256) (j : Fin 8192) (hj : j.val = e.val * 256 + f.val) (d : Fin 1024) :
    downs wd (ix2 j d) = wd (ix4 (0 : Fin 2) e f d) := by
  have he : (⟨j.val / 256, by omega⟩ : Fin 32) = e := Fin.ext (by show j.val / 256 = e.val; omega)
  have hf : (⟨j.val % 256, by omega⟩ : Fin 256) = f := Fin.ext (by show j.val % 256 = f.val; omega)
  pointwise [downs]
  rw [he, hf]

theorem hidden_apply (cnt : IVec S32 32) (x : FVec Ideal S81920x1024 .f32) (wg wu : FVec Ideal S2x32x1024x256 .f32) (l : Fin 81920) (e : Fin 32) (f : Fin 256) :
    (hidden cnt x wg wu (ix3 l e f) : EReal)
      = through x wg (ix3 l e f) * Ideal.div 1 (1 + Ideal.exp (-(through x wg (ix3 l e f) : EReal))) * through x wu (ix3 l e f) * combine cnt (ix2 l e) := by
  pointwise [hidden, ones]

theorem flat_apply (h : FVec Ideal S81920x32x256 .f32) (l : Fin 81920) (e : Fin 32) (f : Fin 256) (j : Fin 8192) (hj : j.val = e.val * 256 + f.val) :
    shapeCast S81920x8192 h shapeCasts_S81920x32x256_S81920x8192 (ix2 l j) = h (ix3 l e f) := by
  have he : (⟨j.val / 256, by omega⟩ : Fin 32) = e := Fin.ext (by show j.val / 256 = e.val; omega)
  have hf : (⟨j.val % 256, by omega⟩ : Fin 256) = f := Fin.ext (by show j.val % 256 = f.val; omega)
  pointwise
  rw [he, hf]

variable (cnt : IVec S32 32) (n : ℕ → ℕ)

theorem rooms_apply (hn : ∀ e, n e ≤ 32768) (hc : ∀ e : Fin 32, cnt (ix1 e) = BitVec.ofNat 32 (n e.val)) (e : Fin 32) :
    rooms cnt (ix1 e) = BitVec.ofNat 32 (tiles n e.val * 512) := by
  have := hn e.val
  show IntOp.muli (floorWord (IntOp.addi (cnt (ix1 e)) 511#32)) 512#32 = _
  rw [hc, WordCmp.addi_ofNat, floorWord_ofNat (by omega), WordCmp.muli_ofNat]
  rfl

theorem ends_apply (hn : ∀ e, n e ≤ 32768) (hc : ∀ e : Fin 32, cnt (ix1 e) = BitVec.ofNat 32 (n e.val)) (e : Fin 32) :
    ends cnt (ix1 e) = BitVec.ofNat 32 (upTo (tiles n) (e.val + 1) * 512) := by
  rw [← upTo_mul]
  exact Routing.cumsum1 rfl (rooms cnt) (fun i => tiles n i * 512) (rooms_apply cnt n hn hc) _ rfl _ _ e

/-- A mask bit as a number. -/
theorem ite_iff_bits (p q : BitVec 1) :
    (if p = 1#1 ∧ q = 1#1 then 1 else 0 : EReal) = (FloatOps.uitofp (F := Ideal) .f32 (IntOp.andi p q) : EReal) := by
  have h : ∀ b : BitVec 1, (FloatOps.uitofp (F := Ideal) .f32 b : EReal) = if b = 1#1 then 1 else 0 := fun b => by
    show (((b.toNat : ℝ)) : EReal) = _
    rcases (by decide : ∀ b : BitVec 1, b = 0#1 ∨ b = 1#1) b with rfl | rfl <;> simp
  rw [h]
  exact if_congr ((by decide : ∀ p q : BitVec 1, (p = 1#1 ∧ q = 1#1) ↔ IntOp.andi p q = 1#1) p q) rfl rfl

theorem combine_apply (hn : ∀ e, n e ≤ 32768) (hc : ∀ e : Fin 32, cnt (ix1 e) = BitVec.ofNat 32 (n e.val)) (i : Fin 160) (r : Fin 512)
    (l : Fin 81920) (hl : l.val = i.val * 512 + r.val) (e : Fin 32) :
    (combine cnt (ix2 l e) : EReal) = if passed (tiles n) i.val 32 = e.val then 1 else 0 := by
  have he := e.isLt
  have hb := upTo_le (tiles n) (tiles_le hn) (e.val + 1)
  have hs := upTo_succ (tiles n) e.val
  have ho := (slot_iff (upTo (tiles n) e.val) (upTo (tiles n) (e.val + 1)) i.val r.val r.isLt).trans (owner_iff (tiles n) i.val he)
  have hl' := l.isLt
  have hsub : IntOp.subi (BitVec.ofNat 32 (upTo (tiles n) (e.val + 1) * 512)) (BitVec.ofNat 32 (tiles n e.val * 512))
      = BitVec.ofNat 32 (upTo (tiles n) e.val * 512) := by
    rw [hs, Nat.add_mul, BitVec.ofNat_add]
    exact BitVec.add_sub_cancel _ _
  pointwise [combine]
  rw [ends_apply cnt n hn hc, rooms_apply cnt n hn hc, hsub, hl]
  have h1 := WordCmp.cmpi_sle_ofNat_eq_one_iff (w := 32) (a := upTo (tiles n) e.val * 512) (b := i.val * 512 + r.val)
    (by omega) (by omega)
  have h2 := WordCmp.cmpi_slt_ofNat_eq_one_iff (w := 32) (a := i.val * 512 + r.val) (b := upTo (tiles n) (e.val + 1) * 512)
    (by omega) (by omega)
  rw [← h1, ← h2] at ho
  generalize IntOp.cmpi .sle _ _ = p at ho ⊢
  generalize IntOp.cmpi .slt _ _ = q at ho ⊢
  rw [← ite_iff_bits p q]
  exact if_congr ho rfl rfl

end Cert.Reference2Ideal.FfnRef

end
-- ==== Proof.FfnResult.lean ====
/- The expert network's kernel and its reference agree: of the reference's weighted sum over the experts, the terms of the
   expert whose segment the slot lies in are what the kernel computes, and the others are zero. -/
module

public import proofs.«01_k».proof.Defs
public import proofs.«01_k».proof.Proof.Gen.Pre_counts
public import proofs.«01_k».proof.Proof.FfnArray
public import proofs.«01_k».proof.Proof.FfnRef

@[expose] public section

set_option maxRecDepth 16384

noncomputable section

namespace Cert.FfnResult

open Idealize.ShloMosaic Idealize.ShloMosaic.TcCoe Idealize.SL.Sem
open Cert.FfnCount Cert.Reference2Ideal.FfnRef

/-- A count in range is a natural up to 32768. -/
theorem count_le (x : BitVec 32) (h : IntOp.andi (IntOp.cmpi .sge x 0#32) (IntOp.cmpi .sle x 32768#32) = 1#1) : x.toNat ≤ 32768 := by
  obtain ⟨h1, h2⟩ := (by decide : ∀ p q : BitVec 1, IntOp.andi p q = 1#1 → p = 1#1 ∧ q = 1#1) _ _ h
  rw [WordCmp.cmpi_sge_eq, WordCmp.ofBool_decide_eq_one_iff] at h1
  rw [WordCmp.cmpi_sle_eq, WordCmp.ofBool_decide_eq_one_iff] at h2
  have e0 : (0#32 : BitVec 32).toInt = 0 := by decide
  have e1 : (32768#32 : BitVec 32).toInt = 32768 := by decide
  have hx := x.isLt
  rw [e0, BitVec.toInt_eq_toNat_cond] at h1
  rw [e1, BitVec.toInt_eq_toNat_cond] at h2
  split at h1 <;> omega

/-- The counts as naturals. -/
def counts (cnt : Fin 32 → BitVec 32) (e : ℕ) : ℕ := if h : e < 32 then (cnt ⟨e, h⟩).toNat else 0

theorem counts_le (cnt : Fin 32 → BitVec 32) (h : ∀ e, (cnt e).toNat ≤ 32768) (e : ℕ) : counts cnt e ≤ 32768 := by
  unfold counts
  split
  · exact h _
  · omega

theorem counts_eq (cnt : Fin 32 → BitVec 32) (e : Fin 32) : cnt e = BitVec.ofNat 32 (counts cnt e.val) := by
  unfold counts
  rw [dif_pos e.isLt, BitVec.ofNat_toNat, BitVec.setWidth_eq]

/-- A sum over the hidden values of all experts, expert by expert. -/
theorem sum_experts (g : Fin 8192 → EReal) (h : Fin 32 → Fin 256 → EReal)
    (hg : ∀ (e : Fin 32) (f : Fin 256) (j : Fin 8192), j.val = e.val * 256 + f.val → g j = h e f) :
    ∑ j, g j = ∑ e, ∑ f, h e f := by
  rw [← Fintype.sum_prod_type' h]
  refine (Fintype.sum_equiv (finProdFinEquiv (m := 32) (n := 256)) _ _ fun x => ?_).symm
  refine (hg x.1 x.2 _ ?_).symm
  show x.2.val + 256 * x.1.val = _
  omega

section

variable (cnt : IVec Cert.Reference2Ideal.S32 32) (n : ℕ → ℕ)
  (x : FVec Ideal Cert.Reference2Ideal.S81920x1024 .f32) (wg wu : FVec Ideal Cert.Reference2Ideal.S2x32x1024x256 .f32)
  (wd : FVec Ideal Cert.Reference2Ideal.S2x32x256x1024 .f32)

/-- The reference's result: every expert's network, weighted by whose slot it is. -/
theorem reference_apply (hn : ∀ e, n e ≤ 32768) (hc : ∀ e : Fin 32, cnt (ix1 e) = BitVec.ofNat 32 (n e.val)) (l : Fin 81920) (d : Fin 1024) :
    (Host.dotGeneral (F := Ideal) Cert.Reference2Ideal.dot_S81920x8192_S8192x1024_S81920x1024_1_0_0_1_n_n none
      (shapeCast Cert.Reference2Ideal.S81920x8192 (hidden cnt x wg wu) Cert.Reference2Ideal.Gen.shapeCasts_S81920x32x256_S81920x8192)
      (downs wd) (ix2 l d) : EReal)
      = ∑ e : Fin 32, ∑ f : Fin 256,
          (∑ k : Fin 1024, (x (ix2 l k) : EReal) * wg (ix4 (0 : Fin 2) e k f))
            * Ideal.div 1 (1 + Ideal.exp (-∑ k : Fin 1024, (x (ix2 l k) : EReal) * wg (ix4 (0 : Fin 2) e k f)))
            * (∑ k : Fin 1024, (x (ix2 l k) : EReal) * wu (ix4 (0 : Fin 2) e k f))
            * (if passed (tiles n) (l.val / 512) 32 = e.val then 1 else 0) * wd (ix4 (0 : Fin 2) e f d) := by
  refine (dot_apply _ _ l d).trans (sum_experts _ _ fun e f j hj => ?_)
  have hl := l.isLt
  have hcomb := combine_apply cnt n hn hc ⟨l.val / 512, by omega⟩ ⟨l.val % 512, Nat.mod_lt _ (by omega)⟩ l
    (by show l.val = l.val / 512 * 512 + l.val % 512; omega) e
  have hh := (flat_apply (hidden cnt x wg wu) l e f j hj).trans (hidden_apply cnt x wg wu l e f)
  rw [hcomb, through_apply, through_apply] at hh
  exact congrArg₂ (· * · : EReal → EReal → EReal) hh (downs_apply wd e f j hj d)

/-- Of it, one expert's network is left, or nothing. -/
theorem reference_eq (hn : ∀ e, n e ≤ 32768) (hc : ∀ e : Fin 32, cnt (ix1 e) = BitVec.ofNat 32 (n e.val)) (l : Fin 81920) (d : Fin 1024) :
    (Host.dotGeneral (F := Ideal) Cert.Reference2Ideal.dot_S81920x8192_S8192x1024_S81920x1024_1_0_0_1_n_n none
      (shapeCast Cert.Reference2Ideal.S81920x8192 (hidden cnt x wg wu) Cert.Reference2Ideal.Gen.shapeCasts_S81920x32x256_S81920x8192)
      (downs wd) (ix2 l d) : EReal)
      = if h : passed (tiles n) (l.val / 512) 32 < 32 then Cert.Kernel2Ideal.Ffn.network x wg wu wd l ⟨_, h⟩ d else 0 := by
  rw [reference_apply cnt n x wg wu wd hn hc]
  have other : ∀ e : Fin 32, ¬ passed (tiles n) (l.val / 512) 32 = e.val → (∑ f : Fin 256,
          (∑ k : Fin 1024, (x (ix2 l k) : EReal) * wg (ix4 (0 : Fin 2) e k f))
            * Ideal.div 1 (1 + Ideal.exp (-∑ k : Fin 1024, (x (ix2 l k) : EReal) * wg (ix4 (0 : Fin 2) e k f)))
            * (∑ k : Fin 1024, (x (ix2 l k) : EReal) * wu (ix4 (0 : Fin 2) e k f))
            * (if passed (tiles n) (l.val / 512) 32 = e.val then 1 else 0) * wd (ix4 (0 : Fin 2) e f d)) = 0 := fun e he =>
    Finset.sum_eq_zero fun f _ => by rw [if_neg he, mul_zero, zero_mul]
  by_cases h : passed (tiles n) (l.val / 512) 32 < 32
  · rw [dif_pos h, Finset.sum_eq_single (⟨_, h⟩ : Fin 32) (fun e _ he => other e fun k => he (Fin.ext k.symm))
      (fun k => absurd (Finset.mem_univ _) k)]
    refine Finset.sum_congr rfl fun f _ => ?_
    rw [if_pos rfl, mul_one]
  · rw [dif_neg h]
    exact Finset.sum_eq_zero fun e _ => other e fun k => h (k ▸ e.isLt)

end

/-- The kernel's output array and the reference's result, from equal arguments. -/
theorem agree (m : (ℓ : Loc Cert.Kernel2Ideal.nD Cert.Kernel2Ideal.τ Cert.Kernel2Ideal.sig) → Buf (Elt Ideal) ℓ)
    (hpre : Cert.Pre_Kernel2Ideal_counts m) (c : Dev Cert.Kernel2Ideal.nD) :
    (Cert.Kernel2Ideal.Ffn.dats m (Cert.Kernel2Ideal.Ffn.ok_all m) 0 c).arrAt 4 (Cert.Kernel2Ideal.Ffn.cfgM m (Cert.Kernel2Ideal.Ffn.ok_all m)).N
      = Host.dotGeneral (F := Ideal) Cert.Reference2Ideal.dot_S81920x8192_S8192x1024_S81920x1024_1_0_0_1_n_n none
          (shapeCast Cert.Reference2Ideal.S81920x8192 (hidden (m ((c : Thread Cert.Kernel2Ideal.nD Cert.Kernel2Ideal.τ).loc Cert.Kernel2Ideal.main_arg0))
            (m ((c : Thread Cert.Kernel2Ideal.nD Cert.Kernel2Ideal.τ).loc Cert.Kernel2Ideal.main_arg1))
            (m ((c : Thread Cert.Kernel2Ideal.nD Cert.Kernel2Ideal.τ).loc Cert.Kernel2Ideal.main_arg2))
            (m ((c : Thread Cert.Kernel2Ideal.nD Cert.Kernel2Ideal.τ).loc Cert.Kernel2Ideal.main_arg3)))
            Cert.Reference2Ideal.Gen.shapeCasts_S81920x32x256_S81920x8192)
          (downs (m ((c : Thread Cert.Kernel2Ideal.nD Cert.Kernel2Ideal.τ).loc Cert.Kernel2Ideal.main_arg4))) := by
  obtain rfl : c = 0 := Subsingleton.elim _ _
  let cnt : Fin 32 → BitVec 32 := fun e =>
    (m (((0 : Dev Cert.Kernel2Ideal.nD) : Thread Cert.Kernel2Ideal.nD Cert.Kernel2Ideal.τ).loc Cert.Kernel2Ideal.main_arg0) : IVec Cert.Kernel2Ideal.S32 32) (ix1 e)
  have hle : ∀ e, (cnt e).toNat ≤ 32768 := fun e => count_le _ (congrFun (hpre 0) (ix1 e))
  have hn := counts_le cnt hle
  refine (Cert.Kernel2Ideal.Ffn.array_eq m (counts cnt) _ hn (counts_eq cnt)).trans ?_
  refine funext fun i => ?_
  refine Eq.trans ?_ (congrArg _ (eq_ix2 i).symm)
  exact (reference_eq _ (counts cnt) _ _ _ _ hn (counts_eq cnt) (i 0) (i 1)).symm

end Cert.FfnResult

end
-- ==== Proof.MergeModel.lean ====
/- The gated merge of one token over the extended reals: the three gated branches, the projection, the scaled residual and the
   layer norm. -/
module

public import Idealize.ShloMosaic.PureOps.Ideal

@[expose] public section

noncomputable section

namespace Cert.MergeModel

open Idealize.ShloMosaic

/-- The logistic function. -/
def gate (v : EReal) : EReal := Ideal.div 1 (1 + Ideal.exp (-v))

/-- One branch of the merge at a channel: its gate, from the token `x`, times its projected mixer result `y`. -/
def branch (x : Fin 1024 → EReal) (g : Fin 1024 → Fin 1024 → EReal) (y : Fin 512 → EReal) (w : Fin 512 → Fin 1024 → EReal) (d : Fin 1024) : EReal :=
  gate (∑ k, x k * g k d) * ∑ k, y k * w k d

/-- The scaled token plus the projected merge. -/
def residual (x u : Fin 1024 → EReal) (wo : Fin 1024 → Fin 1024 → EReal) (d : Fin 1024) : EReal :=
  Ideal.ofBits .f32 1068827891#32 * x d + ∑ k, u k * wo k d

/-- The mean over the channels. -/
def mean (x : Fin 1024 → EReal) : EReal := Ideal.div (∑ k, x k) (Ideal.ofBits .f32 1149239296#32)

/-- The layer norm. -/
def rowNorm (x g b : Fin 1024 → EReal) (d : Fin 1024) : EReal :=
  (x d - mean x) * Ideal.rsqrt (mean (fun k => (x k - mean x) * (x k - mean x)) + Ideal.ofBits .f32 925353388#32) * g d + b d

/-- One token's result. -/
def token (x : Fin 1024 → EReal) (y1 y2 y3 : Fin 512 → EReal) (g1 g2 g3 : Fin 1024 → Fin 1024 → EReal) (w1 w2 w3 : Fin 512 → Fin 1024 → EReal)
    (wo : Fin 1024 → Fin 1024 → EReal) (g b : Fin 1024 → EReal) : Fin 1024 → EReal :=
  rowNorm (residual x (fun d => branch x g1 y1 w1 d + branch x g2 y2 w2 d + branch x g3 y3 w3 d) wo) g b

end Cert.MergeModel

end
-- ==== Proof.MergePoint.lean ====
/- One block of the gated merge over the extended reals: the kernel's payloads read at a row and a column. -/
module

public import proofs.«01_k».proof.Proof.Gen.Kernel3Ideal.Frame
public import proofs.«01_k».proof.Proof.MergeModel
public import Idealize.ShloMosaic.Lib.Pointwise
public import Idealize.ShloMosaic.Lib.Pipeline.ValueKit

@[expose] public section

set_option maxRecDepth 16384

noncomputable section

namespace Cert.Kernel3Ideal.Merge

open Idealize.ShloMosaic Idealize.ShloMosaic.TcCoe Cert.Kernel3Ideal Cert.Kernel3Ideal.Gen Cert.MergeModel

section Ops

variable {F : FTy → Type} [FloatOps F]

/-- The three gated branches added up. -/
def branches (x0 : Vec F S1024x1024 .f32) (y1 y2 y3 : Vec F S1024x512 .bf16) (g1 g2 g3 : Vec F S1024x1024 .bf16)
    (w1 w2 w3 : Vec F S512x1024 .bf16) : FVec F S1024x1024 .f32 :=
  addf (k0_pay3 x0 g1 y1 w1 g2 y2 w2)
    (mulf (divf (broadcast S1024x1024 (Scalar.ofBits .f32 0x3F800000#32)) (addf (broadcast S1024x1024 (Scalar.ofBits .f32 0x3F800000#32))
      (exp (subf (broadcast S1024x1024 (Scalar.ofBits .f32 0x00000000#32))
        (matmul dot_S1024x1024_S1024x1024_S1024x1024_1_0_0_1_n_n none (k0_pay2 x0) (shapeCast S1024x1024 g3 shapeCasts_S1024x1024_S1024x1024)
          (constant S1024x1024 .f32 0x00000000#32))))))
      (matmul dot_S1024x512_S512x1024_S1024x1024_1_0_0_1_n_n none y3 (shapeCast S512x1024 w3 shapeCasts_S512x1024_S512x1024)
        (constant S1024x1024 .f32 0x00000000#32)))

/-- The scaled stream plus the projected branches. -/
def residualB (x0 : Vec F S1024x1024 .f32) (b : FVec F S1024x1024 .f32) (wo : Vec F S1024x1024 .bf16) : FVec F S1024x1024 .f32 :=
  addf (mulf (broadcast S1024x1024 (Scalar.ofBits .f32 0x3FB504F3#32)) x0)
    (matmul dot_S1024x1024_S1024x1024_S1024x1024_1_0_0_1_n_n none (truncf .bf16 b bitsLt_bf16_f32)
      (shapeCast S1024x1024 wo shapeCasts_S1024x1024_S1024x1024) (constant S1024x1024 .f32 0x00000000#32))

/-- Each row's mean. -/
def rowMean (x : FVec F S1024x1024 .f32) : FVec F S1024x1 .f32 :=
  divf (shapeCast S1024x1 (multiReduction .add [1] S1024 x 0x00000000#32 reduces_S1024x1024_S1024 (.inl rfl) rfl) shapeCasts_S1024_S1024x1)
    (broadcast S1024x1 (Scalar.ofBits .f32 0x44800000#32))

/-- Each row less its mean. -/
def centred (x : FVec F S1024x1024 .f32) : FVec F S1024x1024 .f32 :=
  subf x (broadcastTo S1024x1024 (rowMean x) broadcasts_S1024x1_S1024x1024)

/-- The normalised rows. -/
def normed (g b : Vec F S1x1024 .f32) (x : FVec F S1024x1024 .f32) : FVec F S1024x1024 .f32 :=
  k0_pay8 (k0_pay4 g) (k0_pay5 b) (centred x) (rowMean (mulf (centred x) (centred x))) (Scalar.ofBits .f32 0x3727C5AC#32)

theorem pay6_eq (x0 : Vec F S1024x1024 .f32) (y1 y2 y3 : Vec F S1024x512 .bf16) (g1 g2 g3 : Vec F S1024x1024 .bf16)
    (w1 w2 w3 : Vec F S512x1024 .bf16) (wo : Vec F S1024x1024 .bf16) :
    k0_pay6 x0 (k0_pay2 x0) (k0_pay3 x0 g1 y1 w1 g2 y2 w2) g3 y3 w3 wo = centred (residualB x0 (branches x0 y1 y2 y3 g1 g2 g3 w1 w2 w3) wo) := rfl

theorem pay7_eq (x0 : Vec F S1024x1024 .f32) (y1 y2 y3 : Vec F S1024x512 .bf16) (g1 g2 g3 : Vec F S1024x1024 .bf16)
    (w1 w2 w3 : Vec F S512x1024 .bf16) (wo : Vec F S1024x1024 .bf16) :
    k0_pay7 x0 (k0_pay2 x0) (k0_pay3 x0 g1 y1 w1 g2 y2 w2) g3 y3 w3 wo
      = rowMean (mulf (centred (residualB x0 (branches x0 y1 y2 y3 g1 g2 g3 w1 w2 w3) wo)) (centred (residualB x0 (branches x0 y1 y2 y3 g1 g2 g3 w1 w2 w3) wo))) := rfl

theorem zeros : (![0, 0] : Fin 2 → ℕ) = fun _ => 0 := by
  funext a
  match a with
  | ⟨0, _⟩ => rfl
  | ⟨1, _⟩ => rfl

/-- What the body leaves in the block of the first result. -/
theorem out_eq (x0 : Vec F S1024x1024 .f32) (x1 x2 x3 : Vec F S1024x512 .bf16) (x4 : Vec F S1024x3072 .bf16) (x5 x6 x7 : Vec F S512x1024 .bf16)
    (x8 : Vec F S1024x1024 .bf16) (x9 x10 : Vec F S1x1024 .f32) (x11 x12 : Vec F S1024x128 .bf16) (x13 : Vec F S1x128 .f32) :
    out0_14 x0 x1 x2 x3 x4 x5 x6 x7 x8 x9 x10 x11 x12 x13
      = normed x9 x10 (residualB x0 (branches x0 x1 x2 x3 (View.ld x4 r0_1) (View.ld x4 r0_4) (View.ld x4 r0_5) x5 x6 x7) x8) := by
  unfold out0_14 k0_pay33 k0_pay32 k0_pay31 k0_pay30 k0_pay29 k0_pay28
  rw [View.canon_unit_zero zeros]
  rw [View.ld_unit_zero zeros _ x0, View.ld_unit_zero zeros _ x1, View.ld_unit_zero zeros _ x2, View.ld_unit_zero zeros _ x3,
    View.ld_unit_zero zeros _ x5, View.ld_unit_zero zeros _ x6, View.ld_unit_zero zeros _ x7, View.ld_unit_zero zeros _ x8,
    View.ld_unit_zero zeros _ x9, View.ld_unit_zero zeros _ x10, pay6_eq, pay7_eq]
  rfl

end Ops

theorem branches_apply (x0 : Vec Ideal S1024x1024 .f32) (y1 y2 y3 : Vec Ideal S1024x512 .bf16) (g1 g2 g3 : Vec Ideal S1024x1024 .bf16)
    (w1 w2 w3 : Vec Ideal S512x1024 .bf16) (r d : Fin 1024) :
    (branches x0 y1 y2 y3 g1 g2 g3 w1 w2 w3 (ix2 r d) : EReal) =
      branch (fun k => x0 (ix2 r k)) (fun k d => g1 (ix2 k d)) (fun k => y1 (ix2 r k)) (fun k d => w1 (ix2 k d)) d
      + branch (fun k => x0 (ix2 r k)) (fun k d => g2 (ix2 k d)) (fun k => y2 (ix2 r k)) (fun k d => w2 (ix2 k d)) d
      + branch (fun k => x0 (ix2 r k)) (fun k d => g3 (ix2 k d)) (fun k => y3 (ix2 r k)) (fun k d => w3 (ix2 k d)) d := by
  pointwise [branches, k0_pay3, k0_pay2]
  simp only [zero_sub, branch, gate]

theorem residual_apply (x0 b : Vec Ideal S1024x1024 .f32) (wo : Vec Ideal S1024x1024 .bf16) (r d : Fin 1024) :
    (residualB x0 b wo (ix2 r d) : EReal) = residual (fun k => x0 (ix2 r k)) (fun k => b (ix2 r k)) (fun k d => wo (ix2 k d)) d := by
  pointwise [residualB]
  rfl

theorem centred_apply (x : FVec Ideal S1024x1024 .f32) (r d : Fin 1024) :
    (centred x (ix2 r d) : EReal) = x (ix2 r d) - mean (fun k => x (ix2 r k)) := by
  pointwise [centred, rowMean]
  rfl

theorem rowMean_apply (x : FVec Ideal S1024x1024 .f32) (r : Fin 1024) :
    (rowMean x (ix2 r (0 : Fin 1)) : EReal) = mean (fun k => x (ix2 r k)) := by
  pointwise [rowMean]
  rfl

theorem pay8_apply (g b : FVec Ideal S1x1024 .f32) (x : FVec Ideal S1024x1024 .f32) (v : FVec Ideal S1024x1 .f32) (eps : Ideal .f32) (r d : Fin 1024) :
    (k0_pay8 (k0_pay4 g) (k0_pay5 b) x v eps (ix2 r d) : EReal)
      = x (ix2 r d) * Ideal.rsqrt (v (ix2 r (0 : Fin 1)) + eps) * g (ix2 (0 : Fin 1) d) + b (ix2 (0 : Fin 1) d) := by
  pointwise [k0_pay8, k0_pay4, k0_pay5]

theorem normed_apply (g b : Vec Ideal S1x1024 .f32) (x : FVec Ideal S1024x1024 .f32) (r d : Fin 1024) :
    (normed g b x (ix2 r d) : EReal) = rowNorm (fun k => x (ix2 r k)) (fun d => g (ix2 (0 : Fin 1) d)) (fun d => b (ix2 (0 : Fin 1) d)) d := by
  unfold normed rowNorm
  rw [pay8_apply, rowMean_apply, centred_apply]
  have h : (fun k => (mulf (centred x) (centred x) (ix2 r k) : EReal))
      = fun k => (x (ix2 r k) - mean (fun k => x (ix2 r k))) * (x (ix2 r k) - mean (fun k => x (ix2 r k))) :=
    funext fun k => congrArg₂ (· * · : EReal → EReal → EReal) (centred_apply x r k) (centred_apply x r k)
  rw [h]
  rfl

/-- What the body leaves in the block of the first result, at a row and a channel. -/
theorem out_apply (x0 : Vec Ideal S1024x1024 .f32) (x1 x2 x3 : Vec Ideal S1024x512 .bf16) (x4 : Vec Ideal S1024x3072 .bf16) (x5 x6 x7 : Vec Ideal S512x1024 .bf16)
    (x8 : Vec Ideal S1024x1024 .bf16) (x9 x10 : Vec Ideal S1x1024 .f32) (x11 x12 : Vec Ideal S1024x128 .bf16) (x13 : Vec Ideal S1x128 .f32) (r d : Fin 1024) :
    (out0_14 x0 x1 x2 x3 x4 x5 x6 x7 x8 x9 x10 x11 x12 x13 (ix2 r d) : EReal)
      = token (fun k => x0 (ix2 r k)) (fun k => x1 (ix2 r k)) (fun k => x2 (ix2 r k)) (fun k => x3 (ix2 r k))
        (fun k d => x4 (ix2 k (⟨d.val, by omega⟩ : Fin 3072))) (fun k d => x4 (ix2 k (⟨1024 + d.val, by omega⟩ : Fin 3072)))
        (fun k d => x4 (ix2 k (⟨2048 + d.val, by omega⟩ : Fin 3072)))
        (fun k d => x5 (ix2 k d)) (fun k d => x6 (ix2 k d)) (fun k d => x7 (ix2 k d)) (fun k d => x8 (ix2 k d))
        (fun d => x9 (ix2 (0 : Fin 1) d)) (fun d => x10 (ix2 (0 : Fin 1) d)) d := by
  have h1 : (fun k d => (View.ld x4 r0_1 (ix2 k d) : EReal)) = fun (k d : Fin 1024) => x4 (ix2 k (⟨d.val, by omega⟩ : Fin 3072)) :=
    funext fun k => funext fun d => congrArg x4 (funext fun a => match a with
      | ⟨0, _⟩ => Fin.ext (by show 0 + 1 * k.val = k.val; omega)
      | ⟨1, _⟩ => Fin.ext (by show 0 + 1 * d.val = d.val; omega))
  have h2 : (fun k d => (View.ld x4 r0_4 (ix2 k d) : EReal)) = fun (k d : Fin 1024) => x4 (ix2 k (⟨1024 + d.val, by omega⟩ : Fin 3072)) :=
    funext fun k => funext fun d => congrArg x4 (funext fun a => match a with
      | ⟨0, _⟩ => Fin.ext (by show 0 + 1 * k.val = k.val; omega)
      | ⟨1, _⟩ => Fin.ext (by show 1024 + 1 * d.val = 1024 + d.val; omega))
  have h3 : (fun k d => (View.ld x4 r0_5 (ix2 k d) : EReal)) = fun (k d : Fin 1024) => x4 (ix2 k (⟨2048 + d.val, by omega⟩ : Fin 3072)) :=
    funext fun k => funext fun d => congrArg x4 (funext fun a => match a with
      | ⟨0, _⟩ => Fin.ext (by show 0 + 1 * k.val = k.val; omega)
      | ⟨1, _⟩ => Fin.ext (by show 2048 + 1 * d.val = 2048 + d.val; omega))
  refine (congrFun (out_eq x0 x1 x2 x3 x4 x5 x6 x7 x8 x9 x10 x11 x12 x13) _).trans ((normed_apply _ _ _ r d).trans ?_)
  unfold token
  refine congrArg (fun z => rowNorm z _ _ d) (funext fun k => (residual_apply _ _ _ r k).trans ?_)
  refine congrArg (fun z => residual _ z _ k) (funext fun j => (branches_apply _ _ _ _ _ _ _ _ _ _ r j).trans ?_)
  rw [h1, h2, h3]

end Cert.Kernel3Ideal.Merge

end
-- ==== Proof.MergeArray.lean ====
/- The gated merge's first output array over the extended reals: every token's result, from the arguments. -/
module

public import proofs.«01_k».proof.Proof.Gen.Kernel3Ideal.Value
public import proofs.«01_k».proof.Proof.MergePoint

@[expose] public section

set_option maxRecDepth 16384

noncomputable section

namespace Cert.Kernel3Ideal.Merge

open Idealize.ShloMosaic Idealize.ShloMosaic.TcCoe Idealize.SL.Sem Cert.Kernel3Ideal Cert.Kernel3Ideal.Gen Cert.MergeModel

/-- The three branches' gate weights side by side. -/
def gateWeights (w : FVec Ideal S1024x6612 .f32) : FVec Ideal S1024x3072 .bf16 :=
  truncf .bf16 (concatenate S1024x3072 1
    [⟨S1024x1024, (extractStridedSlice S1024x1024 ![0, 3540] w slices_S1024x6612_S1024x1024_0_3540 : FVec Ideal S1024x1024 .f32)⟩,
      ⟨S1024x1024, extractStridedSlice S1024x1024 ![0, 4564] w slices_S1024x6612_S1024x1024_0_4564⟩,
      ⟨S1024x1024, extractStridedSlice S1024x1024 ![0, 5588] w slices_S1024x6612_S1024x1024_0_5588⟩]
    concatenates_S1024x1024_S1024x1024_S1024x1024_S1024x3072_d1) bitsLt_bf16_f32

theorem gateWeights_apply_0 (w : FVec Ideal S1024x6612 .f32) (k d : Fin 1024) :
    (gateWeights w (ix2 k (⟨d.val, by omega⟩ : Fin 3072)) : EReal) = w (ix2 k (⟨3540 + d.val, by omega⟩ : Fin 6612)) := by
  have hd : d.val < 1024 := d.isLt
  pointwise [gateWeights]
theorem gateWeights_apply_1 (w : FVec Ideal S1024x6612 .f32) (k d : Fin 1024) :
    (gateWeights w (ix2 k (⟨1024 + d.val, by omega⟩ : Fin 3072)) : EReal) = w (ix2 k (⟨4564 + d.val, by omega⟩ : Fin 6612)) := by
  have hd : d.val < 1024 := d.isLt
  pointwise [gateWeights]
theorem gateWeights_apply_2 (w : FVec Ideal S1024x6612 .f32) (k d : Fin 1024) :
    (gateWeights w (ix2 k (⟨2048 + d.val, by omega⟩ : Fin 3072)) : EReal) = w (ix2 k (⟨5588 + d.val, by omega⟩ : Fin 6612)) := by
  have hd : d.val < 1024 := d.isLt
  pointwise [gateWeights]
  rw [dif_neg (by omega), dif_neg (by omega)]
  exact congrArg (fun j => w (ix2 k j)) (Fin.ext (by show 5588 + (2048 + d.val - 1024 - 1024) = 5588 + d.val; omega))

theorem rowOf_apply (g : FVec Ideal S1024 .f32) (d : Fin 1024) :
    (shapeCast S1x1024 g shapeCasts_S1024_S1x1024 (ix2 (0 : Fin 1) d) : EReal) = g (ix1 d) := by
  pointwise

variable (m : (ℓ : Loc nD τ sig) → Buf (Elt Ideal) ℓ) (c : Dev nD)

theorem V_4 : V m c (Pipeline.arrRef spec0 4) = gateWeights (m ((c : Thread nD τ).loc main_arg4)) := by rfl
theorem V_5 : V m c (Pipeline.arrRef spec0 5) = truncf (F := Ideal) .bf16 (m ((c : Thread nD τ).loc main_arg5) : FVec Ideal S512x1024 .f32) bitsLt_bf16_f32 := by rfl
theorem V_6 : V m c (Pipeline.arrRef spec0 6) = truncf (F := Ideal) .bf16 (m ((c : Thread nD τ).loc main_arg6) : FVec Ideal S512x1024 .f32) bitsLt_bf16_f32 := by rfl
theorem V_7 : V m c (Pipeline.arrRef spec0 7) = truncf (F := Ideal) .bf16 (m ((c : Thread nD τ).loc main_arg7) : FVec Ideal S512x1024 .f32) bitsLt_bf16_f32 := by rfl
theorem V_8 : V m c (Pipeline.arrRef spec0 8) = truncf (F := Ideal) .bf16 (m ((c : Thread nD τ).loc main_arg8) : FVec Ideal S1024x1024 .f32) bitsLt_bf16_f32 := by rfl
theorem V_9 : V m c (Pipeline.arrRef spec0 9) = shapeCast S1x1024 (m ((c : Thread nD τ).loc main_arg9) : FVec Ideal S1024 .f32) shapeCasts_S1024_S1x1024 := by rfl
theorem V_10 : V m c (Pipeline.arrRef spec0 10) = shapeCast S1x1024 (m ((c : Thread nD τ).loc main_arg10) : FVec Ideal S1024 .f32) shapeCasts_S1024_S1x1024 := by rfl

/-! Where the windows' blocks sit at a point. -/

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = t.val ∧ win0_1.index t (1 : Fin 2) = 0 := (by decide +kernel : ∀ t : Fin grid0.N, _)
theorem index2 : ∀ t : Fin cfg0.N, win0_2.index t (0 : Fin 2) = t.val ∧ win0_2.index t (1 : Fin 2) = 0 := (by decide +kernel : ∀ t : Fin grid0.N, _)
theorem index3 : ∀ t : Fin cfg0.N, win0_3.index t (0 : Fin 2) = t.val ∧ win0_3.index t (1 : Fin 2) = 0 := (by decide +kernel : ∀ t : Fin grid0.N, _)
theorem index14 : ∀ t : Fin cfg0.N, win0_14.index t (0 : Fin 2) = t.val ∧ win0_14.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 2) = 0 ∧ win0_5.index t (1 : Fin 2) = 0 := (by decide +kernel : ∀ t : Fin grid0.N, _)
theorem index6 : ∀ t : Fin cfg0.N, win0_6.index t (0 : Fin 2) = 0 ∧ win0_6.index t (1 : Fin 2) = 0 := (by decide +kernel : ∀ t : Fin grid0.N, _)
theorem index7 : ∀ t : Fin cfg0.N, win0_7.index t (0 : Fin 2) = 0 ∧ win0_7.index t (1 : Fin 2) = 0 := (by decide +kernel : ∀ t : Fin grid0.N, _)
theorem index8 : ∀ t : Fin cfg0.N, win0_8.index t (0 : Fin 2) = 0 ∧ win0_8.index t (1 : Fin 2) = 0 := (by decide +kernel : ∀ t : Fin grid0.N, _)
theorem index9 : ∀ t : Fin cfg0.N, win0_9.index t (0 : Fin 2) = 0 ∧ win0_9.index t (1 : Fin 2) = 0 := (by decide +kernel : ∀ t : Fin grid0.N, _)
theorem index10 : ∀ t : Fin cfg0.N, win0_10.index t (0 : Fin 2) = 0 ∧ win0_10.index t (1 : Fin 2) = 0 := (by decide +kernel : ∀ t : Fin grid0.N, _)

/-! The blocks, read off the arguments. -/

theorem blk0 (t : Fin cfg0.N) (r k : Fin 1024) (l : Fin 32768) (hl : l.val = t.val * 1024 + r.val) :
    (iblk m c 0 t (ix2 r k) : EReal) = (m ((c : Thread nD τ).loc main_arg0) : FVec Ideal S32768x1024 .f32) (ix2 l k) := by
  refine Eq.trans (congrArg (V m c (Pipeline.arrRef spec0 0)) (funext fun a => Fin.ext ?_)) (congrFun (V_main_arg0 m c) (ix2 l k))
  match a with
  | ⟨0, _⟩ => show win0_0.index t (0 : Fin 2) * 1024 + 1 * r.val = l.val; rw [(index0 t).1]; omega
  | ⟨1, _⟩ => show win0_0.index t (1 : Fin 2) * 1024 + 1 * k.val = k.val; rw [(index0 t).2]; omega
theorem blk1 (t : Fin cfg0.N) (r : Fin 1024) (k : Fin 512) (l : Fin 32768) (hl : l.val = t.val * 1024 + r.val) :
    (iblk m c 1 t (ix2 r k) : EReal) = (m ((c : Thread nD τ).loc main_arg1) : FVec Ideal S32768x512 .bf16) (ix2 l k) := by
  refine Eq.trans (congrArg (V m c (Pipeline.arrRef spec0 1)) (funext fun a => Fin.ext ?_)) (congrFun (V_main_arg1 m c) (ix2 l k))
  match a with
  | ⟨0, _⟩ => show win0_1.index t (0 : Fin 2) * 1024 + 1 * r.val = l.val; rw [(index1 t).1]; omega
  | ⟨1, _⟩ => show win0_1.index t (1 : Fin 2) * 512 + 1 * k.val = k.val; rw [(index1 t).2]; omega
theorem blk2 (t : Fin cfg0.N) (r : Fin 1024) (k : Fin 512) (l : Fin 32768) (hl : l.val = t.val * 1024 + r.val) :
    (iblk m c 2 t (ix2 r k) : EReal) = (m ((c : Thread nD τ).loc main_arg2) : FVec Ideal S32768x512 .bf16) (ix2 l k) := by
  refine Eq.trans (congrArg (V m c (Pipeline.arrRef spec0 2)) (funext fun a => Fin.ext ?_)) (congrFun (V_main_arg2 m c) (ix2 l k))
  match a with
  | ⟨0, _⟩ => show win0_2.index t (0 : Fin 2) * 1024 + 1 * r.val = l.val; rw [(index2 t).1]; omega
  | ⟨1, _⟩ => show win0_2.index t (1 : Fin 2) * 512 + 1 * k.val = k.val; rw [(index2 t).2]; omega
theorem blk3 (t : Fin cfg0.N) (r : Fin 1024) (k : Fin 512) (l : Fin 32768) (hl : l.val = t.val * 1024 + r.val) :
    (iblk m c 3 t (ix2 r k) : EReal) = (m ((c : Thread nD τ).loc main_arg3) : FVec Ideal S32768x512 .bf16) (ix2 l k) := by
  refine Eq.trans (congrArg (V m c (Pipeline.arrRef spec0 3)) (funext fun a => Fin.ext ?_)) (congrFun (V_main_arg3 m c) (ix2 l k))
  match a with
  | ⟨0, _⟩ => show win0_3.index t (0 : Fin 2) * 1024 + 1 * r.val = l.val; rw [(index3 t).1]; omega
  | ⟨1, _⟩ => show win0_3.index t (1 : Fin 2) * 512 + 1 * k.val = k.val; rw [(index3 t).2]; omega
theorem blk4 (t : Fin cfg0.N) : iblk m c 4 t = gateWeights (m ((c : Thread nD τ).loc main_arg4)) := by
  refine Eq.trans (funext fun y => congrArg (V m c (Pipeline.arrRef spec0 4)) (funext fun a => Fin.ext ?_)) (V_4 m c)
  match a with
  | ⟨0, _⟩ => show win0_4.index t (0 : Fin 2) * 1024 + 1 * (y 0).val = (y 0).val; rw [(index4 t).1]; omega
  | ⟨1, _⟩ => show win0_4.index t (1 : Fin 2) * 3072 + 1 * (y 1).val = (y 1).val; rw [(index4 t).2]; omega
theorem blk5 (t : Fin cfg0.N) : iblk m c 5 t = truncf (F := Ideal) .bf16 (m ((c : Thread nD τ).loc main_arg5) : FVec Ideal S512x1024 .f32) bitsLt_bf16_f32 := by
  refine Eq.trans (funext fun y => congrArg (V m c (Pipeline.arrRef spec0 5)) (funext fun a => Fin.ext ?_)) (V_5 m c)
  match a with
  | ⟨0, _⟩ => show win0_5.index t (0 : Fin 2) * 512 + 1 * (y 0).val = (y 0).val; rw [(index5 t).1]; omega
  | ⟨1, _⟩ => show win0_5.index t (1 : Fin 2) * 1024 + 1 * (y 1).val = (y 1).val; rw [(index5 t).2]; omega
theorem blk6 (t : Fin cfg0.N) : iblk m c 6 t = truncf (F := Ideal) .bf16 (m ((c : Thread nD τ).loc main_arg6) : FVec Ideal S512x1024 .f32) bitsLt_bf16_f32 := by
  refine Eq.trans (funext fun y => congrArg (V m c (Pipeline.arrRef spec0 6)) (funext fun a => Fin.ext ?_)) (V_6 m c)
  match a with
  | ⟨0, _⟩ => show win0_6.index t (0 : Fin 2) * 512 + 1 * (y 0).val = (y 0).val; rw [(index6 t).1]; omega
  | ⟨1, _⟩ => show win0_6.index t (1 : Fin 2) * 1024 + 1 * (y 1).val = (y 1).val; rw [(index6 t).2]; omega
theorem blk7 (t : Fin cfg0.N) : iblk m c 7 t = truncf (F := Ideal) .bf16 (m ((c : Thread nD τ).loc main_arg7) : FVec Ideal S512x1024 .f32) bitsLt_bf16_f32 := by
  refine Eq.trans (funext fun y => congrArg (V m c (Pipeline.arrRef spec0 7)) (funext fun a => Fin.ext ?_)) (V_7 m c)
  match a with
  | ⟨0, _⟩ => show win0_7.index t (0 : Fin 2) * 512 + 1 * (y 0).val = (y 0).val; rw [(index7 t).1]; omega
  | ⟨1, _⟩ => show win0_7.index t (1 : Fin 2) * 1024 + 1 * (y 1).val = (y 1).val; rw [(index7 t).2]; omega
theorem blk8 (t : Fin cfg0.N) : iblk m c 8 t = truncf (F := Ideal) .bf16 (m ((c : Thread nD τ).loc main_arg8) : FVec Ideal S1024x1024 .f32) bitsLt_bf16_f32 := by
  refine Eq.trans (funext fun y => congrArg (V m c (Pipeline.arrRef spec0 8)) (funext fun a => Fin.ext ?_)) (V_8 m c)
  match a with
  | ⟨0, _⟩ => show win0_8.index t (0 : Fin 2) * 1024 + 1 * (y 0).val = (y 0).val; rw [(index8 t).1]; omega
  | ⟨1, _⟩ => show win0_8.index t (1 : Fin 2) * 1024 + 1 * (y 1).val = (y 1).val; rw [(index8 t).2]; omega
theorem blk9 (t : Fin cfg0.N) : iblk m c 9 t = shapeCast S1x1024 (m ((c : Thread nD τ).loc main_arg9) : FVec Ideal S1024 .f32) shapeCasts_S1024_S1x1024 := by
  refine Eq.trans (funext fun y => congrArg (V m c (Pipeline.arrRef spec0 9)) (funext fun a => Fin.ext ?_)) (V_9 m c)
  match a with
  | ⟨0, _⟩ => show win0_9.index t (0 : Fin 2) * 1 + 1 * (y 0).val = (y 0).val; rw [(index9 t).1]; omega
  | ⟨1, _⟩ => show win0_9.index t (1 : Fin 2) * 1024 + 1 * (y 1).val = (y 1).val; rw [(index9 t).2]; omega
theorem blk10 (t : Fin cfg0.N) : iblk m c 10 t = shapeCast S1x1024 (m ((c : Thread nD τ).loc main_arg10) : FVec Ideal S1024 .f32) shapeCasts_S1024_S1x1024 := by
  refine Eq.trans (funext fun y => congrArg (V m c (Pipeline.arrRef spec0 10)) (funext fun a => Fin.ext ?_)) (V_10 m c)
  match a with
  | ⟨0, _⟩ => show win0_10.index t (0 : Fin 2) * 1 + 1 * (y 0).val = (y 0).val; rw [(index10 t).1]; omega
  | ⟨1, _⟩ => show win0_10.index t (1 : Fin 2) * 1024 + 1 * (y 1).val = (y 1).val; rw [(index10 t).2]; omega

/-- The first output array. -/
def wanted : S32768x1024.Idx → EReal := fun i =>
  token (fun k => (m ((c : Thread nD τ).loc main_arg0) : FVec Ideal S32768x1024 .f32) (ix2 (i 0) k))
    (fun k => (m ((c : Thread nD τ).loc main_arg1) : FVec Ideal S32768x512 .bf16) (ix2 (i 0) k))
    (fun k => (m ((c : Thread nD τ).loc main_arg2) : FVec Ideal S32768x512 .bf16) (ix2 (i 0) k))
    (fun k => (m ((c : Thread nD τ).loc main_arg3) : FVec Ideal S32768x512 .bf16) (ix2 (i 0) k))
    (fun k d => (m ((c : Thread nD τ).loc main_arg4) : FVec Ideal S1024x6612 .f32) (ix2 k (⟨3540 + d.val, by omega⟩ : Fin 6612)))
    (fun k d => (m ((c : Thread nD τ).loc main_arg4) : FVec Ideal S1024x6612 .f32) (ix2 k (⟨4564 + d.val, by omega⟩ : Fin 6612)))
    (fun k d => (m ((c : Thread nD τ).loc main_arg4) : FVec Ideal S1024x6612 .f32) (ix2 k (⟨5588 + d.val, by omega⟩ : Fin 6612)))
    (fun k d => (m ((c : Thread nD τ).loc main_arg5) : FVec Ideal S512x1024 .f32) (ix2 k d))
    (fun k d => (m ((c : Thread nD τ).loc main_arg6) : FVec Ideal S512x1024 .f32) (ix2 k d))
    (fun k d => (m ((c : Thread nD τ).loc main_arg7) : FVec Ideal S512x1024 .f32) (ix2 k d))
    (fun k d => (m ((c : Thread nD τ).loc main_arg8) : FVec Ideal S1024x1024 .f32) (ix2 k d))
    (fun d => (m ((c : Thread nD τ).loc main_arg9) : FVec Ideal S1024 .f32) (ix1 d))
    (fun d => (m ((c : Thread nD τ).loc main_arg10) : FVec Ideal S1024 .f32) (ix1 d)) (i 1)

/-- What a point leaves in its block. -/
theorem after_apply (t : Fin cfg0.N) (r d : Fin 1024) (l : Fin 32768) (hl : l.val = t.val * 1024 + r.val) :
    ((dats m 0 c).after 14 t (ix2 r d) : EReal) = wanted m c (ix2 l d) := by
  refine (congrFun (after0_14 m c t) (ix2 r d)).trans ((out_apply _ _ _ _ _ _ _ _ _ _ _ _ _ _ r d).trans ?_)
  have h0 := funext fun k => blk0 m c t r k l hl
  have h1 := funext fun k => blk1 m c t r k l hl
  have h2 := funext fun k => blk2 m c t r k l hl
  have h3 := funext fun k => blk3 m c t r k l hl
  have g0 := funext fun k => funext fun d => (congrFun (blk4 m c t) _).trans (gateWeights_apply_0 (m ((c : Thread nD τ).loc main_arg4)) k d)
  have g1 := funext fun k => funext fun d => (congrFun (blk4 m c t) _).trans (gateWeights_apply_1 (m ((c : Thread nD τ).loc main_arg4)) k d)
  have g2 := funext fun k => funext fun d => (congrFun (blk4 m c t) _).trans (gateWeights_apply_2 (m ((c : Thread nD τ).loc main_arg4)) k d)
  have h9 := funext fun d => (congrFun (blk9 m c t) _).trans (rowOf_apply (m ((c : Thread nD τ).loc main_arg9)) d)
  have h10 := funext fun d => (congrFun (blk10 m c t) _).trans (rowOf_apply (m ((c : Thread nD τ).loc main_arg10)) d)
  unfold wanted
  rw [h0, h1, h2, h3, g0, g1, g2, h9, h10, blk5, blk6, blk7, blk8]
  rfl

/-- Where a point's block sits in the output array. -/
theorem emb_14 (t : Fin cfg0.N) (y : S1024x1024.Idx) (l : Fin 32768) (hl : l.val = t.val * 1024 + (y 0).val) :
    (((cfg0.win 14).blk t).view.emb y : S32768x1024.Idx) = ix2 l (y 1) := by
  refine funext fun a => Fin.ext ?_
  match a with
  | ⟨0, _⟩ => show win0_14.index t (0 : Fin 2) * 1024 + 1 * (y 0).val = l.val; rw [(index14 t).1]; omega
  | ⟨1, _⟩ => show win0_14.index t (1 : Fin 2) * 1024 + 1 * (y 1).val = (y 1).val; rw [(index14 t).2]; omega

theorem block_eq (t : Fin cfg0.N) (y : S1024x1024.Idx) :
    ((dats m 0 c).after 14 t y : EReal) = wanted m c (((cfg0.win 14).blk t).view.emb y) := by
  have h0 : (y 0).val < 1024 := (y 0).isLt
  have ht : t.val < 32 := lt_of_lt_of_eq t.isLt N_0
  refine Eq.trans ?_ (congrArg (wanted m c) (emb_14 t y ⟨t.val * 1024 + (y 0).val, by omega⟩ rfl)).symm
  refine Eq.trans ?_ (after_apply m c t (y 0) (y 1) _ rfl)
  exact congrArg ((dats m 0 c).after 14 t) (eq_ix2 y)

theorem covered (i : S32768x1024.Idx) : ∃ t : Fin cfg0.N, ∃ y : S1024x1024.Idx, (((cfg0.win 14).blk t).view.emb y : S32768x1024.Idx) = i := by
  have hi : (i 0).val < 32768 := (i 0).isLt
  refine ⟨⟨(i 0).val / 1024, lt_of_lt_of_eq (by omega) N_0.symm⟩, ix2 (⟨(i 0).val % 1024, Nat.mod_lt _ (by omega)⟩ : Fin 1024) (i 1), ?_⟩
  refine (emb_14 _ _ (i 0) ?_).trans (eq_ix2 i).symm
  show (i 0).val = (i 0).val / 1024 * 1024 + (i 0).val % 1024
  omega

/-- The first output array after the call. -/
theorem array_eq : (dats m 0 c).arrAt 14 cfg0.N = wanted m c := by
  refine (dats m 0 c).arrAt_eq_of_emb 14 _ (fun t _ y => block_eq m c t y) fun i => ?_
  obtain ⟨t, y, rfl⟩ := covered i
  exact ⟨t, flush0_14 t, View.emb_mem_set _ y⟩

end Cert.Kernel3Ideal.Merge

end
-- ==== Proof.MergeRef.lean ====
/- The gated merge's reference, read at a row and a channel. -/
module

public import proofs.«01_k».proof.Proof.Gen.Reference3Ideal.Run
public import proofs.«01_k».proof.Proof.MergeModel
public import Idealize.ShloMosaic.Lib.Pointwise

@[expose] public section

set_option maxRecDepth 16384

noncomputable section

namespace Cert.Reference3Ideal.MergeRef

open Idealize.ShloMosaic Idealize.ShloMosaic.TcCoe Idealize.SL.Sem Cert.Reference3Ideal Cert.Reference3Ideal.Gen Cert.MergeModel

/-- A number at every row and channel. -/
def full (w : BitVec 32) : FVec Ideal S32768x1024 .f32 := broadcastInDim S32768x1024 ![] bcast_S_S32768x1024 (constant S_ .f32 w)
/-- A number at every row. -/
def column (w : BitVec 32) : FVec Ideal S32768x1 .f32 := broadcastInDim S32768x1 ![] bcast_S_S32768x1 (constant S_ .f32 w)

/-- The stream through all the input weights. -/
def proj (x : FVec Ideal S32768x1024 .f32) (w : FVec Ideal S1024x6612 .f32) : FVec Ideal S32768x6612 .f32 :=
  Host.dotGeneral dot_S32768x1024_S1024x6612_S32768x6612_1_0_0_1_n_n none x w

/-- One gated branch. -/
def gated (g : FVec Ideal S32768x1024 .f32) (y : FVec Ideal S32768x512 .bf16) (w : FVec Ideal S512x1024 .f32) : FVec Ideal S32768x1024 .f32 :=
  mulf (Host.divf (full 0x3F800000#32) (addf (full 0x3F800000#32) (Host.exp (Host.negf g))))
    (Host.dotGeneral dot_S32768x512_S512x1024_S32768x1024_1_0_0_1_n_n none (extf .f32 y bitsLt_bf16_f32) w)

/-- The three gated branches added up. -/
def merged (x : FVec Ideal S32768x1024 .f32) (y1 y2 y3 : FVec Ideal S32768x512 .bf16) (w : FVec Ideal S1024x6612 .f32)
    (w1 w2 w3 : FVec Ideal S512x1024 .f32) : FVec Ideal S32768x1024 .f32 :=
  addf (addf (gated (extractStridedSlice S32768x1024 ![0, 3540] (proj x w) slices_S32768x6612_S32768x1024_0_3540) y1 w1)
      (gated (extractStridedSlice S32768x1024 ![0, 4564] (proj x w) slices_S32768x6612_S32768x1024_0_4564) y2 w2))
    (gated (extractStridedSlice S32768x1024 ![0, 5588] (proj x w) slices_S32768x6612_S32768x1024_0_5588) y3 w3)

/-- The scaled stream plus the projected merge. -/
def summed (x u : FVec Ideal S32768x1024 .f32) (wo : FVec Ideal S1024x1024 .f32) : FVec Ideal S32768x1024 .f32 :=
  addf (mulf (full 0x3FB504F3#32) x) (Host.dotGeneral dot_S32768x1024_S1024x1024_S32768x1024_1_0_0_1_n_n none u wo)

/-- Each row's mean. -/
def rowMean (x : FVec Ideal S32768x1024 .f32) : FVec Ideal S32768x1 .f32 :=
  Host.divf (broadcastInDim S32768x1 ![0] bcast_S32768_S32768x1_0
    (Host.reduceAdd x (constant S_ .f32 0x00000000#32) reducesTo_S32768x1024_S32768_d1 h_S_)) (column 0x44800000#32)

/-- Each row less its mean. -/
def centred (x : FVec Ideal S32768x1024 .f32) : FVec Ideal S32768x1024 .f32 :=
  subf x (broadcastInDim S32768x1024 ![0, 1] bcast_S32768x1_S32768x1024_0_1 (rowMean x))

/-- Each row scaled, then a row weight and a row offset applied. -/
def scaled (x : FVec Ideal S32768x1024 .f32) (v : FVec Ideal S32768x1 .f32) (g b : FVec Ideal S1024 .f32) : FVec Ideal S32768x1024 .f32 :=
  addf (mulf (mulf x (broadcastInDim S32768x1024 ![0, 1] bcast_S32768x1_S32768x1024_0_1 (Host.rsqrt (addf v (column 0x3727C5AC#32)))))
      (broadcastInDim S32768x1024 ![0, 1] bcast_S1x1024_S32768x1024_0_1 (broadcastInDim S1x1024 ![1] bcast_S1024_S1x1024_1 g)))
    (broadcastInDim S32768x1024 ![0, 1] bcast_S1x1024_S32768x1024_0_1 (broadcastInDim S1x1024 ![1] bcast_S1024_S1x1024_1 b))

/-- The layer norm. -/
def normed (x : FVec Ideal S32768x1024 .f32) (g b : FVec Ideal S1024 .f32) : FVec Ideal S32768x1024 .f32 :=
  scaled (centred x) (rowMean (mulf (centred x) (centred x))) g b

/-- The whole reference. -/
def whole (x : FVec Ideal S32768x1024 .f32) (y1 y2 y3 : FVec Ideal S32768x512 .bf16) (w : FVec Ideal S1024x6612 .f32)
    (w1 w2 w3 : FVec Ideal S512x1024 .f32) (wo : FVec Ideal S1024x1024 .f32) (g b : FVec Ideal S1024 .f32) : FVec Ideal S32768x1024 .f32 :=
  normed (summed x (merged x y1 y2 y3 w w1 w2 w3) wo) g b

theorem result_eq (m : (ℓ : Loc nD τ sig) → Buf (Elt Ideal) ℓ) (c : Dev nD) :
    Value.res_out0 m c = whole (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) := rfl

theorem proj_apply (x : FVec Ideal S32768x1024 .f32) (w : FVec Ideal S1024x6612 .f32) (l : Fin 32768) (j : Fin 6612) :
    (proj x w (ix2 l j) : EReal) = ∑ k : Fin 1024, (x (ix2 l k) : EReal) * w (ix2 k j) := by
  pointwise [proj]

theorem gated_apply (g : FVec Ideal S32768x1024 .f32) (y : FVec Ideal S32768x512 .bf16) (w : FVec Ideal S512x1024 .f32) (l : Fin 32768) (d : Fin 1024) :
    (gated g y w (ix2 l d) : EReal) = gate (g (ix2 l d)) * ∑ k : Fin 512, (y (ix2 l k) : EReal) * w (ix2 k d) := by
  pointwise [gated, full]
  rfl

theorem merged_apply (x : FVec Ideal S32768x1024 .f32) (y1 y2 y3 : FVec Ideal S32768x512 .bf16) (w : FVec Ideal S1024x6612 .f32)
    (w1 w2 w3 : FVec Ideal S512x1024 .f32) (l : Fin 32768) (d : Fin 1024) :
    (merged x y1 y2 y3 w w1 w2 w3 (ix2 l d) : EReal) =
      branch (fun k => x (ix2 l k)) (fun k d => w (ix2 k (⟨3540 + d.val, by omega⟩ : Fin 6612))) (fun k => y1 (ix2 l k)) (fun k d => w1 (ix2 k d)) d
      + branch (fun k => x (ix2 l k)) (fun k d => w (ix2 k (⟨4564 + d.val, by omega⟩ : Fin 6612))) (fun k => y2 (ix2 l k)) (fun k d => w2 (ix2 k d)) d
      + branch (fun k => x (ix2 l k)) (fun k d => w (ix2 k (⟨5588 + d.val, by omega⟩ : Fin 6612))) (fun k => y3 (ix2 l k)) (fun k d => w3 (ix2 k d)) d := by
  have hs : ∀ (o : ℕ) (h : S32768x6612.Slices ![0, o] S32768x1024) (ho : o + 1024 ≤ 6612),
      (extractStridedSlice S32768x1024 ![0, o] (proj x w) h (ix2 l d) : EReal)
        = ∑ k : Fin 1024, (x (ix2 l k) : EReal) * w (ix2 k (⟨o + d.val, by omega⟩ : Fin 6612)) := fun o h ho => by
    refine Eq.trans (congrArg (proj x w) (funext fun a => ?_)) (proj_apply x w l ⟨o + d.val, by omega⟩)
    match a with
    | ⟨0, _⟩ => exact Fin.ext (Nat.zero_add l.val)
    | ⟨1, _⟩ => rfl
  refine congrArg₂ (· + · : EReal → EReal → EReal) (congrArg₂ (· + · : EReal → EReal → EReal) ?_ ?_) ?_
  all_goals
    refine (gated_apply _ _ _ l d).trans ?_
    rw [hs _ _ (by omega)]
    rfl

theorem summed_apply (x u : FVec Ideal S32768x1024 .f32) (wo : FVec Ideal S1024x1024 .f32) (l : Fin 32768) (d : Fin 1024) :
    (summed x u wo (ix2 l d) : EReal) = residual (fun k => x (ix2 l k)) (fun k => u (ix2 l k)) (fun k d => wo (ix2 k d)) d := by
  pointwise [summed, full]
  rfl

theorem rowMean_apply (x : FVec Ideal S32768x1024 .f32) (l : Fin 32768) :
    (rowMean x (ix2 l (0 : Fin 1)) : EReal) = mean (fun k => x (ix2 l k)) := by
  pointwise [rowMean, column]
  rfl

theorem centred_apply (x : FVec Ideal S32768x1024 .f32) (l : Fin 32768) (d : Fin 1024) :
    (centred x (ix2 l d) : EReal) = x (ix2 l d) - mean (fun k => x (ix2 l k)) := by
  pointwise [centred, rowMean, column]
  rfl

theorem scaled_apply (x : FVec Ideal S32768x1024 .f32) (v : FVec Ideal S32768x1 .f32) (g b : FVec Ideal S1024 .f32) (l : Fin 32768) (d : Fin 1024) :
    (scaled x v g b (ix2 l d) : EReal)
      = x (ix2 l d) * Ideal.rsqrt (v (ix2 l (0 : Fin 1)) + Ideal.ofBits .f32 925353388#32) * g (ix1 d) + b (ix1 d) := by
  pointwise [scaled, column]

theorem normed_apply (x : FVec Ideal S32768x1024 .f32) (g b : FVec Ideal S1024 .f32) (l : Fin 32768) (d : Fin 1024) :
    (normed x g b (ix2 l d) : EReal) = rowNorm (fun k => x (ix2 l k)) (fun d => g (ix1 d)) (fun d => b (ix1 d)) d := by
  unfold normed rowNorm
  rw [scaled_apply, rowMean_apply, centred_apply]
  have h : (fun k => (mulf (centred x) (centred x) (ix2 l k) : EReal))
      = fun k => (x (ix2 l k) - mean (fun k => x (ix2 l k))) * (x (ix2 l k) - mean (fun k => x (ix2 l k))) :=
    funext fun k => congrArg₂ (· * · : EReal → EReal → EReal) (centred_apply x l k) (centred_apply x l k)
  rw [h]

/-- The reference's result at a row and a channel. -/
theorem whole_apply (x : FVec Ideal S32768x1024 .f32) (y1 y2 y3 : FVec Ideal S32768x512 .bf16) (w : FVec Ideal S1024x6612 .f32)
    (w1 w2 w3 : FVec Ideal S512x1024 .f32) (wo : FVec Ideal S1024x1024 .f32) (g b : FVec Ideal S1024 .f32) (l : Fin 32768) (d : Fin 1024) :
    (whole x y1 y2 y3 w w1 w2 w3 wo g b (ix2 l d) : EReal)
      = token (fun k => x (ix2 l k)) (fun k => y1 (ix2 l k)) (fun k => y2 (ix2 l k)) (fun k => y3 (ix2 l k))
        (fun k d => w (ix2 k (⟨3540 + d.val, by omega⟩ : Fin 6612))) (fun k d => w (ix2 k (⟨4564 + d.val, by omega⟩ : Fin 6612)))
        (fun k d => w (ix2 k (⟨5588 + d.val, by omega⟩ : Fin 6612)))
        (fun k d => w1 (ix2 k d)) (fun k d => w2 (ix2 k d)) (fun k d => w3 (ix2 k d)) (fun k d => wo (ix2 k d))
        (fun d => g (ix1 d)) (fun d => b (ix1 d)) d := by
  refine (normed_apply _ g b l d).trans ?_
  unfold token
  refine congrArg (fun z => rowNorm z _ _ d) (funext fun k => (summed_apply _ _ _ l k).trans ?_)
  exact congrArg (fun z => residual _ z _ k) (funext fun j => merged_apply _ _ _ _ _ _ _ _ l j)

end Cert.Reference3Ideal.MergeRef

end
-- ==== Proof.MergeResult.lean ====
/- The gated merge: the kernel's first output array is the reference's result. -/
module

public import proofs.«01_k».proof.Proof.MergeArray
public import proofs.«01_k».proof.Proof.MergeRef

@[expose] public section

noncomputable section

namespace Cert.MergeResult

open Idealize.ShloMosaic Idealize.ShloMosaic.TcCoe Idealize.SL.Sem

/-- The kernel's array and the reference's result, from equal arguments. -/
theorem agree (m : (ℓ : Loc Cert.Kernel3Ideal.nD Cert.Kernel3Ideal.τ Cert.Kernel3Ideal.sig) → Buf (Elt Ideal) ℓ) (c : Dev Cert.Kernel3Ideal.nD) :
    (Cert.Kernel3Ideal.Gen.dats m 0 c).arrAt 14 Cert.Kernel3Ideal.cfg0.N
      = Cert.Reference3Ideal.MergeRef.whole (m ((c : Thread Cert.Kernel3Ideal.nD Cert.Kernel3Ideal.τ).loc Cert.Kernel3Ideal.main_arg0))
          (m ((c : Thread Cert.Kernel3Ideal.nD Cert.Kernel3Ideal.τ).loc Cert.Kernel3Ideal.main_arg1))
          (m ((c : Thread Cert.Kernel3Ideal.nD Cert.Kernel3Ideal.τ).loc Cert.Kernel3Ideal.main_arg2))
          (m ((c : Thread Cert.Kernel3Ideal.nD Cert.Kernel3Ideal.τ).loc Cert.Kernel3Ideal.main_arg3))
          (m ((c : Thread Cert.Kernel3Ideal.nD Cert.Kernel3Ideal.τ).loc Cert.Kernel3Ideal.main_arg4))
          (m ((c : Thread Cert.Kernel3Ideal.nD Cert.Kernel3Ideal.τ).loc Cert.Kernel3Ideal.main_arg5))
          (m ((c : Thread Cert.Kernel3Ideal.nD Cert.Kernel3Ideal.τ).loc Cert.Kernel3Ideal.main_arg6))
          (m ((c : Thread Cert.Kernel3Ideal.nD Cert.Kernel3Ideal.τ).loc Cert.Kernel3Ideal.main_arg7))
          (m ((c : Thread Cert.Kernel3Ideal.nD Cert.Kernel3Ideal.τ).loc Cert.Kernel3Ideal.main_arg8))
          (m ((c : Thread Cert.Kernel3Ideal.nD Cert.Kernel3Ideal.τ).loc Cert.Kernel3Ideal.main_arg9))
          (m ((c : Thread Cert.Kernel3Ideal.nD Cert.Kernel3Ideal.τ).loc Cert.Kernel3Ideal.main_arg10)) := by
  refine (Cert.Kernel3Ideal.Merge.array_eq m c).trans (funext fun i => ?_)
  refine Eq.trans ?_ (congrArg _ (eq_ix2 i).symm)
  exact (Cert.Reference3Ideal.MergeRef.whole_apply _ _ _ _ _ _ _ _ _ _ _ (i 0) (i 1)).symm

end Cert.MergeResult

end
-- ==== Proof.GmlpModel.lean ====
/- The chunked spatial gating over the extended reals: the projected activation, the layer norm of its second half, and the
   causal mix over a chunk's positions that gates its first half. -/
module

public import Idealize.ShloMosaic.PureOps.Ideal

@[expose] public section

noncomputable section

namespace Cert.GmlpModel

open Idealize.ShloMosaic

/-- The activation: the hyperbolic-tangent form of the Gaussian error unit, with the constants' words. -/
def gelu (z : EReal) : EReal :=
  z * (Ideal.ofBits .f32 1056964608#32 * (1 + Ideal.tanh (Ideal.ofBits .f32 1061962282#32 * (z + Ideal.ofBits .f32 1027024659#32 * (z * z * z)))))

/-- A token's activation at a channel. -/
def act (x : Fin 1024 → EReal) (w : Fin 1024 → Fin 1024 → EReal) (j : Fin 1024) : EReal := gelu (∑ k, x k * w k j)

/-- The mean over the channels. -/
def mean (x : Fin 512 → EReal) : EReal := Ideal.div (∑ k, x k) (Ideal.ofBits .f32 1140850688#32)

/-- The layer norm. -/
def rowNorm (x g b : Fin 512 → EReal) (j : Fin 512) : EReal :=
  (x j - mean x) * Ideal.rsqrt (mean (fun k => (x k - mean x) * (x k - mean x)) + Ideal.ofBits .f32 925353388#32) * g j + b j

/-- A token's normalised second half. -/
def value (x : Fin 1024 → EReal) (w : Fin 1024 → Fin 1024 → EReal) (g b : Fin 512 → EReal) : Fin 512 → EReal :=
  rowNorm (fun j => act x w (⟨512 + j.val, by omega⟩ : Fin 1024)) g b

/-- The causal mix of a chunk's values `v` with the weights `ws` of a position `t`, plus its offset. -/
def mix (ws : Fin 128 → EReal) (bs : EReal) (v : Fin 128 → EReal) (t : Fin 128) : EReal := (∑ s, (if s ≤ t then ws s else 0) * v s) + bs

/-- The result at position `t` of a chunk `x` of tokens and channel `j`. -/
def spatial (x : Fin 128 → Fin 1024 → EReal) (w : Fin 1024 → Fin 1024 → EReal) (g b : Fin 512 → EReal) (ws : Fin 128 → EReal) (bs : EReal)
    (t : Fin 128) (j : Fin 512) : EReal :=
  act (x t) w (⟨j.val, by omega⟩ : Fin 1024) * mix ws bs (fun s => value (x s) w g b j) t

end Cert.GmlpModel

end
-- ==== Proof.GmlpPoint.lean ====
/- One block of the chunked spatial gating over the extended reals: the kernel's payloads read at a row and a channel. -/
module

public import proofs.«01_k».proof.Proof.Gen.Kernel4Ideal.Frame
public import proofs.«01_k».proof.Proof.GmlpModel
public import Idealize.ShloMosaic.Lib.Pointwise
public import Idealize.ShloMosaic.Lib.WordCmp
public import Idealize.ShloMosaic.Lib.Pipeline.ValueKit

@[expose] public section

set_option maxRecDepth 16384

noncomputable section

namespace Cert.Kernel4Ideal.Gmlp

open Idealize.ShloMosaic Idealize.ShloMosaic.TcCoe Cert.Kernel4Ideal Cert.Kernel4Ideal.Gen Cert.GmlpModel

section Ops

variable {F : FTy → Type} [FloatOps F]

/-- Each row's mean. -/
def rowMean (x : FVec F S512x512 .f32) : FVec F S512x1 .f32 :=
  divf (shapeCast S512x1 (multiReduction .add [1] S512 x 0x00000000#32 reduces_S512x512_S512 (.inl rfl) rfl) shapeCasts_S512_S512x1)
    (broadcast S512x1 (Scalar.ofBits .f32 0x44000000#32))

/-- Each row less its mean. -/
def centred (x : FVec F S512x512 .f32) : FVec F S512x512 .f32 :=
  subf x (broadcastTo S512x512 (rowMean x) broadcasts_S512x1_S512x512)

/-- The second half of the activations. -/
def second (x0 : Vec F S512x1024 .f32) (x1 : Vec F S1024x1024 .bf16) : FVec F S512x512 .f32 :=
  extractStridedSlice S512x512 ![0, 512] (k0_pay3 x0 x1) slices_S512x1024_o0_512_S512x512

/-- Each row scaled by a function of a row's number. -/
def scaled (x : FVec F S512x512 .f32) (v : FVec F S512x1 .f32) : FVec F S512x512 .f32 :=
  mulf x (broadcastTo S512x512 (rsqrt (addf v (broadcast S512x1 (Scalar.ofBits .f32 0x3727C5AC#32)))) broadcasts_S512x1_S512x512)

theorem pay7_eq (x0 : Vec F S512x1024 .f32) (x1 : Vec F S1024x1024 .bf16) :
    k0_pay7 x0 x1 = scaled (centred (second x0 x1)) (rowMean (mulf (centred (second x0 x1)) (centred (second x0 x1)))) := rfl

/-- One store of the body: a chunk's positions and a group's channels. -/
def piece (u : FVec F S512x512 .f32) (v : FVec F S512x512 .bf16) (b : FVec F S128x128 .f32) (w : Vec F S1x128x128 .f32) (o o' : Fin 2 → ℕ)
    (h : S512x512.Slices o S128x128) (h' : S128x128.Slices o' S128x1) : FVec F S128x128 .bf16 :=
  truncf .bf16 (mulf (extractStridedSlice S128x128 o u h)
    (addf (matmul dot_S128x128_S128x128_S128x128_1_0_0_1_n_n none (k0_pay10 w) (extractStridedSlice S128x128 o v h) (constant S128x128 .f32 0x00000000#32))
      (broadcastTo S128x128 (extractStridedSlice S128x1 o' b h') broadcasts_S128x1_S128x128))) bitsLt_bf16_f32

/-- The stores of the body, the last first. -/
def pieces (u : FVec F S512x512 .f32) (v : FVec F S512x512 .bf16) (b : FVec F S128x128 .f32) (x4 : Vec F S4x128x128 .f32) :
    List (View.Piece (Elt F) S512x512 .bf16) :=
  [⟨r0_23, piece u v b (View.ld x4 r0_19) ![384, 384] ![0, 3] slices_S512x512_o384_384_S128x128 slices_S128x128_o0_3_S128x1⟩,
    ⟨r0_22, piece u v b (View.ld x4 r0_19) ![256, 384] ![0, 3] slices_S512x512_o256_384_S128x128 slices_S128x128_o0_3_S128x1⟩,
    ⟨r0_21, piece u v b (View.ld x4 r0_19) ![128, 384] ![0, 3] slices_S512x512_o128_384_S128x128 slices_S128x128_o0_3_S128x1⟩,
    ⟨r0_20, piece u v b (View.ld x4 r0_19) ![0, 384] ![0, 3] slices_S512x512_o0_384_S128x128 slices_S128x128_o0_3_S128x1⟩,
    ⟨r0_18, piece u v b (View.ld x4 r0_14) ![384, 256] ![0, 2] slices_S512x512_o384_256_S128x128 slices_S128x128_o0_2_S128x1⟩,
    ⟨r0_17, piece u v b (View.ld x4 r0_14) ![256, 256] ![0, 2] slices_S512x512_o256_256_S128x128 slices_S128x128_o0_2_S128x1⟩,
    ⟨r0_16, piece u v b (View.ld x4 r0_14) ![128, 256] ![0, 2] slices_S512x512_o128_256_S128x128 slices_S128x128_o0_2_S128x1⟩,
    ⟨r0_15, piece u v b (View.ld x4 r0_14) ![0, 256] ![0, 2] slices_S512x512_o0_256_S128x128 slices_S128x128_o0_2_S128x1⟩,
    ⟨r0_13, piece u v b (View.ld x4 r0_9) ![384, 128] ![0, 1] slices_S512x512_o384_128_S128x128 slices_S128x128_o0_1_S128x1⟩,
    ⟨r0_12, piece u v b (View.ld x4 r0_9) ![256, 128] ![0, 1] slices_S512x512_o256_128_S128x128 slices_S128x128_o0_1_S128x1⟩,
    ⟨r0_11, piece u v b (View.ld x4 r0_9) ![128, 128] ![0, 1] slices_S512x512_o128_128_S128x128 slices_S128x128_o0_1_S128x1⟩,
    ⟨r0_10, piece u v b (View.ld x4 r0_9) ![0, 128] ![0, 1] slices_S512x512_o0_128_S128x128 slices_S128x128_o0_1_S128x1⟩,
    ⟨r0_8, piece u v b (View.ld x4 r0_4) ![384, 0] ![0, 0] slices_S512x512_o384_0_S128x128 slices_S128x128_o0_0_S128x1⟩,
    ⟨r0_7, piece u v b (View.ld x4 r0_4) ![256, 0] ![0, 0] slices_S512x512_o256_0_S128x128 slices_S128x128_o0_0_S128x1⟩,
    ⟨r0_6, piece u v b (View.ld x4 r0_4) ![128, 0] ![0, 0] slices_S512x512_o128_0_S128x128 slices_S128x128_o0_0_S128x1⟩,
    ⟨r0_5, piece u v b (View.ld x4 r0_4) ![0, 0] ![0, 0] slices_S512x512_o0_0_S128x128 slices_S128x128_o0_0_S128x1⟩]

theorem zeros : (![0, 0] : Fin 2 → ℕ) = fun _ => 0 := by
  funext a
  match a with
  | ⟨0, _⟩ => rfl
  | ⟨1, _⟩ => rfl

/-- What the body leaves in the block of the result. -/
theorem out_eq (x0 : Vec F S512x1024 .f32) (x1 : Vec F S1024x1024 .bf16) (x2 x3 : Vec F S1x512 .f32) (x4 : Vec F S4x128x128 .f32) (x5 : Vec F S128x128 .f32) :
    out0_6 x0 x1 x2 x3 x4 x5 = View.canon (pieces (k0_pay4 x0 x1) (k0_pay8 (k0_pay5 x2) (k0_pay6 x3) (k0_pay7 x0 x1)) (k0_pay9 x5) x4) := by
  have h : out0_6 x0 x1 x2 x3 x4 x5 = View.canon (pieces (k0_pay4 (View.ld x0 r0_0) (View.ld x1 r0_1))
      (k0_pay8 (k0_pay5 (View.ld x2 r0_2)) (k0_pay6 (View.ld x3 r0_2)) (k0_pay7 (View.ld x0 r0_0) (View.ld x1 r0_1))) (k0_pay9 (View.ld x5 r0_3)) x4) := rfl
  rw [h, View.ld_unit_zero zeros _ x0, View.ld_unit_zero zeros _ x1, View.ld_unit_zero zeros _ x2, View.ld_unit_zero zeros _ x3,
    View.ld_unit_zero zeros _ x5]

end Ops

theorem pay3_apply (x0 : Vec Ideal S512x1024 .f32) (x1 : Vec Ideal S1024x1024 .bf16) (r : Fin 512) (j : Fin 1024) :
    (k0_pay3 x0 x1 (ix2 r j) : EReal) = act (fun k => x0 (ix2 r k)) (fun k j => x1 (ix2 k j)) j := by
  pointwise [k0_pay3]
  rfl

theorem pay4_apply (x0 : Vec Ideal S512x1024 .f32) (x1 : Vec Ideal S1024x1024 .bf16) (r j : Fin 512) :
    (k0_pay4 x0 x1 (ix2 r j) : EReal) = act (fun k => x0 (ix2 r k)) (fun k j => x1 (ix2 k j)) (⟨j.val, by omega⟩ : Fin 1024) := by
  refine Eq.trans (congrArg (k0_pay3 x0 x1) (funext fun a => ?_)) (pay3_apply x0 x1 r (⟨j.val, by omega⟩ : Fin 1024))
  match a with
  | ⟨0, _⟩ => exact Fin.ext (Nat.zero_add r.val)
  | ⟨1, _⟩ => exact Fin.ext (Nat.zero_add j.val)

theorem second_apply (x0 : Vec Ideal S512x1024 .f32) (x1 : Vec Ideal S1024x1024 .bf16) (r j : Fin 512) :
    (second x0 x1 (ix2 r j) : EReal) = act (fun k => x0 (ix2 r k)) (fun k j => x1 (ix2 k j)) (⟨512 + j.val, by omega⟩ : Fin 1024) := by
  refine Eq.trans (congrArg (k0_pay3 x0 x1) (funext fun a => ?_)) (pay3_apply x0 x1 r (⟨512 + j.val, by omega⟩ : Fin 1024))
  match a with
  | ⟨0, _⟩ => exact Fin.ext (Nat.zero_add r.val)
  | ⟨1, _⟩ => rfl

theorem centred_apply (x : FVec Ideal S512x512 .f32) (r j : Fin 512) :
    (centred x (ix2 r j) : EReal) = x (ix2 r j) - mean (fun k => x (ix2 r k)) := by
  pointwise [centred, rowMean]
  rfl

theorem rowMean_apply (x : FVec Ideal S512x512 .f32) (r : Fin 512) :
    (rowMean x (ix2 r (0 : Fin 1)) : EReal) = mean (fun k => x (ix2 r k)) := by
  pointwise [rowMean]
  rfl

theorem scaled_apply (x : FVec Ideal S512x512 .f32) (v : FVec Ideal S512x1 .f32) (r j : Fin 512) :
    (scaled x v (ix2 r j) : EReal) = x (ix2 r j) * Ideal.rsqrt (v (ix2 r (0 : Fin 1)) + Ideal.ofBits .f32 925353388#32) := by
  pointwise [scaled]

theorem pay8_apply (g b : Vec Ideal S1x512 .f32) (x : FVec Ideal S512x512 .f32) (r j : Fin 512) :
    (k0_pay8 (k0_pay5 g) (k0_pay6 b) x (ix2 r j) : EReal) = x (ix2 r j) * g (ix2 (0 : Fin 1) j) + b (ix2 (0 : Fin 1) j) := by
  pointwise [k0_pay8, k0_pay5, k0_pay6]

/-- The normalised second half of the activations. -/
theorem value_apply (x0 : Vec Ideal S512x1024 .f32) (x1 : Vec Ideal S1024x1024 .bf16) (g b : Vec Ideal S1x512 .f32) (r j : Fin 512) :
    (k0_pay8 (k0_pay5 g) (k0_pay6 b) (k0_pay7 x0 x1) (ix2 r j) : EReal)
      = value (fun k => x0 (ix2 r k)) (fun k j => x1 (ix2 k j)) (fun j => g (ix2 (0 : Fin 1) j)) (fun j => b (ix2 (0 : Fin 1) j)) j := by
  have h2 := funext fun j => second_apply x0 x1 r j
  have h : (fun k => (mulf (centred (second x0 x1)) (centred (second x0 x1)) (ix2 r k) : EReal))
      = fun k => (second x0 x1 (ix2 r k) - mean (fun k => second x0 x1 (ix2 r k))) * (second x0 x1 (ix2 r k) - mean (fun k => second x0 x1 (ix2 r k))) :=
    funext fun k => congrArg₂ (· * · : EReal → EReal → EReal) (centred_apply _ r k) (centred_apply _ r k)
  rw [pay8_apply, pay7_eq, scaled_apply, rowMean_apply, centred_apply, h]
  unfold value rowNorm
  rw [← h2]

theorem masked_apply (w : Vec Ideal S1x128x128 .f32) (t s : Fin 128) :
    (k0_pay10 w (ix2 t s) : EReal) = if s ≤ t then (w (ix3 (0 : Fin 1) t s) : EReal) else 0 := by
  have ht := t.isLt
  have hs := s.isLt
  have e : (k0_pay10 w (ix2 t s) : EReal)
      = Scalar.select (IntOp.cmpi .sge (BitVec.ofNat 32 t.val) (BitVec.ofNat 32 s.val)) (w (ix3 (0 : Fin 1) t s) : EReal) 0 := by
    pointwise [k0_pay10]
  rw [e, WordCmp.cmpi_sge_ofNat (by omega) (by omega)]
  by_cases h : s ≤ t
  · rw [if_pos h, decide_eq_true (show s.val ≤ t.val from h)]; rfl
  · rw [if_neg h, decide_eq_false (show ¬ s.val ≤ t.val from h)]; rfl

theorem ld0 (x4 : Vec Ideal S4x128x128 .f32) (t s : Fin 128) : (View.ld x4 r0_4 (ix3 (0 : Fin 1) t s) : EReal) = x4 (ix3 (0 : Fin 4) t s) :=
  congrArg x4 (funext fun a => match a with
    | ⟨0, _⟩ => rfl
    | ⟨1, _⟩ => Fin.ext (by show 0 + 1 * t.val = t.val; omega)
    | ⟨2, _⟩ => Fin.ext (by show 0 + 1 * s.val = s.val; omega))
theorem ld1 (x4 : Vec Ideal S4x128x128 .f32) (t s : Fin 128) : (View.ld x4 r0_9 (ix3 (0 : Fin 1) t s) : EReal) = x4 (ix3 (1 : Fin 4) t s) :=
  congrArg x4 (funext fun a => match a with
    | ⟨0, _⟩ => rfl
    | ⟨1, _⟩ => Fin.ext (by show 0 + 1 * t.val = t.val; omega)
    | ⟨2, _⟩ => Fin.ext (by show 0 + 1 * s.val = s.val; omega))
theorem ld2 (x4 : Vec Ideal S4x128x128 .f32) (t s : Fin 128) : (View.ld x4 r0_14 (ix3 (0 : Fin 1) t s) : EReal) = x4 (ix3 (2 : Fin 4) t s) :=
  congrArg x4 (funext fun a => match a with
    | ⟨0, _⟩ => rfl
    | ⟨1, _⟩ => Fin.ext (by show 0 + 1 * t.val = t.val; omega)
    | ⟨2, _⟩ => Fin.ext (by show 0 + 1 * s.val = s.val; omega))
theorem ld3 (x4 : Vec Ideal S4x128x128 .f32) (t s : Fin 128) : (View.ld x4 r0_19 (ix3 (0 : Fin 1) t s) : EReal) = x4 (ix3 (3 : Fin 4) t s) :=
  congrArg x4 (funext fun a => match a with
    | ⟨0, _⟩ => rfl
    | ⟨1, _⟩ => Fin.ext (by show 0 + 1 * t.val = t.val; omega)
    | ⟨2, _⟩ => Fin.ext (by show 0 + 1 * s.val = s.val; omega))

/-- What the stores hold at a row and a channel: the chunk is the row's, the group the channel's. -/
def gated (u : FVec Ideal S512x512 .f32) (v : FVec Ideal S512x512 .bf16) (b : FVec Ideal S128x128 .f32) (x4 : Vec Ideal S4x128x128 .f32) (y : S512x512.Idx) : EReal :=
  have h0 : (y 0).val < 512 := (y 0).isLt
  have h1 : (y 1).val < 512 := (y 1).isLt
  u y * mix (fun s => x4 (ix3 (⟨(y 1).val / 128, by omega⟩ : Fin 4) (⟨(y 0).val % 128, by omega⟩ : Fin 128) s))
    (b (ix2 (⟨(y 0).val % 128, by omega⟩ : Fin 128) (⟨(y 1).val / 128, by omega⟩ : Fin 128)))
    (fun s => v (ix2 (⟨128 * ((y 0).val / 128) + s.val, by omega⟩ : Fin 512) (y 1))) (⟨(y 0).val % 128, by omega⟩ : Fin 128)

theorem piece_apply (u : FVec Ideal S512x512 .f32) (v : FVec Ideal S512x512 .bf16) (b : FVec Ideal S128x128 .f32) (x4 : Vec Ideal S4x128x128 .f32)
    (w : Vec Ideal S1x128x128 .f32) (q g : Fin 4) (o o' : Fin 2 → ℕ) (h : S512x512.Slices o S128x128) (h' : S128x128.Slices o' S128x1)
    (e0 : o 0 = 128 * q.val) (e1 : o 1 = 128 * g.val) (f0 : o' 0 = 0) (f1 : o' 1 = g.val)
    (hw : ∀ t s : Fin 128, (w (ix3 (0 : Fin 1) t s) : EReal) = x4 (ix3 g t s)) (x : S128x128.Idx) (y : S512x512.Idx)
    (hy0 : (y 0).val = 128 * q.val + (x 0).val) (hy1 : (y 1).val = 128 * g.val + (x 1).val) :
    (piece u v b w o o' h h' x : EReal) = gated u v b x4 y := by
  have hx0 : (x 0).val < 128 := (x 0).isLt
  have hx1 : (x 1).val < 128 := (x 1).isLt
  have hd : (matmul dot_S128x128_S128x128_S128x128_1_0_0_1_n_n none (k0_pay10 w) (extractStridedSlice S128x128 o v h)
      (constant S128x128 .f32 0x00000000#32) (ix2 (x 0) (x 1)) : EReal)
      = ∑ s : Fin 128, (k0_pay10 w (ix2 (x 0) s) : EReal) * extractStridedSlice S128x128 o v h (ix2 s (x 1)) := by
    pointwise
  have hu : (extractStridedSlice S128x128 o u h x : EReal) = u y := congrArg u (funext fun a => match a with
    | ⟨0, _⟩ => Fin.ext (by show o 0 + (x 0).val = (y 0).val; omega)
    | ⟨1, _⟩ => Fin.ext (by show o 1 + (x 1).val = (y 1).val; omega))
  have t0 : (⟨(y 0).val % 128, Nat.mod_lt _ (by decide)⟩ : Fin 128) = x 0 := Fin.ext (by show (y 0).val % 128 = (x 0).val; omega)
  have hg : (⟨(y 1).val / 128, by omega⟩ : Fin 4) = g := Fin.ext (by show (y 1).val / 128 = g.val; omega)
  have hb : (broadcastTo S128x128 (extractStridedSlice S128x1 o' b h') broadcasts_S128x1_S128x128 (ix2 (x 0) (x 1)) : EReal)
      = b (ix2 (x 0) (⟨(y 1).val / 128, by omega⟩ : Fin 128)) := by
    have hb1 : (broadcastTo S128x128 (extractStridedSlice S128x1 o' b h') broadcasts_S128x1_S128x128 (ix2 (x 0) (x 1)) : EReal)
        = extractStridedSlice S128x1 o' b h' (ix2 (x 0) (0 : Fin 1)) := by
      generalize extractStridedSlice S128x1 o' b h' = z
      pointwise
    refine hb1.trans (congrArg b (funext fun a => match a with
      | ⟨0, _⟩ => Fin.ext (by show o' 0 + (x 0).val = (x 0).val; omega)
      | ⟨1, _⟩ => Fin.ext (by show o' 1 + 0 = (y 1).val / 128; omega)))
  have hv : ∀ s : Fin 128, (extractStridedSlice S128x128 o v h (ix2 s (x 1)) : EReal) = v (ix2 (⟨128 * ((y 0).val / 128) + s.val, by omega⟩ : Fin 512) (y 1)) :=
    fun s => congrArg v (funext fun a => match a with
      | ⟨0, _⟩ => Fin.ext (by show o 0 + s.val = 128 * ((y 0).val / 128) + s.val; omega)
      | ⟨1, _⟩ => Fin.ext (by show o 1 + (x 1).val = (y 1).val; omega))
  have hx : x = ix2 (x 0) (x 1) := eq_ix2 x
  refine congrArg₂ (· * · : EReal → EReal → EReal) hu ?_
  show _ = mix (fun s => x4 (ix3 ⟨(y 1).val / 128, _⟩ ⟨(y 0).val % 128, _⟩ s)) (b (ix2 ⟨(y 0).val % 128, _⟩ ⟨(y 1).val / 128, _⟩)) _ ⟨(y 0).val % 128, _⟩
  rw [t0, hg]
  unfold mix
  refine congrArg₂ (· + · : EReal → EReal → EReal) ?_ ((congrArg _ hx).trans hb)
  refine (congrArg _ hx).trans (hd.trans (Finset.sum_congr rfl fun s _ => ?_))
  exact congrArg₂ (· * · : EReal → EReal → EReal) ((masked_apply w (x 0) s).trans
    (congrArg (fun z : EReal => if s ≤ (x 0 : Fin 128) then z else 0) (hw (x 0) s))) (hv s)

/-- The stores at a row and a channel. -/
theorem pieces_apply (u : FVec Ideal S512x512 .f32) (v : FVec Ideal S512x512 .bf16) (b : FVec Ideal S128x128 .f32) (x4 : Vec Ideal S4x128x128 .f32) (y : S512x512.Idx) :
    (View.canon (pieces u v b x4) y : EReal) = gated u v b x4 y := by
  refine View.canon_apply_of_pieces (gated u v b x4) (pieces u v b x4) ?_ y (cover0_6 _ _ _ _ _ _ _ _ _ _ _ _ _ _ _ _ y)
  intro p hp x
  unfold pieces at hp
  simp only [List.mem_cons, List.not_mem_nil, or_false] at hp
  rcases hp with rfl | rfl | rfl | rfl | rfl | rfl | rfl | rfl | rfl | rfl | rfl | rfl | rfl | rfl | rfl | rfl
  · exact piece_apply u v b x4 (View.ld x4 r0_19) 3 3 ![384, 384] ![0, 3] _ _ rfl rfl rfl rfl (ld3 x4) x (r0_23.emb x) (by show 384 + 1 * (x 0).val = 128 * 3 + (x 0).val; omega) (by show 384 + 1 * (x 1).val = 128 * 3 + (x 1).val; omega)
  · exact piece_apply u v b x4 (View.ld x4 r0_19) 2 3 ![256, 384] ![0, 3] _ _ rfl rfl rfl rfl (ld3 x4) x (r0_22.emb x) (by show 256 + 1 * (x 0).val = 128 * 2 + (x 0).val; omega) (by show 384 + 1 * (x 1).val = 128 * 3 + (x 1).val; omega)
  · exact piece_apply u v b x4 (View.ld x4 r0_19) 1 3 ![128, 384] ![0, 3] _ _ rfl rfl rfl rfl (ld3 x4) x (r0_21.emb x) (by show 128 + 1 * (x 0).val = 128 * 1 + (x 0).val; omega) (by show 384 + 1 * (x 1).val = 128 * 3 + (x 1).val; omega)
  · exact piece_apply u v b x4 (View.ld x4 r0_19) 0 3 ![0, 384] ![0, 3] _ _ rfl rfl rfl rfl (ld3 x4) x (r0_20.emb x) (by show 0 + 1 * (x 0).val = 128 * 0 + (x 0).val; omega) (by show 384 + 1 * (x 1).val = 128 * 3 + (x 1).val; omega)
  · exact piece_apply u v b x4 (View.ld x4 r0_14) 3 2 ![384, 256] ![0, 2] _ _ rfl rfl rfl rfl (ld2 x4) x (r0_18.emb x) (by show 384 + 1 * (x 0).val = 128 * 3 + (x 0).val; omega) (by show 256 + 1 * (x 1).val = 128 * 2 + (x 1).val; omega)
  · exact piece_apply u v b x4 (View.ld x4 r0_14) 2 2 ![256, 256] ![0, 2] _ _ rfl rfl rfl rfl (ld2 x4) x (r0_17.emb x) (by show 256 + 1 * (x 0).val = 128 * 2 + (x 0).val; omega) (by show 256 + 1 * (x 1).val = 128 * 2 + (x 1).val; omega)
  · exact piece_apply u v b x4 (View.ld x4 r0_14) 1 2 ![128, 256] ![0, 2] _ _ rfl rfl rfl rfl (ld2 x4) x (r0_16.emb x) (by show 128 + 1 * (x 0).val = 128 * 1 + (x 0).val; omega) (by show 256 + 1 * (x 1).val = 128 * 2 + (x 1).val; omega)
  · exact piece_apply u v b x4 (View.ld x4 r0_14) 0 2 ![0, 256] ![0, 2] _ _ rfl rfl rfl rfl (ld2 x4) x (r0_15.emb x) (by show 0 + 1 * (x 0).val = 128 * 0 + (x 0).val; omega) (by show 256 + 1 * (x 1).val = 128 * 2 + (x 1).val; omega)
  · exact piece_apply u v b x4 (View.ld x4 r0_9) 3 1 ![384, 128] ![0, 1] _ _ rfl rfl rfl rfl (ld1 x4) x (r0_13.emb x) (by show 384 + 1 * (x 0).val = 128 * 3 + (x 0).val; omega) (by show 128 + 1 * (x 1).val = 128 * 1 + (x 1).val; omega)
  · exact piece_apply u v b x4 (View.ld x4 r0_9) 2 1 ![256, 128] ![0, 1] _ _ rfl rfl rfl rfl (ld1 x4) x (r0_12.emb x) (by show 256 + 1 * (x 0).val = 128 * 2 + (x 0).val; omega) (by show 128 + 1 * (x 1).val = 128 * 1 + (x 1).val; omega)
  · exact piece_apply u v b x4 (View.ld x4 r0_9) 1 1 ![128, 128] ![0, 1] _ _ rfl rfl rfl rfl (ld1 x4) x (r0_11.emb x) (by show 128 + 1 * (x 0).val = 128 * 1 + (x 0).val; omega) (by show 128 + 1 * (x 1).val = 128 * 1 + (x 1).val; omega)
  · exact piece_apply u v b x4 (View.ld x4 r0_9) 0 1 ![0, 128] ![0, 1] _ _ rfl rfl rfl rfl (ld1 x4) x (r0_10.emb x) (by show 0 + 1 * (x 0).val = 128 * 0 + (x 0).val; omega) (by show 128 + 1 * (x 1).val = 128 * 1 + (x 1).val; omega)
  · exact piece_apply u v b x4 (View.ld x4 r0_4) 3 0 ![384, 0] ![0, 0] _ _ rfl rfl rfl rfl (ld0 x4) x (r0_8.emb x) (by show 384 + 1 * (x 0).val = 128 * 3 + (x 0).val; omega) (by show 0 + 1 * (x 1).val = 128 * 0 + (x 1).val; omega)
  · exact piece_apply u v b x4 (View.ld x4 r0_4) 2 0 ![256, 0] ![0, 0] _ _ rfl rfl rfl rfl (ld0 x4) x (r0_7.emb x) (by show 256 + 1 * (x 0).val = 128 * 2 + (x 0).val; omega) (by show 0 + 1 * (x 1).val = 128 * 0 + (x 1).val; omega)
  · exact piece_apply u v b x4 (View.ld x4 r0_4) 1 0 ![128, 0] ![0, 0] _ _ rfl rfl rfl rfl (ld0 x4) x (r0_6.emb x) (by show 128 + 1 * (x 0).val = 128 * 1 + (x 0).val; omega) (by show 0 + 1 * (x 1).val = 128 * 0 + (x 1).val; omega)
  · exact piece_apply u v b x4 (View.ld x4 r0_4) 0 0 ![0, 0] ![0, 0] _ _ rfl rfl rfl rfl (ld0 x4) x (r0_5.emb x) (by show 0 + 1 * (x 0).val = 128 * 0 + (x 0).val; omega) (by show 0 + 1 * (x 1).val = 128 * 0 + (x 1).val; omega)

/-- What the body leaves in the block of the result, at position `t` of chunk `q` and channel `128 g + d`. -/
theorem out_apply (x0 : Vec Ideal S512x1024 .f32) (x1 : Vec Ideal S1024x1024 .bf16) (x2 x3 : Vec Ideal S1x512 .f32) (x4 : Vec Ideal S4x128x128 .f32)
    (x5 : Vec Ideal S128x128 .f32) (q g : Fin 4) (t d : Fin 128) :
    (out0_6 x0 x1 x2 x3 x4 x5 (ix2 (⟨128 * q.val + t.val, by omega⟩ : Fin 512) (⟨128 * g.val + d.val, by omega⟩ : Fin 512)) : EReal)
      = spatial (fun s k => x0 (ix2 (⟨128 * q.val + s.val, by omega⟩ : Fin 512) k)) (fun k j => x1 (ix2 k j)) (fun j => x2 (ix2 (0 : Fin 1) j))
        (fun j => x3 (ix2 (0 : Fin 1) j)) (fun s => x4 (ix3 g t s)) (x5 (ix2 t (⟨g.val, by omega⟩ : Fin 128))) t (⟨128 * g.val + d.val, by omega⟩ : Fin 512) := by
  refine (congrFun (out_eq x0 x1 x2 x3 x4 x5) _).trans ((pieces_apply _ _ _ _ _).trans ?_)
  have t0 : (⟨(128 * q.val + t.val) % 128, Nat.mod_lt _ (by decide)⟩ : Fin 128) = t := Fin.ext (by show (128 * q.val + t.val) % 128 = t.val; omega)
  have hg : (⟨(128 * g.val + d.val) / 128, by omega⟩ : Fin 4) = g := Fin.ext (by show (128 * g.val + d.val) / 128 = g.val; omega)
  have hg' : (⟨(128 * g.val + d.val) / 128, by omega⟩ : Fin 128) = ⟨g.val, by omega⟩ := Fin.ext (by show (128 * g.val + d.val) / 128 = g.val; omega)
  have hq : ∀ s : Fin 128, (⟨128 * ((128 * q.val + t.val) / 128) + s.val, by omega⟩ : Fin 512) = ⟨128 * q.val + s.val, by omega⟩ :=
    fun s => Fin.ext (by show 128 * ((128 * q.val + t.val) / 128) + s.val = 128 * q.val + s.val; omega)
  show (k0_pay4 x0 x1 (ix2 ⟨128 * q.val + t.val, _⟩ ⟨128 * g.val + d.val, _⟩) : EReal)
    * mix (fun s => x4 (ix3 ⟨(128 * g.val + d.val) / 128, _⟩ ⟨(128 * q.val + t.val) % 128, _⟩ s))
      (k0_pay9 x5 (ix2 ⟨(128 * q.val + t.val) % 128, _⟩ ⟨(128 * g.val + d.val) / 128, _⟩))
      (fun s => k0_pay8 (k0_pay5 x2) (k0_pay6 x3) (k0_pay7 x0 x1) (ix2 ⟨128 * ((128 * q.val + t.val) / 128) + s.val, _⟩ ⟨128 * g.val + d.val, _⟩))
      ⟨(128 * q.val + t.val) % 128, _⟩ = _
  rw [t0, hg, hg']
  have h9 : (k0_pay9 x5 (ix2 t (⟨g.val, by omega⟩ : Fin 128)) : EReal) = x5 (ix2 t (⟨g.val, by omega⟩ : Fin 128)) := by
    pointwise [k0_pay9]
  unfold spatial
  refine congrArg₂ (· * · : EReal → EReal → EReal) (pay4_apply x0 x1 _ _) ?_
  rw [h9]
  refine congrArg (fun z => mix _ _ z t) (funext fun s => ?_)
  rw [hq s]
  exact value_apply x0 x1 x2 x3 _ _

end Cert.Kernel4Ideal.Gmlp

end
-- ==== Proof.GmlpArray.lean ====
/- The chunked spatial gating's output array over the extended reals: every token's result, from the arguments. -/
module

public import proofs.«01_k».proof.Proof.Gen.Kernel4Ideal.Value
public import proofs.«01_k».proof.Proof.GmlpPoint

@[expose] public section

set_option maxRecDepth 16384

noncomputable section

namespace Cert.Kernel4Ideal.Gmlp

open Idealize.ShloMosaic Idealize.ShloMosaic.TcCoe Idealize.SL.Sem Cert.Kernel4Ideal Cert.Kernel4Ideal.Gen Cert.GmlpModel

/-- The tokens in one row. -/
def tokens (x : FVec Ideal S8x4096x1024 .f32) : FVec Ideal S32768x1024 .f32 := shapeCast S32768x1024 x shapeCasts_S8x4096x1024_S32768x1024

/-- The call's input weights. -/
def weights (w : FVec Ideal S1024x6612 .f32) : FVec Ideal S1024x1024 .bf16 :=
  truncf .bf16 (extractStridedSlice S1024x1024 ![0, 2516] w slices_S1024x6612_S1024x1024_0_2516) bitsLt_bf16_f32

/-- The positions' offsets, a column to each group and zeros after them. -/
def offsets (b : FVec Ideal S4x128 .f32) : FVec Ideal S128x128 .f32 :=
  concatenate S128x128 1 [⟨S128x4, (transpose S128x4 [1, 0] b transposes_S4x128_S128x4_1_0 : FVec Ideal S128x4 .f32)⟩,
    ⟨S128x124, broadcastInDim S128x124 ![] bcast_S_S128x124 (constant S_ .f32 0x00000000#32)⟩] concatenates_S128x4_S128x124_S128x128_d1

theorem tokens_apply (x : FVec Ideal S8x4096x1024 .f32) (l : Fin 32768) (k : Fin 1024) :
    (tokens x (ix2 l k) : EReal) = x (ix3 (⟨l.val / 4096, by omega⟩ : Fin 8) (⟨l.val % 4096, by omega⟩ : Fin 4096) k) := by
  pointwise [tokens]

theorem weights_apply (w : FVec Ideal S1024x6612 .f32) (k d : Fin 1024) :
    (weights w (ix2 k d) : EReal) = w (ix2 k (⟨2516 + d.val, by omega⟩ : Fin 6612)) := by
  pointwise [weights]

theorem offsets_apply (b : FVec Ideal S4x128 .f32) (t : Fin 128) (g : Fin 4) :
    (offsets b (ix2 t (⟨g.val, by omega⟩ : Fin 128)) : EReal) = b (ix2 g t) := by
  have hg : g.val < 4 := g.isLt
  pointwise [offsets]

theorem rowOf_apply (g : FVec Ideal S512 .f32) (d : Fin 512) :
    (shapeCast S1x512 g shapeCasts_S512_S1x512 (ix2 (0 : Fin 1) d) : EReal) = g (ix1 d) := by
  pointwise

variable (m : (ℓ : Loc nD τ sig) → Buf (Elt Ideal) ℓ) (c : Dev nD)

theorem V_0 : V m c (Pipeline.arrRef spec0 0) = tokens (m ((c : Thread nD τ).loc main_arg0)) := by rfl
theorem V_1 : V m c (Pipeline.arrRef spec0 1) = weights (m ((c : Thread nD τ).loc main_arg1)) := by rfl
theorem V_2 : V m c (Pipeline.arrRef spec0 2) = shapeCast S1x512 (m ((c : Thread nD τ).loc main_arg2) : FVec Ideal S512 .f32) shapeCasts_S512_S1x512 := by rfl
theorem V_3 : V m c (Pipeline.arrRef spec0 3) = shapeCast S1x512 (m ((c : Thread nD τ).loc main_arg3) : FVec Ideal S512 .f32) shapeCasts_S512_S1x512 := by rfl
theorem V_5 : V m c (Pipeline.arrRef spec0 5) = offsets (m ((c : Thread nD τ).loc main_arg5)) := by rfl

/-! Where the windows' blocks sit at a point. -/

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = 0 ∧ win0_2.index t (1 : Fin 2) = 0 := (by decide +kernel : ∀ t : Fin grid0.N, _)
theorem index3 : ∀ t : Fin cfg0.N, win0_3.index t (0 : Fin 2) = 0 ∧ win0_3.index t (1 : Fin 2) = 0 := (by decide +kernel : ∀ t : Fin grid0.N, _)
theorem index4 : ∀ t : Fin cfg0.N, win0_4.index t (0 : Fin 3) = 0 ∧ win0_4.index t (1 : Fin 3) = 0 ∧ win0_4.index t (2 : Fin 3) = 0 := (by decide +kernel : ∀ t : Fin grid0.N, _)
theorem index5 : ∀ t : Fin cfg0.N, win0_5.index t (0 : Fin 2) = 0 ∧ win0_5.index t (1 : Fin 2) = 0 := (by decide +kernel : ∀ t : Fin grid0.N, _)
theorem index6 : ∀ t : Fin cfg0.N, win0_6.index t (0 : Fin 2) = t.val ∧ win0_6.index t (1 : Fin 2) = 0 := (by decide +kernel : ∀ t : Fin grid0.N, _)

/-! The blocks, read off the arguments. -/

theorem blk0 (t : Fin cfg0.N) (r : Fin 512) (k : Fin 1024) (l : Fin 32768) (hl : l.val = t.val * 512 + r.val) :
    (iblk m c 0 t (ix2 r k) : EReal) = tokens (m ((c : Thread nD τ).loc main_arg0)) (ix2 l k) := by
  refine Eq.trans (congrArg (V m c (Pipeline.arrRef spec0 0)) (funext fun a => Fin.ext ?_)) (congrFun (V_0 m c) (ix2 l k))
  match a with
  | ⟨0, _⟩ => show win0_0.index t (0 : Fin 2) * 512 + 1 * r.val = l.val; rw [(index0 t).1]; omega
  | ⟨1, _⟩ => show win0_0.index t (1 : Fin 2) * 1024 + 1 * k.val = k.val; rw [(index0 t).2]; omega
theorem blk1 (t : Fin cfg0.N) : iblk m c 1 t = weights (m ((c : Thread nD τ).loc main_arg1)) := by
  refine Eq.trans (funext fun y => congrArg (V m c (Pipeline.arrRef spec0 1)) (funext fun a => Fin.ext ?_)) (V_1 m c)
  match a with
  | ⟨0, _⟩ => show win0_1.index t (0 : Fin 2) * 1024 + 1 * (y 0).val = (y 0).val; rw [(index1 t).1]; omega
  | ⟨1, _⟩ => show win0_1.index t (1 : Fin 2) * 1024 + 1 * (y 1).val = (y 1).val; rw [(index1 t).2]; omega
theorem blk2 (t : Fin cfg0.N) : iblk m c 2 t = shapeCast S1x512 (m ((c : Thread nD τ).loc main_arg2) : FVec Ideal S512 .f32) shapeCasts_S512_S1x512 := by
  refine Eq.trans (funext fun y => congrArg (V m c (Pipeline.arrRef spec0 2)) (funext fun a => Fin.ext ?_)) (V_2 m c)
  match a with
  | ⟨0, _⟩ => show win0_2.index t (0 : Fin 2) * 1 + 1 * (y 0).val = (y 0).val; rw [(index2 t).1]; omega
  | ⟨1, _⟩ => show win0_2.index t (1 : Fin 2) * 512 + 1 * (y 1).val = (y 1).val; rw [(index2 t).2]; omega
theorem blk3 (t : Fin cfg0.N) : iblk m c 3 t = shapeCast S1x512 (m ((c : Thread nD τ).loc main_arg3) : FVec Ideal S512 .f32) shapeCasts_S512_S1x512 := by
  refine Eq.trans (funext fun y => congrArg (V m c (Pipeline.arrRef spec0 3)) (funext fun a => Fin.ext ?_)) (V_3 m c)
  match a with
  | ⟨0, _⟩ => show win0_3.index t (0 : Fin 2) * 1 + 1 * (y 0).val = (y 0).val; rw [(index3 t).1]; omega
  | ⟨1, _⟩ => show win0_3.index t (1 : Fin 2) * 512 + 1 * (y 1).val = (y 1).val; rw [(index3 t).2]; omega
theorem blk4 (t : Fin cfg0.N) : iblk m c 4 t = (m ((c : Thread nD τ).loc main_arg4) : FVec Ideal S4x128x128 .f32) := by
  refine Eq.trans (funext fun y => congrArg (V m c (Pipeline.arrRef spec0 4)) (funext fun a => Fin.ext ?_)) (V_main_arg4 m c)
  match a with
  | ⟨0, _⟩ => show win0_4.index t (0 : Fin 3) * 4 + 1 * (y 0).val = (y 0).val; rw [(index4 t).1]; omega
  | ⟨1, _⟩ => show win0_4.index t (1 : Fin 3) * 128 + 1 * (y 1).val = (y 1).val; rw [(index4 t).2.1]; omega
  | ⟨2, _⟩ => show win0_4.index t (2 : Fin 3) * 128 + 1 * (y 2).val = (y 2).val; rw [(index4 t).2.2]; omega
theorem blk5 (t : Fin cfg0.N) : iblk m c 5 t = offsets (m ((c : Thread nD τ).loc main_arg5)) := by
  refine Eq.trans (funext fun y => congrArg (V m c (Pipeline.arrRef spec0 5)) (funext fun a => Fin.ext ?_)) (V_5 m c)
  match a with
  | ⟨0, _⟩ => show win0_5.index t (0 : Fin 2) * 128 + 1 * (y 0).val = (y 0).val; rw [(index5 t).1]; omega
  | ⟨1, _⟩ => show win0_5.index t (1 : Fin 2) * 128 + 1 * (y 1).val = (y 1).val; rw [(index5 t).2]; omega

/-- The result of token `l`, at position `t` of its chunk, and of channel `j`, in group `g`. -/
def gatedAt (l : Fin 32768) (g : Fin 4) (t : Fin 128) (j : Fin 512) : EReal :=
  spatial (fun s k => tokens (m ((c : Thread nD τ).loc main_arg0)) (ix2 (⟨128 * (l.val / 128) + s.val, by omega⟩ : Fin 32768) k))
    (fun k j => (m ((c : Thread nD τ).loc main_arg1) : FVec Ideal S1024x6612 .f32) (ix2 k (⟨2516 + j.val, by omega⟩ : Fin 6612)))
    (fun j => (m ((c : Thread nD τ).loc main_arg2) : FVec Ideal S512 .f32) (ix1 j)) (fun j => (m ((c : Thread nD τ).loc main_arg3) : FVec Ideal S512 .f32) (ix1 j))
    (fun s => (m ((c : Thread nD τ).loc main_arg4) : FVec Ideal S4x128x128 .f32) (ix3 g t s))
    ((m ((c : Thread nD τ).loc main_arg5) : FVec Ideal S4x128 .f32) (ix2 g t)) t j

/-- The output array. -/
def wanted (i : S32768x512.Idx) : EReal :=
  have h1 : (i 1).val < 512 := (i 1).isLt
  gatedAt m c (i 0) (⟨(i 1).val / 128, by omega⟩ : Fin 4) (⟨(i 0).val % 128, Nat.mod_lt _ (by decide)⟩ : Fin 128) (i 1)

/-- What a point leaves in its block. -/
theorem after_apply (n : Fin cfg0.N) (q g : Fin 4) (t d : Fin 128) (l : Fin 32768) (hl : l.val = n.val * 512 + (128 * q.val + t.val)) :
    ((dats m 0 c).after 6 n (ix2 (⟨128 * q.val + t.val, by omega⟩ : Fin 512) (⟨128 * g.val + d.val, by omega⟩ : Fin 512)) : EReal)
      = wanted m c (ix2 l (⟨128 * g.val + d.val, by omega⟩ : Fin 512)) := by
  have hn : n.val < 64 := lt_of_lt_of_eq n.isLt N_0
  refine (congrFun (after0_6 m c n) _).trans ((out_apply _ _ _ _ _ _ q g t d).trans ?_)
  have h0 : (fun (s : Fin 128) (k : Fin 1024) => (iblk m c 0 n (ix2 (⟨128 * q.val + s.val, by omega⟩ : Fin 512) k) : EReal))
      = fun s k => tokens (m ((c : Thread nD τ).loc main_arg0)) (ix2 (⟨128 * (l.val / 128) + s.val, by omega⟩ : Fin 32768) k) :=
    funext fun s => funext fun k => blk0 m c n _ k _ (by show 128 * (l.val / 128) + s.val = n.val * 512 + (128 * q.val + s.val); omega)
  have g1 := funext fun k => funext fun d => (congrFun (blk1 m c n) _).trans (weights_apply (m ((c : Thread nD τ).loc main_arg1)) k d)
  have h2 := funext fun d => (congrFun (blk2 m c n) _).trans (rowOf_apply (m ((c : Thread nD τ).loc main_arg2)) d)
  have h3 := funext fun d => (congrFun (blk3 m c n) _).trans (rowOf_apply (m ((c : Thread nD τ).loc main_arg3)) d)
  have h5 := (congrFun (blk5 m c n) _).trans (offsets_apply (m ((c : Thread nD τ).loc main_arg5)) t g)
  have t0 : (⟨l.val % 128, Nat.mod_lt _ (by decide)⟩ : Fin 128) = t := Fin.ext (by show l.val % 128 = t.val; omega)
  have hg : (⟨(128 * g.val + d.val) / 128, by omega⟩ : Fin 4) = g := Fin.ext (by show (128 * g.val + d.val) / 128 = g.val; omega)
  rw [h0, g1, h2, h3, h5, blk4]
  exact congrArg₂ (fun g' t' => gatedAt m c l g' t' (⟨128 * g.val + d.val, by omega⟩ : Fin 512)) hg.symm t0.symm

/-- Where a point's block sits in the output array. -/
theorem emb_6 (t : Fin cfg0.N) (y : S512x512.Idx) (l : Fin 32768) (hl : l.val = t.val * 512 + (y 0).val) :
    (((cfg0.win 6).blk t).view.emb y : S32768x512.Idx) = ix2 l (y 1) := by
  refine funext fun a => Fin.ext ?_
  match a with
  | ⟨0, _⟩ => show win0_6.index t (0 : Fin 2) * 512 + 1 * (y 0).val = l.val; rw [(index6 t).1]; omega
  | ⟨1, _⟩ => show win0_6.index t (1 : Fin 2) * 512 + 1 * (y 1).val = (y 1).val; rw [(index6 t).2]; omega

theorem block_eq (t : Fin cfg0.N) (y : S512x512.Idx) :
    ((dats m 0 c).after 6 t y : EReal) = wanted m c (((cfg0.win 6).blk t).view.emb y) := by
  have h0 : (y 0).val < 512 := (y 0).isLt
  have h1 : (y 1).val < 512 := (y 1).isLt
  have ht : t.val < 64 := lt_of_lt_of_eq t.isLt N_0
  have e0 : (⟨128 * ((y 0).val / 128) + (y 0).val % 128, by omega⟩ : Fin 512) = y 0 := Fin.ext (Nat.div_add_mod _ _)
  have e1 : (⟨128 * ((y 1).val / 128) + (y 1).val % 128, by omega⟩ : Fin 512) = y 1 := Fin.ext (Nat.div_add_mod _ _)
  have h := after_apply m c t (⟨(y 0).val / 128, by omega⟩ : Fin 4) (⟨(y 1).val / 128, by omega⟩ : Fin 4) (⟨(y 0).val % 128, by omega⟩ : Fin 128)
    (⟨(y 1).val % 128, by omega⟩ : Fin 128) ⟨t.val * 512 + (128 * ((y 0).val / 128) + (y 0).val % 128), by omega⟩ rfl
  refine Eq.trans ?_ (h.trans ?_)
  · exact congrArg ((dats m 0 c).after 6 t) ((eq_ix2 y).trans (congrArg₂ ix2 e0.symm e1.symm))
  · refine congrArg (wanted m c) (Eq.trans (congrArg (ix2 _) e1) (emb_6 t y _ ?_).symm)
    show t.val * 512 + (128 * ((y 0).val / 128) + (y 0).val % 128) = t.val * 512 + (y 0).val
    omega

theorem covered (i : S32768x512.Idx) : ∃ t : Fin cfg0.N, ∃ y : S512x512.Idx, (((cfg0.win 6).blk t).view.emb y : S32768x512.Idx) = i := by
  have hi : (i 0).val < 32768 := (i 0).isLt
  refine ⟨⟨(i 0).val / 512, lt_of_lt_of_eq (by omega) N_0.symm⟩, ix2 (⟨(i 0).val % 512, Nat.mod_lt _ (by omega)⟩ : Fin 512) (i 1), ?_⟩
  refine (emb_6 _ _ (i 0) ?_).trans (eq_ix2 i).symm
  show (i 0).val = (i 0).val / 512 * 512 + (i 0).val % 512
  omega

/-- The output array after the call. -/
theorem array_eq : (dats m 0 c).arrAt 6 cfg0.N = wanted m c := by
  refine (dats m 0 c).arrAt_eq_of_emb 6 _ (fun t _ y => block_eq m c t y) fun i => ?_
  obtain ⟨t, y, rfl⟩ := covered i
  exact ⟨t, flush0_6 t, View.emb_mem_set _ y⟩

end Cert.Kernel4Ideal.Gmlp

end
-- ==== Proof.GmlpRef.lean ====
/- The chunked spatial gating's reference, read at a row and a channel. -/
module

public import proofs.«01_k».proof.Proof.Gen.Reference4Ideal.Run
public import proofs.«01_k».proof.Proof.GmlpModel
public import Idealize.ShloMosaic.Lib.Pointwise
public import Idealize.ShloMosaic.Lib.WordCmp

@[expose] public section

set_option maxRecDepth 16384

noncomputable section

namespace Cert.Reference4Ideal.GmlpRef

open Idealize.ShloMosaic Idealize.ShloMosaic.TcCoe Idealize.SL.Sem Cert.Reference4Ideal Cert.Reference4Ideal.Gen Cert.GmlpModel

/-- A number at every token and channel. -/
def full (w : BitVec 32) : FVec Ideal S8x4096x1024 .f32 := broadcastInDim S8x4096x1024 ![] bcast_S_S8x4096x1024 (constant S_ .f32 w)
/-- A number at every token. -/
def column (w : BitVec 32) : FVec Ideal S8x4096x1 .f32 := broadcastInDim S8x4096x1 ![] bcast_S_S8x4096x1 (constant S_ .f32 w)

/-- The stream through the gating's part of the input weights. -/
def proj (x : FVec Ideal S8x4096x1024 .f32) (w : FVec Ideal S1024x6612 .f32) : FVec Ideal S8x4096x1024 .f32 :=
  extractStridedSlice S8x4096x1024 ![0, 0, 2516] (Host.dotGeneral dot_S8x4096x1024_S1024x6612_S8x4096x6612_2_0_01_1_n_n none x w) slices_S8x4096x6612_S8x4096x1024_0_0_2516

/-- The activation. -/
def active (z : FVec Ideal S8x4096x1024 .f32) : FVec Ideal S8x4096x1024 .f32 :=
  mulf z (mulf (full 0x3F000000#32) (addf (full 0x3F800000#32)
    (Host.tanh (mulf (full 0x3F4C422A#32) (addf z (mulf (full 0x3D372713#32) (mulf (mulf z z) z)))))))

/-- The first half of the channels. -/
def first (y : FVec Ideal S8x4096x1024 .f32) : FVec Ideal S8x4096x512 .f32 := extractStridedSlice S8x4096x512 ![0, 0, 0] y slices_S8x4096x1024_S8x4096x512_0_0_0
/-- The second half of the channels. -/
def second (y : FVec Ideal S8x4096x1024 .f32) : FVec Ideal S8x4096x512 .f32 := extractStridedSlice S8x4096x512 ![0, 0, 512] y slices_S8x4096x1024_S8x4096x512_0_0_512

/-- Each token's mean. -/
def rowMean (x : FVec Ideal S8x4096x512 .f32) : FVec Ideal S8x4096x1 .f32 :=
  Host.divf (broadcastInDim S8x4096x1 ![0, 1] bcast_S8x4096_S8x4096x1_0_1
    (Host.reduceAdd x (constant S_ .f32 0x00000000#32) reducesTo_S8x4096x512_S8x4096_d2 h_S_)) (column 0x44000000#32)

/-- Each token less its mean. -/
def centred (x : FVec Ideal S8x4096x512 .f32) : FVec Ideal S8x4096x512 .f32 :=
  subf x (broadcastInDim S8x4096x512 ![0, 1, 2] bcast_S8x4096x1_S8x4096x512_0_1_2 (rowMean x))

/-- A number of each channel, at every token. -/
def perChannel (g : FVec Ideal S512 .f32) : FVec Ideal S8x4096x512 .f32 :=
  broadcastInDim S8x4096x512 ![0, 1, 2] bcast_S1x1x512_S8x4096x512_0_1_2 (broadcastInDim S1x1x512 ![2] bcast_S512_S1x1x512_2 g)

/-- Each token scaled, then the channels' weights and offsets applied. -/
def scaled (x : FVec Ideal S8x4096x512 .f32) (v : FVec Ideal S8x4096x1 .f32) (g b : FVec Ideal S512 .f32) : FVec Ideal S8x4096x512 .f32 :=
  addf (mulf (mulf x (broadcastInDim S8x4096x512 ![0, 1, 2] bcast_S8x4096x1_S8x4096x512_0_1_2 (Host.rsqrt (addf v (column 0x3727C5AC#32))))) (perChannel g)) (perChannel b)

/-- The layer norm. -/
def normed (x : FVec Ideal S8x4096x512 .f32) (g b : FVec Ideal S512 .f32) : FVec Ideal S8x4096x512 .f32 :=
  scaled (centred x) (rowMean (mulf (centred x) (centred x))) g b

/-- Ones on and below the diagonal, zeros above it. -/
def lower : FVec Ideal S128x128 .f32 :=
  select (cmpi .sge (addi (iotaInDim S128x128 32 0) (broadcastInDim S128x128 ![] bcast_S_S128x128 (constantI S_ 32 0#32))) (iotaInDim S128x128 32 1))
    (broadcastInDim S128x128 ![] bcast_S_S128x128 (constant S_ .f32 0x3F800000#32)) (broadcastInDim S128x128 ![] bcast_S_S128x128 (constant S_ .f32 0x00000000#32))

/-- The causal weights of each group. -/
def causal (ws : FVec Ideal S4x128x128 .f32) : FVec Ideal S4x128x128 .f32 :=
  mulf ws (broadcastInDim S4x128x128 ![0, 1, 2] bcast_S1x128x128_S4x128x128_0_1_2 (broadcastInDim S1x128x128 ![1, 2] bcast_S128x128_S1x128x128_1_2 lower))

/-- The positions' offsets at every chunk and channel. -/
def offsets (bs : FVec Ideal S4x128 .f32) : FVec Ideal S8x32x128x4x128 .f32 :=
  broadcastInDim S8x32x128x4x128 ![0, 1, 2, 3, 4] bcast_S1x1x128x4x1_S8x32x128x4x128_0_1_2_3_4 (broadcastInDim S1x1x128x4x1 ![2, 3, 4] bcast_S128x4x1_S1x1x128x4x1_2_3_4
    (broadcastInDim S128x4x1 ![0, 1] bcast_S128x4_S128x4x1_0_1 (transpose S128x4 [1, 0] bs transposes_S4x128_S128x4_1_0)))

/-- The causal mix of each chunk and group. -/
def mixed (v : FVec Ideal S8x4096x512 .f32) (ws : FVec Ideal S4x128x128 .f32) (bs : FVec Ideal S4x128 .f32) : FVec Ideal S8x32x128x4x128 .f32 :=
  addf (transpose S8x32x128x4x128 [1, 2, 4, 0, 3] (Host.dotGeneral dot_S8x32x128x4x128_S4x128x128_S4x8x32x128x128_2_2_014_1_3_0 none
      (shapeCast S8x32x128x4x128 v shapeCasts_S8x4096x512_S8x32x128x4x128) (causal ws)) transposes_S4x8x32x128x128_S8x32x128x4x128_1_2_4_0_3)
    (offsets bs)

/-- The whole reference. -/
def whole (x : FVec Ideal S8x4096x1024 .f32) (w : FVec Ideal S1024x6612 .f32) (g b : FVec Ideal S512 .f32) (ws : FVec Ideal S4x128x128 .f32) (bs : FVec Ideal S4x128 .f32) :
    FVec Ideal S32768x512 .bf16 :=
  truncf .bf16 (shapeCast S32768x512 (mulf (first (active (proj x w)))
    (shapeCast S8x4096x512 (mixed (normed (second (active (proj x w))) g b) ws bs) shapeCasts_S8x32x128x4x128_S8x4096x512)) shapeCasts_S8x4096x512_S32768x512) bitsLt_bf16_f32

theorem result_eq (m : (ℓ : Loc nD τ sig) → Buf (Elt Ideal) ℓ) (c : Dev nD) :
    Value.res_main_v71 m c = whole (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := rfl

theorem proj_apply (x : FVec Ideal S8x4096x1024 .f32) (w : FVec Ideal S1024x6612 .f32) (i : Fin 8) (l : Fin 4096) (j : Fin 1024) :
    (proj x w (ix3 i l j) : EReal) = ∑ k : Fin 1024, (x (ix3 i l k) : EReal) * w (ix2 k (⟨2516 + j.val, by omega⟩ : Fin 6612)) := by
  pointwise [proj]

theorem active_apply (z : FVec Ideal S8x4096x1024 .f32) (i : Fin 8) (l : Fin 4096) (j : Fin 1024) :
    (active z (ix3 i l j) : EReal) = gelu (z (ix3 i l j)) := by
  pointwise [active, full]
  rfl

theorem first_apply (y : FVec Ideal S8x4096x1024 .f32) (i : Fin 8) (l : Fin 4096) (j : Fin 512) :
    (first y (ix3 i l j) : EReal) = y (ix3 i l (⟨j.val, by omega⟩ : Fin 1024)) := by
  pointwise [first]
theorem second_apply (y : FVec Ideal S8x4096x1024 .f32) (i : Fin 8) (l : Fin 4096) (j : Fin 512) :
    (second y (ix3 i l j) : EReal) = y (ix3 i l (⟨512 + j.val, by omega⟩ : Fin 1024)) := by
  pointwise [second]

theorem rowMean_apply (x : FVec Ideal S8x4096x512 .f32) (i : Fin 8) (l : Fin 4096) :
    (rowMean x (ix3 i l (0 : Fin 1)) : EReal) = mean (fun k => x (ix3 i l k)) := by
  pointwise [rowMean, column]
  rfl

theorem centred_apply (x : FVec Ideal S8x4096x512 .f32) (i : Fin 8) (l : Fin 4096) (j : Fin 512) :
    (centred x (ix3 i l j) : EReal) = x (ix3 i l j) - mean (fun k => x (ix3 i l k)) := by
  pointwise [centred, rowMean, column]
  rfl

theorem scaled_apply (x : FVec Ideal S8x4096x512 .f32) (v : FVec Ideal S8x4096x1 .f32) (g b : FVec Ideal S512 .f32) (i : Fin 8) (l : Fin 4096) (j : Fin 512) :
    (scaled x v g b (ix3 i l j) : EReal)
      = x (ix3 i l j) * Ideal.rsqrt (v (ix3 i l (0 : Fin 1)) + Ideal.ofBits .f32 925353388#32) * g (ix1 j) + b (ix1 j) := by
  pointwise [scaled, column, perChannel]

theorem normed_apply (x : FVec Ideal S8x4096x512 .f32) (g b : FVec Ideal S512 .f32) (i : Fin 8) (l : Fin 4096) (j : Fin 512) :
    (normed x g b (ix3 i l j) : EReal) = rowNorm (fun k => x (ix3 i l k)) (fun d => g (ix1 d)) (fun d => b (ix1 d)) j := by
  unfold normed rowNorm
  rw [scaled_apply, rowMean_apply, centred_apply]
  have h : (fun k => (mulf (centred x) (centred x) (ix3 i l k) : EReal))
      = fun k => (x (ix3 i l k) - mean (fun k => x (ix3 i l k))) * (x (ix3 i l k) - mean (fun k => x (ix3 i l k))) :=
    funext fun k => congrArg₂ (· * · : EReal → EReal → EReal) (centred_apply x i l k) (centred_apply x i l k)
  rw [h]

theorem lower_apply (t s : Fin 128) : (lower (ix2 t s) : EReal) = if s ≤ t then 1 else 0 := by
  have ht := t.isLt
  have hs := s.isLt
  have e : (lower (ix2 t s) : EReal)
      = Scalar.select (IntOp.cmpi .sge (IntOp.addi (BitVec.ofNat 32 t.val) 0#32) (BitVec.ofNat 32 s.val)) (1 : EReal) 0 := by
    pointwise [lower]
  have a0 : IntOp.addi (BitVec.ofNat 32 t.val) 0#32 = BitVec.ofNat 32 t.val := BitVec.add_zero _
  rw [e, a0, WordCmp.cmpi_sge_ofNat (by omega) (by omega)]
  by_cases h : s ≤ t
  · rw [if_pos h, decide_eq_true (show s.val ≤ t.val from h)]; rfl
  · rw [if_neg h, decide_eq_false (show ¬ s.val ≤ t.val from h)]; rfl

theorem causal_apply (ws : FVec Ideal S4x128x128 .f32) (g : Fin 4) (t s : Fin 128) :
    (causal ws (ix3 g t s) : EReal) = if s ≤ t then (ws (ix3 g t s) : EReal) else 0 := by
  have e : (causal ws (ix3 g t s) : EReal) = ws (ix3 g t s) * lower (ix2 t s) := by
    unfold causal
    generalize lower = z
    pointwise
  rw [e, lower_apply]
  by_cases h : s ≤ t
  · rw [if_pos h, if_pos h, mul_one]
  · rw [if_neg h, if_neg h, mul_zero]

theorem offsets_apply (bs : FVec Ideal S4x128 .f32) (i : Fin 8) (n : Fin 32) (t : Fin 128) (g : Fin 4) (d : Fin 128) :
    (offsets bs (ix5 i n t g d) : EReal) = bs (ix2 g t) := by
  pointwise [offsets]

theorem mixed_apply (v : FVec Ideal S8x4096x512 .f32) (ws : FVec Ideal S4x128x128 .f32) (bs : FVec Ideal S4x128 .f32)
    (i : Fin 8) (n : Fin 32) (t : Fin 128) (g : Fin 4) (d : Fin 128) :
    (mixed v ws bs (ix5 i n t g d) : EReal)
      = mix (fun s => ws (ix3 g t s)) (bs (ix2 g t)) (fun s => v (ix3 i (⟨128 * n.val + s.val, by omega⟩ : Fin 4096) (⟨128 * g.val + d.val, by omega⟩ : Fin 512))) t := by
  have hc : ∀ s : Fin 128, (shapeCast S8x32x128x4x128 v shapeCasts_S8x4096x512_S8x32x128x4x128 (ix5 i n s g d) : EReal)
      = v (ix3 i (⟨128 * n.val + s.val, by omega⟩ : Fin 4096) (⟨128 * g.val + d.val, by omega⟩ : Fin 512)) := fun s => by
    pointwise
    exact congrArg v (congrArg₂ (ix3 i) (Fin.ext (by show n.val * 128 + s.val = 128 * n.val + s.val; omega))
      (Fin.ext (by show g.val * 128 + d.val = 128 * g.val + d.val; omega)))
  have e : (transpose S8x32x128x4x128 [1, 2, 4, 0, 3] (Host.dotGeneral dot_S8x32x128x4x128_S4x128x128_S4x8x32x128x128_2_2_014_1_3_0 none
      (shapeCast S8x32x128x4x128 v shapeCasts_S8x4096x512_S8x32x128x4x128) (causal ws)) transposes_S4x8x32x128x128_S8x32x128x4x128_1_2_4_0_3 (ix5 i n t g d) : EReal)
      = ∑ s : Fin 128, (shapeCast S8x32x128x4x128 v shapeCasts_S8x4096x512_S8x32x128x4x128 (ix5 i n s g d) : EReal) * causal ws (ix3 g t s) := by
    generalize causal ws = z
    generalize shapeCast S8x32x128x4x128 v shapeCasts_S8x4096x512_S8x32x128x4x128 = y
    pointwise
  unfold mix
  refine congrArg₂ (· + · : EReal → EReal → EReal) (e.trans (Finset.sum_congr rfl fun s _ => ?_)) (offsets_apply bs i n t g d)
  rw [hc, causal_apply, mul_comm]

/-- The reference's result at a token and a channel. -/
theorem whole_apply (x : FVec Ideal S8x4096x1024 .f32) (w : FVec Ideal S1024x6612 .f32) (g b : FVec Ideal S512 .f32) (ws : FVec Ideal S4x128x128 .f32) (bs : FVec Ideal S4x128 .f32)
    (l : Fin 32768) (i : Fin 8) (n : Fin 32) (t : Fin 128) (hl : l.val = 4096 * i.val + (128 * n.val + t.val)) (gr : Fin 4) (d : Fin 128) (j : Fin 512) (hj : j.val = 128 * gr.val + d.val) :
    (whole x w g b ws bs (ix2 l j) : EReal)
      = spatial (fun s k => x (ix3 i (⟨128 * n.val + s.val, by omega⟩ : Fin 4096) k)) (fun k j => w (ix2 k (⟨2516 + j.val, by omega⟩ : Fin 6612)))
        (fun d => g (ix1 d)) (fun d => b (ix1 d)) (fun s => ws (ix3 gr t s)) (bs (ix2 gr t)) t j := by
  have e : (whole x w g b ws bs (ix2 l j) : EReal) = first (active (proj x w)) (ix3 i (⟨128 * n.val + t.val, by omega⟩ : Fin 4096) j)
      * mixed (normed (second (active (proj x w))) g b) ws bs (ix5 i n t gr d) := by
    have i1 : (⟨l.val / 4096, by omega⟩ : Fin 8) = i := Fin.ext (by show l.val / 4096 = i.val; omega)
    have i2 : (⟨l.val % 4096, by omega⟩ : Fin 4096) = ⟨128 * n.val + t.val, by omega⟩ := Fin.ext (by show l.val % 4096 = 128 * n.val + t.val; omega)
    have c1 : ∀ z : FVec Ideal S8x4096x512 .f32, (shapeCast S32768x512 z shapeCasts_S8x4096x512_S32768x512 (ix2 l j) : EReal)
        = z (ix3 (⟨l.val / 4096, by omega⟩ : Fin 8) (⟨l.val % 4096, by omega⟩ : Fin 4096) j) := fun z => by
      pointwise
    have c2 : ∀ z : FVec Ideal S8x32x128x4x128 .f32, (shapeCast S8x4096x512 z shapeCasts_S8x32x128x4x128_S8x4096x512
        (ix3 i (⟨128 * n.val + t.val, by omega⟩ : Fin 4096) (⟨128 * gr.val + d.val, by omega⟩ : Fin 512)) : EReal) = z (ix5 i n t gr d) := fun z => by
      pointwise
    have hj' : j = ⟨128 * gr.val + d.val, by omega⟩ := Fin.ext hj
    unfold whole
    refine Eq.trans (c1 (mulf (first (active (proj x w)))
      (shapeCast S8x4096x512 (mixed (normed (second (active (proj x w))) g b) ws bs) shapeCasts_S8x32x128x4x128_S8x4096x512))) ?_
    rw [i1, i2]
    refine congrArg₂ (· * · : EReal → EReal → EReal) rfl ?_
    rw [hj']
    exact c2 _
  have ha : ∀ (r : Fin 4096) (j : Fin 1024), (active (proj x w) (ix3 i r j) : EReal)
      = act (fun k => x (ix3 i r k)) (fun k j => w (ix2 k (⟨2516 + j.val, by omega⟩ : Fin 6612))) j :=
    fun r j => (active_apply _ i r j).trans (congrArg gelu (proj_apply x w i r j))
  have hj' : (⟨128 * gr.val + d.val, by omega⟩ : Fin 512) = j := Fin.ext hj.symm
  rw [e, first_apply, ha, mixed_apply, hj']
  unfold spatial
  refine congrArg (fun z => _ * mix _ _ z t) (funext fun s => (normed_apply _ g b i _ j).trans ?_)
  exact congrArg (fun z => rowNorm z _ _ j) (funext fun k => (second_apply _ i _ k).trans (ha _ _))

end Cert.Reference4Ideal.GmlpRef

end
-- ==== Proof.GmlpResult.lean ====
/- The chunked spatial gating: the kernel's output array is the reference's result. -/
module

public import proofs.«01_k».proof.Proof.GmlpArray
public import proofs.«01_k».proof.Proof.GmlpRef

@[expose] public section

noncomputable section

namespace Cert.GmlpResult

open Idealize.ShloMosaic Idealize.ShloMosaic.TcCoe Idealize.SL.Sem

/-- The kernel's array and the reference's result, from equal arguments. -/
theorem agree (m : (ℓ : Loc Cert.Kernel4Ideal.nD Cert.Kernel4Ideal.τ Cert.Kernel4Ideal.sig) → Buf (Elt Ideal) ℓ) (c : Dev Cert.Kernel4Ideal.nD) :
    (Cert.Kernel4Ideal.Gen.dats m 0 c).arrAt 6 Cert.Kernel4Ideal.cfg0.N
      = Cert.Reference4Ideal.GmlpRef.whole (m ((c : Thread Cert.Kernel4Ideal.nD Cert.Kernel4Ideal.τ).loc Cert.Kernel4Ideal.main_arg0))
          (m ((c : Thread Cert.Kernel4Ideal.nD Cert.Kernel4Ideal.τ).loc Cert.Kernel4Ideal.main_arg1))
          (m ((c : Thread Cert.Kernel4Ideal.nD Cert.Kernel4Ideal.τ).loc Cert.Kernel4Ideal.main_arg2))
          (m ((c : Thread Cert.Kernel4Ideal.nD Cert.Kernel4Ideal.τ).loc Cert.Kernel4Ideal.main_arg3))
          (m ((c : Thread Cert.Kernel4Ideal.nD Cert.Kernel4Ideal.τ).loc Cert.Kernel4Ideal.main_arg4))
          (m ((c : Thread Cert.Kernel4Ideal.nD Cert.Kernel4Ideal.τ).loc Cert.Kernel4Ideal.main_arg5)) := by
  refine (Cert.Kernel4Ideal.Gmlp.array_eq m c).trans (funext fun i => ?_)
  have h0 : (i 0).val < 32768 := (i 0).isLt
  have h1 : (i 1).val < 512 := (i 1).isLt
  refine Eq.trans ?_ (congrArg _ (eq_ix2 i).symm)
  refine Eq.trans ?_ (Cert.Reference4Ideal.GmlpRef.whole_apply _ _ _ _ _ _ (i 0) (⟨(i 0).val / 4096, by omega⟩ : Fin 8)
    (⟨(i 0).val % 4096 / 128, by omega⟩ : Fin 32) (⟨(i 0).val % 128, by omega⟩ : Fin 128)
    (by show (i 0).val = 4096 * ((i 0).val / 4096) + (128 * ((i 0).val % 4096 / 128) + (i 0).val % 128); omega)
    (⟨(i 1).val / 128, by omega⟩ : Fin 4) (⟨(i 1).val % 128, by omega⟩ : Fin 128) (i 1)
    (by show (i 1).val = 128 * ((i 1).val / 128) + (i 1).val % 128; omega)).symm
  unfold Cert.Kernel4Ideal.Gmlp.wanted Cert.Kernel4Ideal.Gmlp.gatedAt
  dsimp only
  congr 1
  funext s k
  refine (Cert.Kernel4Ideal.Gmlp.tokens_apply _ _ k).trans (congrArg (m ((c : Thread Cert.Kernel4Ideal.nD Cert.Kernel4Ideal.τ).loc Cert.Kernel4Ideal.main_arg0))
    (congrArg₂ (fun p q => ix3 p q k) (Fin.ext ?_) (Fin.ext ?_)))
  · show (128 * ((i 0).val / 128) + s.val) / 4096 = (i 0).val / 4096
    omega
  · show (128 * ((i 0).val / 128) + s.val) % 4096 = 128 * ((i 0).val % 4096 / 128) + s.val
    omega

end Cert.GmlpResult

end
-- ==== Proof.EntryPoint.lean ====
/- One block of the layer norm of the input over the extended reals: the kernel's payload read at a row and a channel. -/
module

public import proofs.«01_k».proof.Proof.Gen.Kernel5Ideal.Frame
public import proofs.«01_k».proof.Proof.MergeModel
public import Idealize.ShloMosaic.Lib.Pointwise
public import Idealize.ShloMosaic.Lib.Pipeline.ValueKit

@[expose] public section

set_option maxRecDepth 16384

noncomputable section

namespace Cert.Kernel5Ideal.Entry

open Idealize.ShloMosaic Idealize.ShloMosaic.TcCoe Cert.Kernel5Ideal Cert.Kernel5Ideal.Gen Cert.MergeModel

section Ops

variable {F : FTy → Type} [FloatOps F]

/-- Each row's mean. -/
def rowMean (x : FVec F S1024x1024 .f32) : FVec F S1024x1 .f32 :=
  divf (shapeCast S1024x1 (multiReduction .add [1] S1024 x 0x00000000#32 reduces_S1024x1024_S1024 (.inl rfl) rfl) shapeCasts_S1024_S1024x1)
    (broadcast S1024x1 (Scalar.ofBits .f32 0x44800000#32))

/-- Each row less its mean. -/
def centred (x : FVec F S1024x1024 .f32) : FVec F S1024x1024 .f32 :=
  subf x (broadcastTo S1024x1024 (rowMean x) broadcasts_S1024x1_S1024x1024)

/-- Each row scaled, then a row weight and a row offset applied. -/
def scaled (x : FVec F S1024x1024 .f32) (v : FVec F S1024x1 .f32) (g b : FVec F S1x1024 .f32) : FVec F S1024x1024 .f32 :=
  addf (mulf (mulf x (broadcastTo S1024x1024 (rsqrt (addf v (broadcast S1024x1 (Scalar.ofBits .f32 0x3727C5AC#32)))) broadcasts_S1024x1_S1024x1024))
      (broadcastTo S1024x1024 (shapeCast S1x1024 g shapeCasts_S1x1024_S1x1024) broadcasts_S1x1024_S1024x1024))
    (broadcastTo S1024x1024 (shapeCast S1x1024 b shapeCasts_S1x1024_S1x1024) broadcasts_S1x1024_S1024x1024)

/-- The block as the body casts it. -/
def cast (x : Vec F S1024x1024 .f32) : FVec F S1024x1024 .f32 := shapeCast S1024x1024 x shapeCasts_S1024x1024_S1024x1024

/-- The normalised rows. -/
def normed (x : FVec F S1024x1024 .f32) (g b : FVec F S1x1024 .f32) : FVec F S1024x1024 .f32 :=
  scaled (centred x) (rowMean (mulf (centred x) (centred x))) g b

theorem pay1_eq (x : Vec F S1024x1024 .f32) (g b : Vec F S1x1024 .f32) : k0_pay1 x g b = normed (cast x) g b := rfl

theorem zeros : (![0, 0] : Fin 2 → ℕ) = fun _ => 0 := by
  funext a
  match a with
  | ⟨0, _⟩ => rfl
  | ⟨1, _⟩ => rfl

/-- What the body leaves in its block. -/
theorem out_eq (x0 : Vec F S1024x1024 .f32) (x1 x2 : Vec F S1x1024 .f32) : out0_3 x0 x1 x2 = normed (cast x0) x1 x2 := by
  unfold out0_3
  rw [View.canon_unit_zero zeros, View.ld_unit_zero zeros _ x0, View.ld_unit_zero zeros _ x1, View.ld_unit_zero zeros _ x2, pay1_eq]

end Ops

theorem cast_apply (x : Vec Ideal S1024x1024 .f32) (r d : Fin 1024) : (cast x (ix2 r d) : EReal) = x (ix2 r d) := by
  pointwise [cast]

theorem centred_apply (x : FVec Ideal S1024x1024 .f32) (r d : Fin 1024) :
    (centred x (ix2 r d) : EReal) = x (ix2 r d) - mean (fun k => x (ix2 r k)) := by
  pointwise [centred, rowMean]
  rfl

theorem rowMean_apply (x : FVec Ideal S1024x1024 .f32) (r : Fin 1024) :
    (rowMean x (ix2 r (0 : Fin 1)) : EReal) = mean (fun k => x (ix2 r k)) := by
  pointwise [rowMean]
  rfl

theorem scaled_apply (x : FVec Ideal S1024x1024 .f32) (v : FVec Ideal S1024x1 .f32) (g b : FVec Ideal S1x1024 .f32) (r d : Fin 1024) :
    (scaled x v g b (ix2 r d) : EReal)
      = x (ix2 r d) * Ideal.rsqrt (v (ix2 r (0 : Fin 1)) + Ideal.ofBits .f32 925353388#32) * g (ix2 (0 : Fin 1) d) + b (ix2 (0 : Fin 1) d) := by
  pointwise [scaled]

theorem normed_apply (x : FVec Ideal S1024x1024 .f32) (g b : FVec Ideal S1x1024 .f32) (r d : Fin 1024) :
    (normed x g b (ix2 r d) : EReal) = rowNorm (fun k => x (ix2 r k)) (fun d => g (ix2 (0 : Fin 1) d)) (fun d => b (ix2 (0 : Fin 1) d)) d := by
  unfold normed rowNorm
  rw [scaled_apply, rowMean_apply, centred_apply]
  have h : (fun k => (mulf (centred x) (centred x) (ix2 r k) : EReal))
      = fun k => (x (ix2 r k) - mean (fun k => x (ix2 r k))) * (x (ix2 r k) - mean (fun k => x (ix2 r k))) :=
    funext fun k => congrArg₂ (· * · : EReal → EReal → EReal) (centred_apply x r k) (centred_apply x r k)
  rw [h]

/-- What the body leaves in its block, at a row and a channel. -/
theorem out_apply (x0 : Vec Ideal S1024x1024 .f32) (x1 x2 : Vec Ideal S1x1024 .f32) (r d : Fin 1024) :
    (out0_3 x0 x1 x2 (ix2 r d) : EReal)
      = rowNorm (fun k => x0 (ix2 r k)) (fun d => x1 (ix2 (0 : Fin 1) d)) (fun d => x2 (ix2 (0 : Fin 1) d)) d := by
  refine (congrFun (out_eq x0 x1 x2) _).trans ((normed_apply _ _ _ r d).trans ?_)
  exact congrArg (fun z => rowNorm z _ _ d) (funext fun k => cast_apply x0 r k)

end Cert.Kernel5Ideal.Entry

end
-- ==== Proof.EntryArray.lean ====
/- The output array of the layer norm of the input over the extended reals: every token's result, from the arguments. -/
module

public import proofs.«01_k».proof.Proof.Gen.Kernel5Ideal.Value
public import proofs.«01_k».proof.Proof.EntryPoint

@[expose] public section

set_option maxRecDepth 16384

noncomputable section

namespace Cert.Kernel5Ideal.Entry

open Idealize.ShloMosaic Idealize.ShloMosaic.TcCoe Idealize.SL.Sem Cert.Kernel5Ideal Cert.Kernel5Ideal.Gen Cert.MergeModel

/-- The tokens in one row. -/
def tokens (x : FVec Ideal S8x4096x1024 .f32) : FVec Ideal S32768x1024 .f32 := shapeCast S32768x1024 x shapeCasts_S8x4096x1024_S32768x1024

theorem tokens_apply (x : FVec Ideal S8x4096x1024 .f32) (l : Fin 32768) (k : Fin 1024) :
    (tokens x (ix2 l k) : EReal) = x (ix3 (⟨l.val / 4096, by omega⟩ : Fin 8) (⟨l.val % 4096, by omega⟩ : Fin 4096) k) := by
  pointwise [tokens]

theorem rowOf_apply (g : FVec Ideal S1024 .f32) (d : Fin 1024) :
    (shapeCast S1x1024 g shapeCasts_S1024_S1x1024 (ix2 (0 : Fin 1) d) : EReal) = g (ix1 d) := by
  pointwise

variable (m : (ℓ : Loc nD τ sig) → Buf (Elt Ideal) ℓ) (c : Dev nD)

theorem V_0 : V m c (Pipeline.arrRef spec0 0) = tokens (m ((c : Thread nD τ).loc main_arg0)) := by rfl
theorem V_1 : V m c (Pipeline.arrRef spec0 1) = shapeCast S1x1024 (m ((c : Thread nD τ).loc main_arg1) : FVec Ideal S1024 .f32) shapeCasts_S1024_S1x1024 := by rfl
theorem V_2 : V m c (Pipeline.arrRef spec0 2) = shapeCast S1x1024 (m ((c : Thread nD τ).loc main_arg2) : FVec Ideal S1024 .f32) shapeCasts_S1024_S1x1024 := by rfl

/-! Where the windows' blocks sit at a point. -/

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = 0 ∧ win0_2.index t (1 : Fin 2) = 0 := (by decide +kernel : ∀ t : Fin grid0.N, _)
theorem index3 : ∀ t : Fin cfg0.N, win0_3.index t (0 : Fin 2) = t.val ∧ win0_3.index t (1 : Fin 2) = 0 := (by decide +kernel : ∀ t : Fin grid0.N, _)

/-! The blocks, read off the arguments. -/

theorem blk0 (t : Fin cfg0.N) (r k : Fin 1024) (l : Fin 32768) (hl : l.val = t.val * 1024 + r.val) :
    (iblk m c 0 t (ix2 r k) : EReal) = tokens (m ((c : Thread nD τ).loc main_arg0)) (ix2 l k) := by
  refine Eq.trans (congrArg (V m c (Pipeline.arrRef spec0 0)) (funext fun a => Fin.ext ?_)) (congrFun (V_0 m c) (ix2 l k))
  match a with
  | ⟨0, _⟩ => show win0_0.index t (0 : Fin 2) * 1024 + 1 * r.val = l.val; rw [(index0 t).1]; omega
  | ⟨1, _⟩ => show win0_0.index t (1 : Fin 2) * 1024 + 1 * k.val = k.val; rw [(index0 t).2]; omega
theorem blk1 (t : Fin cfg0.N) : iblk m c 1 t = shapeCast S1x1024 (m ((c : Thread nD τ).loc main_arg1) : FVec Ideal S1024 .f32) shapeCasts_S1024_S1x1024 := by
  refine Eq.trans (funext fun y => congrArg (V m c (Pipeline.arrRef spec0 1)) (funext fun a => Fin.ext ?_)) (V_1 m c)
  match a with
  | ⟨0, _⟩ => show win0_1.index t (0 : Fin 2) * 1 + 1 * (y 0).val = (y 0).val; rw [(index1 t).1]; omega
  | ⟨1, _⟩ => show win0_1.index t (1 : Fin 2) * 1024 + 1 * (y 1).val = (y 1).val; rw [(index1 t).2]; omega
theorem blk2 (t : Fin cfg0.N) : iblk m c 2 t = shapeCast S1x1024 (m ((c : Thread nD τ).loc main_arg2) : FVec Ideal S1024 .f32) shapeCasts_S1024_S1x1024 := by
  refine Eq.trans (funext fun y => congrArg (V m c (Pipeline.arrRef spec0 2)) (funext fun a => Fin.ext ?_)) (V_2 m c)
  match a with
  | ⟨0, _⟩ => show win0_2.index t (0 : Fin 2) * 1 + 1 * (y 0).val = (y 0).val; rw [(index2 t).1]; omega
  | ⟨1, _⟩ => show win0_2.index t (1 : Fin 2) * 1024 + 1 * (y 1).val = (y 1).val; rw [(index2 t).2]; omega

/-- The output array. -/
def wanted (i : S32768x1024.Idx) : EReal :=
  rowNorm (fun k => tokens (m ((c : Thread nD τ).loc main_arg0)) (ix2 (i 0) k))
    (fun d => (m ((c : Thread nD τ).loc main_arg1) : FVec Ideal S1024 .f32) (ix1 d)) (fun d => (m ((c : Thread nD τ).loc main_arg2) : FVec Ideal S1024 .f32) (ix1 d)) (i 1)

/-- What a point leaves in its block. -/
theorem after_apply (t : Fin cfg0.N) (r d : Fin 1024) (l : Fin 32768) (hl : l.val = t.val * 1024 + r.val) :
    ((dats m 0 c).after 3 t (ix2 r d) : EReal) = wanted m c (ix2 l d) := by
  refine (congrFun (after0_3 m c t) (ix2 r d)).trans ((out_apply _ _ _ r d).trans ?_)
  have h0 := funext fun k => blk0 m c t r k l hl
  have h1 := funext fun d => (congrFun (blk1 m c t) _).trans (rowOf_apply (m ((c : Thread nD τ).loc main_arg1)) d)
  have h2 := funext fun d => (congrFun (blk2 m c t) _).trans (rowOf_apply (m ((c : Thread nD τ).loc main_arg2)) d)
  unfold wanted
  rw [h0, h1, h2]
  rfl

/-- Where a point's block sits in the output array. -/
theorem emb_3 (t : Fin cfg0.N) (y : S1024x1024.Idx) (l : Fin 32768) (hl : l.val = t.val * 1024 + (y 0).val) :
    (((cfg0.win 3).blk t).view.emb y : S32768x1024.Idx) = ix2 l (y 1) := by
  refine funext fun a => Fin.ext ?_
  match a with
  | ⟨0, _⟩ => show win0_3.index t (0 : Fin 2) * 1024 + 1 * (y 0).val = l.val; rw [(index3 t).1]; omega
  | ⟨1, _⟩ => show win0_3.index t (1 : Fin 2) * 1024 + 1 * (y 1).val = (y 1).val; rw [(index3 t).2]; omega

theorem block_eq (t : Fin cfg0.N) (y : S1024x1024.Idx) :
    ((dats m 0 c).after 3 t y : EReal) = wanted m c (((cfg0.win 3).blk t).view.emb y) := by
  have h0 : (y 0).val < 1024 := (y 0).isLt
  have ht : t.val < 32 := lt_of_lt_of_eq t.isLt N_0
  refine Eq.trans ?_ (congrArg (wanted m c) (emb_3 t y ⟨t.val * 1024 + (y 0).val, by omega⟩ rfl)).symm
  refine Eq.trans ?_ (after_apply m c t (y 0) (y 1) _ rfl)
  exact congrArg ((dats m 0 c).after 3 t) (eq_ix2 y)

theorem covered (i : S32768x1024.Idx) : ∃ t : Fin cfg0.N, ∃ y : S1024x1024.Idx, (((cfg0.win 3).blk t).view.emb y : S32768x1024.Idx) = i := by
  have hi : (i 0).val < 32768 := (i 0).isLt
  refine ⟨⟨(i 0).val / 1024, lt_of_lt_of_eq (by omega) N_0.symm⟩, ix2 (⟨(i 0).val % 1024, Nat.mod_lt _ (by omega)⟩ : Fin 1024) (i 1), ?_⟩
  refine (emb_3 _ _ (i 0) ?_).trans (eq_ix2 i).symm
  show (i 0).val = (i 0).val / 1024 * 1024 + (i 0).val % 1024
  omega

/-- The output array after the call. -/
theorem array_eq : (dats m 0 c).arrAt 3 cfg0.N = wanted m c := by
  refine (dats m 0 c).arrAt_eq_of_emb 3 _ (fun t _ y => block_eq m c t y) fun i => ?_
  obtain ⟨t, y, rfl⟩ := covered i
  exact ⟨t, flush0_3 t, View.emb_mem_set _ y⟩

end Cert.Kernel5Ideal.Entry

end
-- ==== Proof.EntryRef.lean ====
/- The reference of the layer norm of the input, read at a row and a channel. -/
module

public import proofs.«01_k».proof.Proof.Gen.Reference5Ideal.Run
public import proofs.«01_k».proof.Proof.MergeModel
public import Idealize.ShloMosaic.Lib.Pointwise

@[expose] public section

set_option maxRecDepth 16384

noncomputable section

namespace Cert.Reference5Ideal.EntryRef

open Idealize.ShloMosaic Idealize.ShloMosaic.TcCoe Idealize.SL.Sem Cert.Reference5Ideal Cert.Reference5Ideal.Gen Cert.MergeModel

/-- A number at every token. -/
def column (w : BitVec 32) : FVec Ideal S8x4096x1 .f32 := broadcastInDim S8x4096x1 ![] bcast_S_S8x4096x1 (constant S_ .f32 w)

/-- Each token's mean. -/
def rowMean (x : FVec Ideal S8x4096x1024 .f32) : FVec Ideal S8x4096x1 .f32 :=
  Host.divf (broadcastInDim S8x4096x1 ![0, 1] bcast_S8x4096_S8x4096x1_0_1
    (Host.reduceAdd x (constant S_ .f32 0x00000000#32) reducesTo_S8x4096x1024_S8x4096_d2 h_S_)) (column 0x44800000#32)

/-- Each token less its mean. -/
def centred (x : FVec Ideal S8x4096x1024 .f32) : FVec Ideal S8x4096x1024 .f32 :=
  subf x (broadcastInDim S8x4096x1024 ![0, 1, 2] bcast_S8x4096x1_S8x4096x1024_0_1_2 (rowMean x))

/-- Each token scaled, then the channels' weights and offsets applied. -/
def scaled (x : FVec Ideal S8x4096x1024 .f32) (v : FVec Ideal S8x4096x1 .f32) (g b : FVec Ideal S1024 .f32) : FVec Ideal S8x4096x1024 .f32 :=
  addf (mulf (mulf x (broadcastInDim S8x4096x1024 ![0, 1, 2] bcast_S8x4096x1_S8x4096x1024_0_1_2 (Host.rsqrt (addf v (column 0x3727C5AC#32)))))
      (broadcastInDim S8x4096x1024 ![0, 1, 2] bcast_S1x1x1024_S8x4096x1024_0_1_2 (broadcastInDim S1x1x1024 ![2] bcast_S1024_S1x1x1024_2 g)))
    (broadcastInDim S8x4096x1024 ![0, 1, 2] bcast_S1x1x1024_S8x4096x1024_0_1_2 (broadcastInDim S1x1x1024 ![2] bcast_S1024_S1x1x1024_2 b))

/-- The layer norm. -/
def normed (x : FVec Ideal S8x4096x1024 .f32) (g b : FVec Ideal S1024 .f32) : FVec Ideal S8x4096x1024 .f32 :=
  scaled (centred x) (rowMean (mulf (centred x) (centred x))) g b

/-- The whole reference. -/
def whole (x : FVec Ideal S8x4096x1024 .f32) (g b : FVec Ideal S1024 .f32) : FVec Ideal S32768x1024 .f32 :=
  shapeCast S32768x1024 (normed x g b) shapeCasts_S8x4096x1024_S32768x1024

theorem rowMean_apply (x : FVec Ideal S8x4096x1024 .f32) (i : Fin 8) (t : Fin 4096) :
    (rowMean x (ix3 i t (0 : Fin 1)) : EReal) = mean (fun k => x (ix3 i t k)) := by
  pointwise [rowMean, column]
  rfl

theorem centred_apply (x : FVec Ideal S8x4096x1024 .f32) (i : Fin 8) (t : Fin 4096) (d : Fin 1024) :
    (centred x (ix3 i t d) : EReal) = x (ix3 i t d) - mean (fun k => x (ix3 i t k)) := by
  pointwise [centred, rowMean, column]
  rfl

theorem scaled_apply (x : FVec Ideal S8x4096x1024 .f32) (v : FVec Ideal S8x4096x1 .f32) (g b : FVec Ideal S1024 .f32) (i : Fin 8) (t : Fin 4096) (d : Fin 1024) :
    (scaled x v g b (ix3 i t d) : EReal)
      = x (ix3 i t d) * Ideal.rsqrt (v (ix3 i t (0 : Fin 1)) + Ideal.ofBits .f32 925353388#32) * g (ix1 d) + b (ix1 d) := by
  pointwise [scaled, column]

theorem normed_apply (x : FVec Ideal S8x4096x1024 .f32) (g b : FVec Ideal S1024 .f32) (i : Fin 8) (t : Fin 4096) (d : Fin 1024) :
    (normed x g b (ix3 i t d) : EReal) = rowNorm (fun k => x (ix3 i t k)) (fun d => g (ix1 d)) (fun d => b (ix1 d)) d := by
  unfold normed rowNorm
  rw [scaled_apply, rowMean_apply, centred_apply]
  have h : (fun k => (mulf (centred x) (centred x) (ix3 i t k) : EReal))
      = fun k => (x (ix3 i t k) - mean (fun k => x (ix3 i t k))) * (x (ix3 i t k) - mean (fun k => x (ix3 i t k))) :=
    funext fun k => congrArg₂ (· * · : EReal → EReal → EReal) (centred_apply x i t k) (centred_apply x i t k)
  rw [h]

theorem flat_apply (x : FVec Ideal S8x4096x1024 .f32) (l : Fin 32768) (d : Fin 1024) :
    (shapeCast S32768x1024 x shapeCasts_S8x4096x1024_S32768x1024 (ix2 l d) : EReal)
      = x (ix3 (⟨l.val / 4096, by omega⟩ : Fin 8) (⟨l.val % 4096, by omega⟩ : Fin 4096) d) := by
  pointwise

/-- The reference's result at a row and a channel. -/
theorem whole_apply (x : FVec Ideal S8x4096x1024 .f32) (g b : FVec Ideal S1024 .f32) (l : Fin 32768) (d : Fin 1024) :
    (whole x g b (ix2 l d) : EReal)
      = rowNorm (fun k => x (ix3 (⟨l.val / 4096, by omega⟩ : Fin 8) (⟨l.val % 4096, by omega⟩ : Fin 4096) k)) (fun d => g (ix1 d)) (fun d => b (ix1 d)) d :=
  (flat_apply (normed x g b) l d).trans (normed_apply x g b _ _ d)

end Cert.Reference5Ideal.EntryRef

end
-- ==== Proof.EntryResult.lean ====
/- The layer norm of the input: the kernel's output array is the reference's result. -/
module

public import proofs.«01_k».proof.Proof.EntryArray
public import proofs.«01_k».proof.Proof.EntryRef

@[expose] public section

noncomputable section

namespace Cert.EntryResult

open Idealize.ShloMosaic Idealize.ShloMosaic.TcCoe Idealize.SL.Sem

/-- The kernel's array and the reference's result, from equal arguments. -/
theorem agree (m : (ℓ : Loc Cert.Kernel5Ideal.nD Cert.Kernel5Ideal.τ Cert.Kernel5Ideal.sig) → Buf (Elt Ideal) ℓ) (c : Dev Cert.Kernel5Ideal.nD) :
    (Cert.Kernel5Ideal.Gen.dats m 0 c).arrAt 3 Cert.Kernel5Ideal.cfg0.N
      = Cert.Reference5Ideal.EntryRef.whole (m ((c : Thread Cert.Kernel5Ideal.nD Cert.Kernel5Ideal.τ).loc Cert.Kernel5Ideal.main_arg0))
          (m ((c : Thread Cert.Kernel5Ideal.nD Cert.Kernel5Ideal.τ).loc Cert.Kernel5Ideal.main_arg1))
          (m ((c : Thread Cert.Kernel5Ideal.nD Cert.Kernel5Ideal.τ).loc Cert.Kernel5Ideal.main_arg2)) := by
  refine (Cert.Kernel5Ideal.Entry.array_eq m c).trans (funext fun i => ?_)
  refine Eq.trans ?_ (congrArg _ (eq_ix2 i).symm)
  refine Eq.trans ?_ (Cert.Reference5Ideal.EntryRef.whole_apply _ _ _ (i 0) (i 1)).symm
  exact congrArg (fun z => Cert.MergeModel.rowNorm z _ _ (i 1)) (funext fun k => Cert.Kernel5Ideal.Entry.tokens_apply _ (i 0) k)

end Cert.EntryResult

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.RefLoop
public import proofs.«01_k».proof.Proof.GlaResult
public import proofs.«01_k».proof.Proof.FfnFrames
public import proofs.«01_k».proof.Proof.FfnResult
public import proofs.«01_k».proof.Proof.Gen.Kernel3.Frame
public import proofs.«01_k».proof.Proof.MergeResult
public import proofs.«01_k».proof.Proof.Gen.Kernel4.Frame
public import proofs.«01_k».proof.Proof.GmlpResult
public import proofs.«01_k».proof.Proof.Gen.Kernel5.Frame
public import proofs.«01_k».proof.Proof.EntryResult
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem

/-- The attention's reference runs, leaves its arguments unchanged and every counter at zero. -/
theorem frameR : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run (F := Ideal) m g)

/-- The attention's kernel and its reference end with equal results. -/
theorem value : Cert.algebraic_KernelIdeal_ReferenceIdeal := by
  pair_intro
  · run_from Cert.KernelIdeal.Value.run m g
  · run_from Cert.ReferenceIdeal.RefLoop.run_iter m' g'
    obtain ⟨h0, h1, h2, h3, -⟩ := hagree c
    unfold Cert.ReferenceIdeal.RefLoop.initState
    rw [h0, h1, h2, h3]
    exact (Cert.GlaResult.agree m c).symm

/-- The experts' kernel and its reference end with equal results, for counts in range. -/
theorem value2 : Cert.algebraic_Kernel2Ideal_Reference2Ideal_pre_counts := by
  intro m g m' g' hpre hagree
  refine ⟨fun c => (Cert.Kernel2Ideal.Ffn.dats m (Cert.Kernel2Ideal.Ffn.ok_all m) 0 c).arrAt 4
    (Cert.Kernel2Ideal.Ffn.cfgM m (Cert.Kernel2Ideal.Ffn.ok_all m)).N, ?_, ?_⟩
  · exact (θ_run Cert.Kernel2Ideal.defs _ _).mono (fun _ h c => ⟨(h.1 c).2, (h.1 c).1⟩)
      (Cert.Kernel2Ideal.Ffn.run_main m g (Cert.Kernel2Ideal.Ffn.ok_all m))
  · refine (θ_run Cert.Reference2Ideal.defs _ _).mono (fun _ h c => ⟨(h c).1.trans ?_, (h c).2⟩)
      (Cert.Reference2Ideal.Value.run (F := Ideal) m' g')
    obtain ⟨h0, h1, h2, h3, h4⟩ := hagree c
    refine (Cert.Reference2Ideal.FfnRef.result_eq m' c).trans ?_
    rw [h0, h1, h2, h3, h4]
    exact (Cert.FfnResult.agree m hpre c).symm

/-- The merge's reference runs, leaves its arguments unchanged and every counter at zero. -/
theorem frameR3 : Cert.quiescent_Reference3Ideal := fun m g _ =>
  (θ_run Cert.Reference3Ideal.defs _ _).mono
    (fun r h => ⟨fun c => (h c).2, sem_eq_zero_of_no_sems (by decide) r.2⟩) (Cert.Reference3Ideal.Value.run (F := Ideal) m g)

/-- The merge's kernel and its reference end with equal results. -/
theorem value3 : Cert.algebraic_Kernel3Ideal_Reference3Ideal := by
  intro m g m' g' _ hagree
  refine ⟨fun c => (Cert.Kernel3Ideal.Gen.dats m 0 c).arrAt 14 Cert.Kernel3Ideal.cfg0.N, ?_, ?_⟩
  · exact (θ_run Cert.Kernel3Ideal.defs _ _).mono (fun _ h c => ⟨(h c).1, (h c).2.2.2⟩)
      (Cert.Kernel3Ideal.Value.run_blocks (F := Ideal) m g)
  · refine (θ_run Cert.Reference3Ideal.defs _ _).mono (fun _ h c => ⟨(h c).1.trans ?_, (h c).2⟩)
      (Cert.Reference3Ideal.Value.run (F := Ideal) m' g')
    obtain ⟨h0, h1, h2, h3, h4, h5, h6, h7, h8, h9, h10, -⟩ := hagree c
    refine (Cert.Reference3Ideal.MergeRef.result_eq m' c).trans ?_
    rw [h0, h1, h2, h3, h4, h5, h6, h7, h8, h9, h10]
    exact (Cert.MergeResult.agree m c).symm

/-- The spatial gating's reference runs, leaves its arguments unchanged and every counter at zero. -/
theorem frameR4 : Cert.quiescent_Reference4Ideal := fun m g _ =>
  (θ_run Cert.Reference4Ideal.defs _ _).mono
    (fun r h => ⟨fun c => (h c).2, sem_eq_zero_of_no_sems (by decide) r.2⟩) (Cert.Reference4Ideal.Value.run (F := Ideal) m g)

/-- The spatial gating's kernel and its reference end with equal results. -/
theorem value4 : Cert.algebraic_Kernel4Ideal_Reference4Ideal := by
  intro m g m' g' _ hagree
  refine ⟨fun c => (Cert.Kernel4Ideal.Gen.dats m 0 c).arrAt 6 Cert.Kernel4Ideal.cfg0.N, ?_, ?_⟩
  · exact Cert.Kernel4Ideal.Value.run_blocks (F := Ideal) m g
  · refine (θ_run Cert.Reference4Ideal.defs _ _).mono (fun _ h c => ⟨(h c).1.trans ?_, (h c).2⟩)
      (Cert.Reference4Ideal.Value.run (F := Ideal) m' g')
    obtain ⟨h0, h1, h2, h3, h4, h5⟩ := hagree c
    refine (Cert.Reference4Ideal.GmlpRef.result_eq m' c).trans ?_
    rw [h0, h1, h2, h3, h4, h5]
    exact (Cert.GmlpResult.agree m c).symm

/-- The entry norm's reference runs, leaves its arguments unchanged and every counter at zero. -/
theorem frameR5 : Cert.quiescent_Reference5Ideal := fun m g _ =>
  (θ_run Cert.Reference5Ideal.defs _ _).mono
    (fun r h => ⟨fun c => (h c).2, sem_eq_zero_of_no_sems (by decide) r.2⟩) (Cert.Reference5Ideal.Value.run (F := Ideal) m g)

/-- The entry norm's kernel and its reference end with equal results. -/
theorem value5 : Cert.algebraic_Kernel5Ideal_Reference5Ideal := by
  intro m g m' g' _ hagree
  refine ⟨fun c => (Cert.Kernel5Ideal.Gen.dats m 0 c).arrAt 3 Cert.Kernel5Ideal.cfg0.N, ?_, ?_⟩
  · exact Cert.Kernel5Ideal.Value.run_blocks (F := Ideal) m g
  · refine (θ_run Cert.Reference5Ideal.defs _ _).mono (fun _ h c => ⟨(h c).1.trans ?_, (h c).2⟩)
      (Cert.Reference5Ideal.Value.run (F := Ideal) m' g')
    obtain ⟨h0, h1, h2⟩ := hagree c
    rw [h0, h1, h2]
    exact (Cert.EntryResult.agree m c).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_counts.Gen.facts,
    fun m g _ => Cert.Kernel.Gen.frame m g, fun m g _ => Cert.KernelIdeal.Gen.frame m g, frameR,
    Cert.FfnFrames.frame_kernel, Cert.FfnFrames.frame_ideal, fun m g _ => Cert.FfnFrames.frame_ideal m g trivial,
    Cert.FfnFrames.frame_reference, fun m g _ => Cert.FfnFrames.frame_reference m g trivial,
    fun m g _ => Cert.Kernel3.Gen.frame m g, fun m g _ => Cert.Kernel3Ideal.Gen.frame m g, frameR3,
    fun m g _ => Cert.Kernel4.Gen.frame m g, fun m g _ => Cert.Kernel4Ideal.Gen.frame m g, frameR4,
    fun m g _ => Cert.Kernel5.Gen.frame m g, fun m g _ => Cert.Kernel5Ideal.Gen.frame m g, frameR5,
    trivial, value, trivial, value2, trivial, value3, trivial, value4, trivial, value5⟩

end Cert.Proof

end
